-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9_0)) (v1 : (c : Dev Cert.Kernel2Ideal.nD) → Buf (Elt Ideal) ((c.tc : Thread Cert.Kernel2Ideal.nD Cert.Kernel2Ideal.τ).loc Cert.Kernel2Ideal.main_v9_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9_0) = v0 c
          ∧ r.2.mem ((c.tc : Thread Cert.Kernel2Ideal.nD Cert.Kernel2Ideal.τ).loc Cert.Kernel2Ideal.main_v9_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v80) = v0 c
          ∧ r.2.mem ((c.tc : Thread Cert.Reference2Ideal.nD Cert.Reference2Ideal.τ).loc Cert.Reference2Ideal.main_v78_8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v58) = v0 c
          ∧ r.2.mem ((c.tc : Thread Cert.Reference5Ideal.nD Cert.Reference5Ideal.τ).loc Cert.Reference5Ideal.main_v59) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
-- ==== Pre_finite.lean ====
abbrev S8320x20992 : Shape := ⟨2, ![8320, 20992]⟩
abbrev S8320x128 : Shape := ⟨2, ![8320, 128]⟩
abbrev S1x4x6144 : Shape := ⟨3, ![1, 4, 6144]⟩
abbrev S1x16 : Shape := ⟨2, ![1, 16]⟩
abbrev S1x128 : Shape := ⟨2, ![1, 128]⟩
abbrev S_ : Shape := ⟨0, ![]⟩

class Facts : Prop where
  bcast_S_S8320x20992 : S_.BroadcastsInDim S8320x20992 (![] : Fin 0 → Fin S8320x20992.rank)
  reducesTo_S8320x20992_S_d0_1 : S8320x20992.ReducesTo [0, 1] S_
  h_S_ : 0 < S_.numel
  bcast_S_S8320x128 : S_.BroadcastsInDim S8320x128 (![] : Fin 0 → Fin S8320x128.rank)
  reducesTo_S8320x128_S_d0_1 : S8320x128.ReducesTo [0, 1] S_
  bcast_S_S1x4x6144 : S_.BroadcastsInDim S1x4x6144 (![] : Fin 0 → Fin S1x4x6144.rank)
  reducesTo_S1x4x6144_S_d0_1_2 : S1x4x6144.ReducesTo [0, 1, 2] S_
  bcast_S_S1x16 : S_.BroadcastsInDim S1x16 (![] : Fin 0 → Fin S1x16.rank)
  reducesTo_S1x16_S_d0_1 : S1x16.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x16 .f32) (main_arg5 : FVec F S1x128 .f32) (main_v13 : IVec S_ 1) (main_v16 : IVec S1x16 1) : IVec S_ 1 :=
  let main_c_5 : IVec S_ 1 := constantI S_ 1 1#1
  let main_v17 : IVec S_ 1 := (fun x v => Host.reduce IntOp.andi x v reducesTo_S1x16_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  main_v28

def fn {F : FTy → Type} [FloatOps F] (main_arg0 : FVec F S8320x20992 .f32) (main_arg1 : FVec F S8320x128 .f32) (main_arg2 : FVec F S1x4x6144 .f32) (main_arg3 : FVec F S1x16 .f32) (main_arg4 : FVec F S1x16 .f32) (main_arg5 : FVec F S1x128 .f32) : IVec S_ 1 :=
  let main_v0 : FVec F S8320x20992 .f32 := Host.absf main_arg0
  let main_cst : FVec F S_ .f32 := constant S_ .f32 0x7F800000#32
  let main_v1 : FVec F S8320x20992 .f32 := broadcastInDim S8320x20992 ![] bcast_S_S8320x20992 main_cst
  let main_v2 : IVec S8320x20992 1 := cmpf .olt main_v0 main_v1
  let main_c : IVec S_ 1 := constantI S_ 1 1#1
  let main_v3 : IVec S_ 1 := (fun x v => Host.reduce IntOp.andi x v reducesTo_S8320x20992_S_d0_1 h_S_) main_v2 main_c
  let main_v4 : FVec F S8320x128 .f32 := Host.absf main_arg1
  let main_cst_0 : FVec F S_ .f32 := constant S_ .f32 0x7F800000#32
  let main_v5 : FVec F S8320x128 .f32 := broadcastInDim S8320x128 ![] bcast_S_S8320x128 main_cst_0
  let main_v6 : IVec S8320x128 1 := cmpf .olt main_v4 main_v5
  let main_c_1 : IVec S_ 1 := constantI S_ 1 1#1
  let main_v7 : IVec S_ 1 := (fun x v => Host.reduce IntOp.andi x v reducesTo_S8320x128_S_d0_1 h_S_) main_v6 main_c_1
  let main_v8 : IVec S_ 1 := andi main_v3 main_v7
  let main_v9 : FVec F S1x4x6144 .f32 := Host.absf main_arg2
  let main_cst_2 : FVec F S_ .f32 := constant S_ .f32 0x7F800000#32
  let main_v10 : FVec F S1x4x6144 .f32 := broadcastInDim S1x4x6144 ![] bcast_S_S1x4x6144 main_cst_2
  let main_v11 : IVec S1x4x6144 1 := cmpf .olt main_v9 main_v10
  let main_c_3 : IVec S_ 1 := constantI S_ 1 1#1
  let main_v12 : IVec S_ 1 := (fun x v => Host.reduce IntOp.andi x v reducesTo_S1x4x6144_S_d0_1_2 h_S_) main_v11 main_c_3
  let main_v13 : IVec S_ 1 := andi main_v8 main_v12
  let main_v14 : FVec F S1x16 .f32 := Host.absf main_arg3
  let main_cst_4 : FVec F S_ .f32 := constant S_ .f32 0x7F800000#32
  let main_v15 : FVec F S1x16 .f32 := broadcastInDim S1x16 ![] bcast_S_S1x16 main_cst_4
  let main_v16 : IVec S1x16 1 := cmpf .olt main_v14 main_v15
  fn_part1 (F := F) main_arg4 main_arg5 main_v13 main_v16
-- ==== Kernel.lean ====
abbrev S8320x4096 : Shape := ⟨2, ![8320, 4096]⟩
abbrev S1x4096x21024 : Shape := ⟨3, ![1, 4096, 21024]⟩
abbrev S4096x21024 : Shape := ⟨2, ![4096, 21024]⟩
abbrev S21024x4096 : Shape := ⟨2, ![21024, 4096]⟩
abbrev S16 : Shape := ⟨1, ![16]⟩
abbrev S_ : Shape := ⟨0, ![]⟩
abbrev S8192 : Shape := ⟨1, ![8192]⟩
abbrev S128 : Shape := ⟨1, ![128]⟩
abbrev S8320 : Shape := ⟨1, ![8320]⟩
abbrev S8320x1 : Shape := ⟨2, ![8320, 1]⟩
abbrev S1x16 : Shape := ⟨2, ![1, 16]⟩
abbrev S8320x16 : Shape := ⟨2, ![8320, 16]⟩
abbrev S8320x96 : Shape := ⟨2, ![8320, 96]⟩
abbrev S8320x128 : Shape := ⟨2, ![8320, 128]⟩
abbrev S8320x20992 : Shape := ⟨2, ![8320, 20992]⟩
abbrev S2080x4096 : Shape := ⟨2, ![2080, 4096]⟩
abbrev S512x4096 : Shape := ⟨2, ![512, 4096]⟩
abbrev S2080x128 : Shape := ⟨2, ![2080, 128]⟩
abbrev S2080x512 : Shape := ⟨2, ![2080, 512]⟩
abbrev S416x4096 : Shape := ⟨2, ![416, 4096]⟩
abbrev S416x512 : Shape := ⟨2, ![416, 512]⟩
abbrev S416x128 : Shape := ⟨2, ![416, 128]⟩

abbrev nBuf : Space → Nat
  | .hbm => 39
  | .vmem => 10
  | .smem => 0
  | _ => 0

abbrev bufTy : (tb : Table) → Fin (tcTables nBuf tb) → BufTy
  | .hbm, ⟨0, _⟩ => ⟨S8320x4096, .bf16⟩
  | .hbm, ⟨1, _⟩ => ⟨S1x4096x21024, .f32⟩
  | .hbm, ⟨2, _⟩ => ⟨S4096x21024, .f32⟩
  | .hbm, ⟨3, _⟩ => ⟨S21024x4096, .f32⟩
  | .hbm, ⟨4, _⟩ => ⟨S21024x4096, .bf16⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S8192, .i32⟩
  | .hbm, ⟨20, _⟩ => ⟨S_, .i32⟩
  | .hbm, ⟨21, _⟩ => ⟨S128, .i32⟩
  | .hbm, ⟨22, _⟩ => ⟨S8320, .i32⟩
  | .hbm, ⟨23, _⟩ => ⟨S8320, .f32⟩
  | .hbm, ⟨24, _⟩ => ⟨S8320x1, .f32⟩
  | .hbm, ⟨25, _⟩ => ⟨S1x16, .f32⟩
  | .hbm, ⟨26, _⟩ => ⟨S8320x16, .f32⟩
  | .hbm, ⟨27, _⟩ => ⟨S8320x16, .f32⟩
  | .hbm, ⟨28, _⟩ => ⟨S8320x16, .f32⟩
  | .hbm, ⟨29, _⟩ => ⟨S8320x16, .f32⟩
  | .hbm, ⟨30, _⟩ => ⟨S8320x16, .f32⟩
  | .hbm, ⟨31, _⟩ => ⟨S_, .f32⟩
  | .hbm, ⟨32, _⟩ => ⟨S8320x96, .f32⟩
  | .hbm, ⟨33, _⟩ => ⟨S8320x128, .f32⟩
  | .hbm, ⟨34, _⟩ => ⟨S8320x16, .f32⟩
  | .hbm, ⟨35, _⟩ => ⟨S_, .f32⟩
  | .hbm, ⟨36, _⟩ => ⟨S8320x96, .f32⟩
  | .hbm, ⟨37, _⟩ => ⟨S8320x128, .f32⟩
  | .hbm, ⟨38, _⟩ => ⟨S8320x20992, .f32⟩
  | .local _ .vmem, ⟨0, _⟩ => ⟨S2080x4096, .bf16⟩
  | .local _ .vmem, ⟨1, _⟩ => ⟨S2080x4096, .bf16⟩
  | .local _ .vmem, ⟨2, _⟩ => ⟨S512x4096, .bf16⟩
  | .local _ .vmem, ⟨3, _⟩ => ⟨S512x4096, .bf16⟩
  | .local _ .vmem, ⟨4, _⟩ => ⟨S2080x128, .f32⟩
  | .local _ .vmem, ⟨5, _⟩ => ⟨S2080x128, .f32⟩
  | .local _ .vmem, ⟨6, _⟩ => ⟨S2080x128, .f32⟩
  | .local _ .vmem, ⟨7, _⟩ => ⟨S2080x128, .f32⟩
  | .local _ .vmem, ⟨8, _⟩ => ⟨S2080x512, .f32⟩
  | .local _ .vmem, ⟨9, _⟩ => ⟨S2080x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 41], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c25_i32 : BitVec 32 := 25#32
  let v1 : BitVec 1 := Scalar.cmpi .sge arg1 c25_i32
  let c32_i32 : BitVec 32 := 32#32
  let c0_i32 : BitVec 32 := 0#32
  let v2 : BitVec 32 := Scalar.select v1 c32_i32 c0_i32
  let v3 : BitVec 32 := Scalar.addi v0 v2
  v3
def k0_cond1 (i : grid0.Coords) : BitVec 1 :=
  let arg1 : BitVec 32 := BitVec.ofNat 32 (i 1).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c2_i32 : BitVec 32 := 2#32
  let v11 : BitVec 1 := Scalar.cmpi .ne v10 c2_i32
  let v12 : BitVec 1 := Scalar.andi v0 v11
  let v14 : BitVec 32 := Scalar.extui v12
  let c0_i32_3 : BitVec 32 := 0#32
  let v15 : BitVec 1 := Scalar.cmpi .ne v14 c0_i32_3
  v15

def k0_cond2 (i : grid0.Coords) : BitVec 1 :=
  let arg1 : BitVec 32 := BitVec.ofNat 32 (i 1).val
  let c25_i32 : BitVec 32 := 25#32
  let v13 : BitVec 1 := Scalar.cmpi .sge arg1 c25_i32
  let v16 : BitVec 32 := Scalar.extui v13
  let c0_i32_4 : BitVec 32 := 0#32
  let v17 : BitVec 1 := Scalar.cmpi .ne v16 c0_i32_4
  v17

def k0_cond3 (i : grid0.Coords) : BitVec 1 :=
  let arg1 : BitVec 32 := BitVec.ofNat 32 (i 1).val
  let c9_i32 : BitVec 32 := 9#32
  let v0 : BitVec 1 := Scalar.cmpi .slt arg1 c9_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi arg1 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c2_i32 : BitVec 32 := 2#32
  let v11 : BitVec 1 := Scalar.cmpi .ne v10 c2_i32
  let v12 : BitVec 1 := Scalar.andi v0 v11
  let c25_i32 : BitVec 32 := 25#32
  let v13 : BitVec 1 := Scalar.cmpi .sge arg1 c25_i32
  let v18 : BitVec 1 := Scalar.ori v12 v13
  let v_true : BitVec 1 := 1#1
  let v19 : BitVec 1 := Scalar.xori v18 v_true
  let v20 : BitVec 32 := Scalar.extui v19
  let c0_i32_5 : BitVec 32 := 0#32
  let v21 : BitVec 1 := Scalar.cmpi .ne v20 c0_i32_5
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c25_i32 : BitVec 32 := 25#32
  let v1 : BitVec 1 := Scalar.cmpi .sge arg1 c25_i32
  let c32_i32 : BitVec 32 := 32#32
  let c0_i32 : BitVec 32 := 0#32
  let v2 : BitVec 32 := Scalar.select v1 c32_i32 c0_i32
  let v3 : BitVec 32 := Scalar.addi v0 v2
  let v4 : BitVec 32 := v3
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2080x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8320x4096 : Shape := ⟨2, ![8320, 4096]⟩
abbrev S1x4096x21024 : Shape := ⟨3, ![1, 4096, 21024]⟩
abbrev S8192 : Shape := ⟨1, ![8192]⟩
abbrev S_ : Shape := ⟨0, ![]⟩
abbrev S128 : Shape := ⟨1, ![128]⟩
abbrev S8320 : Shape := ⟨1, ![8320]⟩
abbrev S4096x21024 : Shape := ⟨2, ![4096, 21024]⟩
abbrev S8320x21024 : Shape := ⟨2, ![8320, 21024]⟩
abbrev S8320x4608 : Shape := ⟨2, ![8320, 4608]⟩
abbrev S8320x3x3x4x128 : Shape := ⟨5, ![8320, 3, 3, 4, 128]⟩
abbrev S8320x3x1x4x128 : Shape := ⟨5, ![8320, 3, 1, 4, 128]⟩
abbrev S8320x3x4x128 : Shape := ⟨4, ![8320, 3, 4, 128]⟩
abbrev S16 : Shape := ⟨1, ![16]⟩
abbrev S8320x1 : Shape := ⟨2, ![8320, 1]⟩
abbrev S1x16 : Shape := ⟨2, ![1, 16]⟩
abbrev S8320x16 : Shape := ⟨2, ![8320, 16]⟩
abbrev S8320x1x1x16 : Shape := ⟨4, ![8320, 1, 1, 16]⟩
abbrev S8320x3x4x16 : Shape := ⟨4, ![8320, 3, 4, 16]⟩
abbrev S8320x3x4x96 : Shape := ⟨4, ![8320, 3, 4, 96]⟩
abbrev S8320x8192 : Shape := ⟨2, ![8320, 8192]⟩
abbrev S8320x20992 : Shape := ⟨2, ![8320, 20992]⟩

abbrev nBuf : Space → Nat
  | .hbm => 109
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x21024, .f32⟩
  | .hbm, ⟨2, _⟩ => ⟨S8192, .i32⟩
  | .hbm, ⟨3, _⟩ => ⟨S_, .i32⟩
  | .hbm, ⟨4, _⟩ => ⟨S128, .i32⟩
  | .hbm, ⟨5, _⟩ => ⟨S8320, .i32⟩
  | .hbm, ⟨6, _⟩ => ⟨S8320x4096, .f32⟩
  | .hbm, ⟨7, _⟩ => ⟨S4096x21024, .f32⟩
  | .hbm, ⟨8, _⟩ => ⟨S8320x21024, .f32⟩
  | .hbm, ⟨9, _⟩ => ⟨S8320x4608, .f32⟩
  | .hbm, ⟨10, _⟩ => ⟨S8320x3x3x4x128, .f32⟩
  | .hbm, ⟨11, _⟩ => ⟨S8320x3x1x4x128, .f32⟩
  | .hbm, ⟨12, _⟩ => ⟨S8320x3x4x128, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S8320, .f32⟩
  | .hbm, ⟨28, _⟩ => ⟨S8320x1, .f32⟩
  | .hbm, ⟨29, _⟩ => ⟨S1x16, .f32⟩
  | .hbm, ⟨30, _⟩ => ⟨S8320x16, .f32⟩
  | .hbm, ⟨31, _⟩ => ⟨S8320x16, .f32⟩
  | .hbm, ⟨32, _⟩ => ⟨S8320x16, .f32⟩
  | .hbm, ⟨33, _⟩ => ⟨S8320x16, .f32⟩
  | .hbm, ⟨34, _⟩ => ⟨S8320x1x1x16, .f32⟩
  | .hbm, ⟨35, _⟩ => ⟨S8320x16, .f32⟩
  | .hbm, ⟨36, _⟩ => ⟨S8320x1x1x16, .f32⟩
  | .hbm, ⟨37, _⟩ => ⟨S8320x3x4x16, .f32⟩
  | .hbm, ⟨38, _⟩ => ⟨S8320x3x4x16, .f32⟩
  | .hbm, ⟨39, _⟩ => ⟨S8320x3x4x16, .f32⟩
  | .hbm, ⟨40, _⟩ => ⟨S8320x3x4x16, .f32⟩
  | .hbm, ⟨41, _⟩ => ⟨S8320x3x4x16, .f32⟩
  | .hbm, ⟨42, _⟩ => ⟨S8320x3x4x16, .f32⟩
  | .hbm, ⟨43, _⟩ => ⟨S8320x3x4x16, .f32⟩
  | .hbm, ⟨44, _⟩ => ⟨S8320x3x4x16, .f32⟩
  | .hbm, ⟨45, _⟩ => ⟨S8320x3x4x16, .f32⟩
  | .hbm, ⟨46, _⟩ => ⟨S8320x3x4x16, .f32⟩
  | .hbm, ⟨47, _⟩ => ⟨S8320x3x4x16, .f32⟩
  | .hbm, ⟨48, _⟩ => ⟨S8320x3x4x16, .f32⟩
  | .hbm, ⟨49, _⟩ => ⟨S8320x3x4x96, .f32⟩
  | .hbm, ⟨50, _⟩ => ⟨S8320x3x4x128, .f32⟩
  | .hbm, ⟨51, _⟩ => ⟨S8320x3x1x4x128, .f32⟩
  | .hbm, ⟨52, _⟩ => ⟨S8320x3x4x128, .f32⟩
  | .hbm, ⟨53, _⟩ => ⟨S16, .f32⟩
  | .hbm, ⟨54, _⟩ => ⟨S_, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S8320, .f32⟩
  | .hbm, ⟨68, _⟩ => ⟨S8320x1, .f32⟩
  | .hbm, ⟨69, _⟩ => ⟨S1x16, .f32⟩
  | .hbm, ⟨70, _⟩ => ⟨S8320x16, .f32⟩
  | .hbm, ⟨71, _⟩ => ⟨S8320x16, .f32⟩
  | .hbm, ⟨72, _⟩ => ⟨S8320x16, .f32⟩
  | .hbm, ⟨73, _⟩ => ⟨S8320x16, .f32⟩
  | .hbm, ⟨74, _⟩ => ⟨S8320x1x1x16, .f32⟩
  | .hbm, ⟨75, _⟩ => ⟨S8320x16, .f32⟩
  | .hbm, ⟨76, _⟩ => ⟨S8320x1x1x16, .f32⟩
  | .hbm, ⟨77, _⟩ => ⟨S8320x3x4x16, .f32⟩
  | .hbm, ⟨78, _⟩ => ⟨S8320x3x4x16, .f32⟩
  | .hbm, ⟨79, _⟩ => ⟨S8320x3x4x16, .f32⟩
  | .hbm, ⟨80, _⟩ => ⟨S8320x3x4x16, .f32⟩
  | .hbm, ⟨81, _⟩ => ⟨S8320x3x4x16, .f32⟩
  | .hbm, ⟨82, _⟩ => ⟨S8320x3x4x16, .f32⟩
  | .hbm, ⟨83, _⟩ => ⟨S8320x3x4x16, .f32⟩
  | .hbm, ⟨84, _⟩ => ⟨S8320x3x4x16, .f32⟩
  | .hbm, ⟨85, _⟩ => ⟨S8320x3x4x16, .f32⟩
  | .hbm, ⟨86, _⟩ => ⟨S8320x3x4x16, .f32⟩
  | .hbm, ⟨87, _⟩ => ⟨S8320x3x4x16, .f32⟩
  | .hbm, ⟨88, _⟩ => ⟨S8320x3x4x16, .f32⟩
  | .hbm, ⟨89, _⟩ => ⟨S8320x3x4x96, .f32⟩
  | .hbm, ⟨90, _⟩ => ⟨S8320x3x4x128, .f32⟩
  | .hbm, ⟨91, _⟩ => ⟨S8320x3x1x4x128, .f32⟩
  | .hbm, ⟨92, _⟩ => ⟨S8320x3x4x128, .f32⟩
  | .hbm, ⟨93, _⟩ => ⟨S8320x3x1x4x128, .f32⟩
  | .hbm, ⟨94, _⟩ => ⟨S8320x3x1x4x128, .f32⟩
  | .hbm, ⟨95, _⟩ => ⟨S8320x3x1x4x128, .f32⟩
  | .hbm, ⟨96, _⟩ => ⟨S8320x3x3x4x128, .f32⟩
  | .hbm, ⟨97, _⟩ => ⟨S8320x4608, .f32⟩
  | .hbm, ⟨98, _⟩ => ⟨S8320x8192, .f32⟩
  | .hbm, ⟨99, _⟩ => ⟨S8320x8192, .f32⟩
  | .hbm, ⟨100, _⟩ => ⟨S8320x8192, .f32⟩
  | .hbm, ⟨101, _⟩ => ⟨S_, .f32⟩
  | .hbm, ⟨102, _⟩ => ⟨S8320x8192, .f32⟩
  | .hbm, ⟨103, _⟩ => ⟨S8320x8192, .f32⟩
  | .hbm, ⟨104, _⟩ => ⟨S_, .f32⟩
  | .hbm, ⟨105, _⟩ => ⟨S8320x8192, .f32⟩
  | .hbm, ⟨106, _⟩ => ⟨S8320x8192, .f32⟩
  | .hbm, ⟨107, _⟩ => ⟨S8320x8192, .f32⟩
  | .hbm, ⟨108, _⟩ => ⟨S8320x20992, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_cst_7 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]
-- ==== Kernel2.lean ====
abbrev S8320x20992 : Shape := ⟨2, ![8320, 20992]⟩
abbrev S8320x128 : Shape := ⟨2, ![8320, 128]⟩
abbrev S1x4x6144 : Shape := ⟨3, ![1, 4, 6144]⟩
abbrev S1x16 : Shape := ⟨2, ![1, 16]⟩
abbrev S1x128 : Shape := ⟨2, ![1, 128]⟩
abbrev S16 : Shape := ⟨1, ![16]⟩
abbrev S_ : Shape := ⟨0, ![]⟩
abbrev S128 : Shape := ⟨1, ![128]⟩
abbrev S128x128 : Shape := ⟨2, ![128, 128]⟩
abbrev S4x6144 : Shape := ⟨2, ![4, 6144]⟩
abbrev S8192x2048 : Shape := ⟨2, ![8192, 2048]⟩
abbrev S16x128x128 : Shape := ⟨3, ![16, 128, 128]⟩
abbrev S128x6144 : Shape := ⟨2, ![128, 6144]⟩
abbrev S128x2048 : Shape := ⟨2, ![128, 2048]⟩
abbrev S136x6144 : Shape := ⟨2, ![136, 6144]⟩
abbrev S8x6144 : Shape := ⟨2, ![8, 6144]⟩
abbrev S128x1 : Shape := ⟨2, ![128, 1]⟩
abbrev S256x128 : Shape := ⟨2, ![256, 128]⟩
abbrev S128x256 : Shape := ⟨2, ![128, 256]⟩
abbrev S1x128x128 : Shape := ⟨3, ![1, 128, 128]⟩

abbrev nBuf : Space → Nat
  | .hbm => 30
  | .vmem => 16
  | .smem => 0
  | _ => 0

abbrev bufTy : (tb : Table) → Fin (tcTables nBuf tb) → BufTy
  | .hbm, ⟨0, _⟩ => ⟨S8320x20992, .f32⟩
  | .hbm, ⟨1, _⟩ => ⟨S8320x128, .f32⟩
  | .hbm, ⟨2, _⟩ => ⟨S1x4x6144, .f32⟩
  | .hbm, ⟨3, _⟩ => ⟨S1x16, .f32⟩
  | .hbm, ⟨4, _⟩ => ⟨S1x16, .f32⟩
  | .hbm, ⟨5, _⟩ => ⟨S1x128, .f32⟩
  | .hbm, ⟨6, _⟩ => ⟨S16, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S128x128, .f32⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .f32⟩
  | .hbm, ⟨25, _⟩ => ⟨S128x128, .f32⟩
  | .hbm, ⟨26, _⟩ => ⟨S128x128, .f32⟩
  | .hbm, ⟨27, _⟩ => ⟨S4x6144, .f32⟩
  | .hbm, ⟨28, _⟩ => ⟨S8192x2048, .bf16⟩
  | .hbm, ⟨29, _⟩ => ⟨S16x128x128, .f32⟩
  | .local _ .vmem, ⟨0, _⟩ => ⟨S128x6144, .f32⟩
  | .local _ .vmem, ⟨1, _⟩ => ⟨S128x6144, .f32⟩
  | .local _ .vmem, ⟨2, _⟩ => ⟨S128x2048, .f32⟩
  | .local _ .vmem, ⟨3, _⟩ => ⟨S128x2048, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S4x6144, .f32⟩
  | .local _ .vmem, ⟨10, _⟩ => ⟨S1x128, .f32⟩
  | .local _ .vmem, ⟨11, _⟩ => ⟨S128x2048, .bf16⟩
  | .local _ .vmem, ⟨12, _⟩ => ⟨S128x2048, .bf16⟩
  | .local _ .vmem, ⟨13, _⟩ => ⟨S16x128x128, .f32⟩
  | .local _ .vmem, ⟨14, _⟩ => ⟨S16x128x128, .f32⟩
  | .local _ .vmem, ⟨15, _⟩ => ⟨S136x6144, .f32⟩
  | _, _ => ⟨S8320x20992, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_call2_v0 : Ref sig .tc := ⟨.hbm, 18, rfl⟩
abbrev main_call2_c : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_call2_cst : Ref sig .tc := ⟨.hbm, 24, rfl⟩
abbrev main_call2_v5 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![64], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
def k0_mult2 (i : grid0.Coords) : BitVec 32 :=
  let arg0 : BitVec 32 := BitVec.ofNat 32 (i 0).val
  let c128_i32 : BitVec 32 := 128#32
  let v0 : BitVec 32 := Scalar.muli arg0 c128_i32
  v0
def k0_cond2 (i : grid0.Coords) : BitVec 1 :=
  let arg0 : BitVec 32 := BitVec.ofNat 32 (i 0).val
  let c63_i32 : BitVec 32 := 63#32
  let v3576 : BitVec 1 := Scalar.cmpi .eq arg0 c63_i32
  let v3577 : BitVec 32 := Scalar.extui v3576
  let c0_i32_1426 : BitVec 32 := 0#32
  let v3578 : BitVec 1 := Scalar.cmpi .ne v3577 c0_i32_1426
  v3578

def cc0_transform_0 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c4608_i32 : BitVec 32 := 4608#32
  let c0_i32 : BitVec 32 := 0#32
  ![v1.toNat, c4608_i32.toNat]

def cc0_transform_1 (i : grid0.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let c10752_i32 : BitVec 32 := 10752#32
  let c0_i32 : BitVec 32 := 0#32
  ![v1.toNat, c10752_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S16x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S8320x20992 : Shape := ⟨2, ![8320, 20992]⟩
abbrev S8320x128 : Shape := ⟨2, ![8320, 128]⟩
abbrev S1x4x6144 : Shape := ⟨3, ![1, 4, 6144]⟩
abbrev S1x16 : Shape := ⟨2, ![1, 16]⟩
abbrev S1x128 : Shape := ⟨2, ![1, 128]⟩
abbrev S_ : Shape := ⟨0, ![]⟩
abbrev S3x6144 : Shape := ⟨2, ![3, 6144]⟩
abbrev S16x128x128 : Shape := ⟨3, ![16, 128, 128]⟩
abbrev S8192x6144 : Shape := ⟨2, ![8192, 6144]⟩
abbrev S4x6144 : Shape := ⟨2, ![4, 6144]⟩
abbrev S8195x6144 : Shape := ⟨2, ![8195, 6144]⟩
abbrev S1x6144 : Shape := ⟨2, ![1, 6144]⟩
abbrev S6144 : Shape := ⟨1, ![6144]⟩
abbrev S8192x2048 : Shape := ⟨2, ![8192, 2048]⟩
abbrev S8192x16x128 : Shape := ⟨3, ![8192, 16, 128]⟩
abbrev S8192x16 : Shape := ⟨2, ![8192, 16]⟩
abbrev S8192x16x1 : Shape := ⟨3, ![8192, 16, 1]⟩
abbrev S16 : Shape := ⟨1, ![16]⟩
abbrev S128 : Shape := ⟨1, ![128]⟩
abbrev S1x16x128 : Shape := ⟨3, ![1, 16, 128]⟩
abbrev S16x128 : Shape := ⟨2, ![16, 128]⟩
abbrev S16x1x1 : Shape := ⟨3, ![16, 1, 1]⟩
abbrev S16x1 : Shape := ⟨2, ![16, 1]⟩
abbrev S16x128x1 : Shape := ⟨3, ![16, 128, 1]⟩
abbrev S16x1x128 : Shape := ⟨3, ![16, 1, 128]⟩

abbrev nBuf : Space → Nat
  | .hbm => 202
  | .vmem => 0
  | .smem => 0
  | _ => 0

abbrev hbmTy0_0 (i : Nat) : BufTy := match i % 128 with
  | 0 => ⟨S8320x20992, .f32⟩
  | 1 => ⟨S8320x128, .f32⟩
  | 2 => ⟨S1x4x6144, .f32⟩
  | 3 => ⟨S1x16, .f32⟩
  | 4 => ⟨S1x16, .f32⟩
  | 5 => ⟨S1x128, .f32⟩
  | 6 => ⟨S_, .f32⟩
  | 7 => ⟨S3x6144, .f32⟩
  | 8 => ⟨S_, .f32⟩
  | 9 => ⟨S16x128x128, .f32⟩
  | 10 => ⟨S8192x6144, .f32⟩
  | 11 => ⟨S4x6144, .f32⟩
  | 12 => ⟨S8195x6144, .f32⟩
  | 13 => ⟨S8192x6144, .f32⟩
  | 14 => ⟨S1x6144, .f32⟩
  | 15 => ⟨S6144, .f32⟩
  | 16 => ⟨S1x6144, .f32⟩
  | 17 => ⟨S8192x6144, .f32⟩
  | 18 => ⟨S8192x6144, .f32⟩
  | 19 => ⟨S8192x6144, .f32⟩
  | 20 => ⟨S1x6144, .f32⟩
  | 21 => ⟨S6144, .f32⟩
  | 22 => ⟨S1x6144, .f32⟩
  | 23 => ⟨S8192x6144, .f32⟩
  | 24 => ⟨S8192x6144, .f32⟩
  | 25 => ⟨S8192x6144, .f32⟩
  | 26 => ⟨S8192x6144, .f32⟩
  | 27 => ⟨S1x6144, .f32⟩
  | 28 => ⟨S6144, .f32⟩
  | 29 => ⟨S1x6144, .f32⟩
  | 30 => ⟨S8192x6144, .f32⟩
  | 31 => ⟨S8192x6144, .f32⟩
  | 32 => ⟨S8192x6144, .f32⟩
  | 33 => ⟨S8192x6144, .f32⟩
  | 34 => ⟨S1x6144, .f32⟩
  | 35 => ⟨S6144, .f32⟩
  | 36 => ⟨S1x6144, .f32⟩
  | 37 => ⟨S8192x6144, .f32⟩
  | 38 => ⟨S8192x6144, .f32⟩
  | 39 => ⟨S8192x6144, .f32⟩
  | 40 => ⟨S8192x6144, .f32⟩
  | 41 => ⟨S8192x6144, .f32⟩
  | 42 => ⟨S_, .f32⟩
  | 43 => ⟨S8192x6144, .f32⟩
  | 44 => ⟨S8192x6144, .f32⟩
  | 45 => ⟨S_, .f32⟩
  | 46 => ⟨S8192x6144, .f32⟩
  | 47 => ⟨S8192x6144, .f32⟩
  | 48 => ⟨S8192x6144, .f32⟩
  | 49 => ⟨S8192x2048, .f32⟩
  | 50 => ⟨S8192x16x128, .f32⟩
  | 51 => ⟨S8192x16x128, .f32⟩
  | 52 => ⟨S_, .f32⟩
  | 53 => ⟨S8192x16, .f32⟩
  | 54 => ⟨S8192x16x1, .f32⟩
  | 55 => ⟨S_, .f32⟩
  | 56 => ⟨S8192x16x1, .f32⟩
  | 57 => ⟨S8192x16x1, .f32⟩
  | 58 => ⟨S8192x16x1, .f32⟩
  | 59 => ⟨S8192x16x128, .f32⟩
  | 60 => ⟨S8192x16x128, .f32⟩
  | 61 => ⟨S8192x2048, .f32⟩
  | 62 => ⟨S8192x16x128, .f32⟩
  | 63 => ⟨S8192x16x128, .f32⟩
  | 64 => ⟨S_, .f32⟩
  | 65 => ⟨S8192x16, .f32⟩
  | 66 => ⟨S8192x16x1, .f32⟩
  | 67 => ⟨S_, .f32⟩
  | 68 => ⟨S8192x16x1, .f32⟩
  | 69 => ⟨S8192x16x1, .f32⟩
  | 70 => ⟨S8192x16x1, .f32⟩
  | 71 => ⟨S8192x16x128, .f32⟩
  | 72 => ⟨S8192x16x128, .f32⟩
  | 73 => ⟨S8192x2048, .f32⟩
  | 74 => ⟨S8192x16x128, .f32⟩
  | 75 => ⟨S8192x2048, .f32⟩
  | 76 => ⟨S8192x16x128, .f32⟩
  | 77 => ⟨S8192x16, .f32⟩
  | 78 => ⟨S8192x16, .f32⟩
  | 79 => ⟨S8192x16, .f32⟩
  | 80 => ⟨S_, .f32⟩
  | 81 => ⟨S8192x16, .f32⟩
  | 82 => ⟨S8192x16, .f32⟩
  | 83 => ⟨S_, .f32⟩
  | 84 => ⟨S8192x16, .f32⟩
  | 85 => ⟨S8192x16, .f32⟩
  | 86 => ⟨S16, .f32⟩
  | 87 => ⟨S16, .f32⟩
  | 88 => ⟨S16, .f32⟩
  | 89 => ⟨S8192x16, .f32⟩
  | 90 => ⟨S16, .f32⟩
  | 91 => ⟨S1x16, .f32⟩
  | 92 => ⟨S8192x16, .f32⟩
  | 93 => ⟨S8192x16, .f32⟩
  | 94 => ⟨S_, .f32⟩
  | 95 => ⟨S8192x16, .f32⟩
  | 96 => ⟨S8192x16, .f32⟩
  | 97 => ⟨S8192x16, .f32⟩
  | 98 => ⟨S8192x16, .f32⟩
  | 99 => ⟨S8192x16, .i1⟩
  | 100 => ⟨S8192x16, .f32⟩
  | 101 => ⟨S8192x16, .f32⟩
  | 102 => ⟨S8192x16, .f32⟩
  | 103 => ⟨S8192x16, .f32⟩
  | 104 => ⟨S8192x16, .f32⟩
  | 105 => ⟨S8192x16, .f32⟩
  | 106 => ⟨S8192x16, .f32⟩
  | 107 => ⟨S8192x16, .f32⟩
  | 108 => ⟨S1x16, .f32⟩
  | 109 => ⟨S8192x16, .f32⟩
  | 110 => ⟨S8192x16, .f32⟩
  | 111 => ⟨S128, .f32⟩
  | 112 => ⟨S_, .f32⟩
  | 113 => ⟨S8192x16x128, .f32⟩
  | 114 => ⟨S_, .i32⟩
  | 115 => ⟨S8192x16x128, .f32⟩
  | 116 => ⟨S8192x16x128, .f32⟩
  | 117 => ⟨S8192x16x128, .f32⟩
  | 118 => ⟨S8192x16, .f32⟩
  | 119 => ⟨S8192x16, .f32⟩
  | 120 => ⟨S8192x16x128, .f32⟩
  | 121 => ⟨S128, .f32⟩
  | 122 => ⟨S_, .i32⟩
  | 123 => ⟨S16x128x128, .f32⟩
  | 124 => ⟨S8192x16x128, .f32⟩
  | 125 => ⟨S_, .i32⟩
  | 126 => ⟨S_, .i1⟩
  | 127 => ⟨S_, .i32⟩
  | _ => ⟨S8320x20992, .f32⟩

abbrev hbmTy0_1 (i : Nat) : BufTy := match i % 128 with
  | 0 => ⟨S_, .i32⟩
  | 1 => ⟨S1x16x128, .f32⟩
  | 2 => ⟨S16x128, .f32⟩
  | 3 => ⟨S_, .i32⟩
  | 4 => ⟨S_, .i32⟩
  | 5 => ⟨S1x16x128, .f32⟩
  | 6 => ⟨S16x128, .f32⟩
  | 7 => ⟨S_, .i32⟩
  | 8 => ⟨S_, .i32⟩
  | 9 => ⟨S1x16x128, .f32⟩
  | 10 => ⟨S16x128, .f32⟩
  | 11 => ⟨S_, .i32⟩
  | 12 => ⟨S1x16, .f32⟩
  | 13 => ⟨S16, .f32⟩
  | 14 => ⟨S_, .i32⟩
  | 15 => ⟨S1x16, .f32⟩
  | 16 => ⟨S16, .f32⟩
  | 17 => ⟨S_, .i32⟩
  | 18 => ⟨S_, .i32⟩
  | 19 => ⟨S1x16x128, .f32⟩
  | 20 => ⟨S16x128, .f32⟩
  | 21 => ⟨S16, .f32⟩
  | 22 => ⟨S16x1x1, .f32⟩
  | 23 => ⟨S16x128x128, .f32⟩
  | 24 => ⟨S16x128x128, .f32⟩
  | 25 => ⟨S16x1, .f32⟩
  | 26 => ⟨S16x128, .f32⟩
  | 27 => ⟨S16x128, .f32⟩
  | 28 => ⟨S16x128, .f32⟩
  | 29 => ⟨S16x128, .f32⟩
  | 30 => ⟨S16x128x1, .f32⟩
  | 31 => ⟨S16x1x128, .f32⟩
  | 32 => ⟨S16x128x128, .f32⟩
  | 33 => ⟨S16x128x128, .f32⟩
  | 34 => ⟨S16x128x128, .f32⟩
  | 35 => ⟨S16x128x128, .f32⟩
  | 36 => ⟨S_, .f32⟩
  | 37 => ⟨S16x128, .f32⟩
  | 38 => ⟨S16x128, .f32⟩
  | 39 => ⟨S16x128, .f32⟩
  | 40 => ⟨S16x128, .f32⟩
  | 41 => ⟨S_, .f32⟩
  | 42 => ⟨S16, .f32⟩
  | 43 => ⟨S16x1, .f32⟩
  | 44 => ⟨S_, .f32⟩
  | 45 => ⟨S16x1, .f32⟩
  | 46 => ⟨S16x1, .f32⟩
  | 47 => ⟨S_, .f32⟩
  | 48 => ⟨S16x1, .f32⟩
  | 49 => ⟨S16x1, .f32⟩
  | 50 => ⟨S16x1, .f32⟩
  | 51 => ⟨S16x128, .f32⟩
  | 52 => ⟨S16x128, .f32⟩
  | 53 => ⟨S1x128, .f32⟩
  | 54 => ⟨S16x128, .f32⟩
  | 55 => ⟨S16x128, .f32⟩
  | 56 => ⟨S16x128, .f32⟩
  | 57 => ⟨S16x128, .f32⟩
  | 58 => ⟨S_, .f32⟩
  | 59 => ⟨S16x128, .f32⟩
  | 60 => ⟨S16x128, .f32⟩
  | 61 => ⟨S_, .f32⟩
  | 62 => ⟨S16x128, .f32⟩
  | 63 => ⟨S16x128, .f32⟩
  | 64 => ⟨S16x128, .f32⟩
  | 65 => ⟨S16x128, .f32⟩
  | 66 => ⟨S1x16x128, .f32⟩
  | 67 => ⟨S_, .i32⟩
  | 68 => ⟨S_, .i32⟩
  | 69 => ⟨S8192x16x128, .f32⟩
  | 70 => ⟨S_, .i32⟩
  | 71 => ⟨S_, .i32⟩
  | 72 => ⟨S8192x16x128, .bf16⟩
  | 73 => ⟨S8192x2048, .bf16⟩
  | _ => ⟨S8320x20992, .f32⟩

abbrev hbmTy (i : Nat) : BufTy := match i / 128 with
  | 0 => hbmTy0_0 i
  | 1 => hbmTy0_1 i
  | _ => ⟨S8320x20992, .f32⟩

abbrev bufTy : (tb : Table) → Fin (tcTables nBuf tb) → BufTy
  | .hbm, ⟨i, _⟩ => hbmTy i
  | _, _ => ⟨S8320x20992, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_5 : Ref sig .tc := ⟨.hbm, 80, rfl⟩
abbrev main_v60 : Ref sig .tc := ⟨.hbm, 81, rfl⟩
abbrev main_v61 : Ref sig .tc := ⟨.hbm, 82, rfl⟩
abbrev main_cst_6 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_call1_cst : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_v5 : Ref sig .tc := ⟨.hbm, 100, rfl⟩
abbrev main_call1_v6 : Ref sig .tc := ⟨.hbm, 101, rfl⟩
abbrev main_call1_v7 : Ref sig .tc := ⟨.hbm, 102, rfl⟩
abbrev main_call1_v8 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_7 : Ref sig .tc := ⟨.hbm, 112, rfl⟩
abbrev main_v77 : Ref sig .tc := ⟨.hbm, 113, rfl⟩
abbrev main_c : Ref sig .tc := ⟨.hbm, 114, rfl⟩
abbrev main_v78_0 : Ref sig .tc := ⟨.hbm, 115, rfl⟩
abbrev main_v78_1 : Ref sig .tc := ⟨.hbm, 116, rfl⟩
abbrev main_v78_2 : Ref sig .tc := ⟨.hbm, 117, rfl⟩
abbrev main_v78_3 : Ref sig .tc := ⟨.hbm, 118, rfl⟩
abbrev main_v78_4 : Ref sig .tc := ⟨.hbm, 119, rfl⟩
abbrev main_v78_5 : Ref sig .tc := ⟨.hbm, 120, rfl⟩
abbrev main_v78_6 : Ref sig .tc := ⟨.hbm, 121, rfl⟩
abbrev main_v78_7 : Ref sig .tc := ⟨.hbm, 122, rfl⟩
abbrev main_v78_8 : Ref sig .tc := ⟨.hbm, 123, rfl⟩
abbrev main_v78_9 : Ref sig .tc := ⟨.hbm, 124, rfl⟩
abbrev main_while0c_c_17 : Ref sig .tc := ⟨.hbm, 125, rfl⟩
abbrev main_while0c_v81 : Ref sig .tc := ⟨.hbm, 126, rfl⟩
abbrev main_while0b_call2_c : Ref sig .tc := ⟨.hbm, 127, rfl⟩
abbrev main_while0b_call2_c_0 : Ref sig .tc := ⟨.hbm, 128, rfl⟩
abbrev main_while0b_call2_v0 : Ref sig .tc := ⟨.hbm, 129, rfl⟩
abbrev main_while0b_v81 : Ref sig .tc := ⟨.hbm, 130, rfl⟩
abbrev main_while0b_call3_c : Ref sig .tc := ⟨.hbm, 131, rfl⟩
abbrev main_while0b_call3_c_0 : Ref sig .tc := ⟨.hbm, 132, rfl⟩
abbrev main_while0b_call3_v0 : Ref sig .tc := ⟨.hbm, 133, rfl⟩
abbrev main_while0b_v82 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_v0 : Ref sig .tc := ⟨.hbm, 137, rfl⟩
abbrev main_while0b_v83 : Ref sig .tc := ⟨.hbm, 138, rfl⟩
abbrev main_while0b_call5_c : Ref sig .tc := ⟨.hbm, 139, rfl⟩
abbrev main_while0b_call5_v0 : Ref sig .tc := ⟨.hbm, 140, rfl⟩
abbrev main_while0b_v84 : Ref sig .tc := ⟨.hbm, 141, rfl⟩
abbrev main_while0b_call6_c : Ref sig .tc := ⟨.hbm, 142, rfl⟩
abbrev main_while0b_call6_v0 : Ref sig .tc := ⟨.hbm, 143, rfl⟩
abbrev main_while0b_v85 : Ref sig .tc := ⟨.hbm, 144, rfl⟩
abbrev main_while0b_call7_c : Ref sig .tc := ⟨.hbm, 145, rfl⟩
abbrev main_while0b_call7_c_0 : Ref sig .tc := ⟨.hbm, 146, rfl⟩
abbrev main_while0b_call7_v0 : Ref sig .tc := ⟨.hbm, 147, rfl⟩
abbrev main_while0b_v86 : Ref sig .tc := ⟨.hbm, 148, rfl⟩
abbrev main_while0b_v87 : Ref sig .tc := ⟨.hbm, 149, rfl⟩
abbrev main_while0b_v88 : Ref sig .tc := ⟨.hbm, 150, rfl⟩
abbrev main_while0b_v89 : Ref sig .tc := ⟨.hbm, 151, rfl⟩
abbrev main_while0b_v90 : Ref sig .tc := ⟨.hbm, 152, rfl⟩
abbrev main_while0b_v91 : Ref sig .tc := ⟨.hbm, 153, rfl⟩
abbrev main_while0b_v92 : Ref sig .tc := ⟨.hbm, 154, rfl⟩
abbrev main_while0b_v93 : Ref sig .tc := ⟨.hbm, 155, rfl⟩
abbrev main_while0b_v94 : Ref sig .tc := ⟨.hbm, 156, rfl⟩
abbrev main_while0b_v95 : Ref sig .tc := ⟨.hbm, 157, rfl⟩
abbrev main_while0b_v96 : Ref sig .tc := ⟨.hbm, 158, rfl⟩
abbrev main_while0b_v97 : Ref sig .tc := ⟨.hbm, 159, rfl⟩
abbrev main_while0b_v98 : Ref sig .tc := ⟨.hbm, 160, rfl⟩
abbrev main_while0b_v99 : Ref sig .tc := ⟨.hbm, 161, rfl⟩
abbrev main_while0b_v100 : Ref sig .tc := ⟨.hbm, 162, rfl⟩
abbrev main_while0b_v101 : Ref sig .tc := ⟨.hbm, 163, rfl⟩
abbrev main_while0b_cst_17 : Ref sig .tc := ⟨.hbm, 164, rfl⟩
abbrev main_while0b_v102 : Ref sig .tc := ⟨.hbm, 165, rfl⟩
abbrev main_while0b_v103 : Ref sig .tc := ⟨.hbm, 166, rfl⟩
abbrev main_while0b_v104 : Ref sig .tc := ⟨.hbm, 167, rfl⟩
abbrev main_while0b_v105 : Ref sig .tc := ⟨.hbm, 168, rfl⟩
abbrev main_while0b_cst_18 : Ref sig .tc := ⟨.hbm, 169, rfl⟩
abbrev main_while0b_v106 : Ref sig .tc := ⟨.hbm, 170, rfl⟩
abbrev main_while0b_v107 : Ref sig .tc := ⟨.hbm, 171, rfl⟩
abbrev main_while0b_cst_19 : Ref sig .tc := ⟨.hbm, 172, rfl⟩
abbrev main_while0b_v108 : Ref sig .tc := ⟨.hbm, 173, rfl⟩
abbrev main_while0b_v109 : Ref sig .tc := ⟨.hbm, 174, rfl⟩
abbrev main_while0b_cst_20 : Ref sig .tc := ⟨.hbm, 175, rfl⟩
abbrev main_while0b_v110 : Ref sig .tc := ⟨.hbm, 176, rfl⟩
abbrev main_while0b_v111 : Ref sig .tc := ⟨.hbm, 177, rfl⟩
abbrev main_while0b_v112 : Ref sig .tc := ⟨.hbm, 178, rfl⟩
abbrev main_while0b_v113 : Ref sig .tc := ⟨.hbm, 179, rfl⟩
abbrev main_while0b_v114 : Ref sig .tc := ⟨.hbm, 180, rfl⟩
abbrev main_while0b_v115 : Ref sig .tc := ⟨.hbm, 181, rfl⟩
abbrev main_while0b_v116 : Ref sig .tc := ⟨.hbm, 182, rfl⟩
abbrev main_while0b_v117 : Ref sig .tc := ⟨.hbm, 183, rfl⟩
abbrev main_while0b_call8_v0 : Ref sig .tc := ⟨.hbm, 184, rfl⟩
abbrev main_while0b_call8_v1 : Ref sig .tc := ⟨.hbm, 185, rfl⟩
abbrev main_while0b_call8_cst : Ref sig .tc := ⟨.hbm, 186, rfl⟩
abbrev main_while0b_call8_v2 : Ref sig .tc := ⟨.hbm, 187, rfl⟩
abbrev main_while0b_call8_v3 : Ref sig .tc := ⟨.hbm, 188, rfl⟩
abbrev main_while0b_call8_cst_0 : Ref sig .tc := ⟨.hbm, 189, rfl⟩
abbrev main_while0b_call8_v4 : Ref sig .tc := ⟨.hbm, 190, rfl⟩
abbrev main_while0b_call8_v5 : Ref sig .tc := ⟨.hbm, 191, rfl⟩
abbrev main_while0b_v118 : Ref sig .tc := ⟨.hbm, 192, rfl⟩
abbrev main_while0b_v119 : Ref sig .tc := ⟨.hbm, 193, rfl⟩
abbrev main_while0b_call9_v0 : Ref sig .tc := ⟨.hbm, 194, rfl⟩
abbrev main_while0b_call9_c : Ref sig .tc := ⟨.hbm, 195, rfl⟩
abbrev main_while0b_call9_c_0 : Ref sig .tc := ⟨.hbm, 196, rfl⟩
abbrev main_while0b_v120 : Ref sig .tc := ⟨.hbm, 197, rfl⟩
abbrev main_while0b_c_21 : Ref sig .tc := ⟨.hbm, 198, rfl⟩
abbrev main_while0b_v121 : Ref sig .tc := ⟨.hbm, 199, rfl⟩
abbrev main_v79 : Ref sig .tc := ⟨.hbm, 200, rfl⟩
abbrev main_v80 : Ref sig .tc := ⟨.hbm, 201, rfl⟩

abbrev nD : Nat := 1
abbrev τ : Topo := Topo.v7x

variable {F : FTy → Type} [FloatOps F]

abbrev main_while0_count : Scf.Loop 32 := ⟨0#32, 8192#32, 1#32⟩
-- ==== Kernel3.lean ====
abbrev S8320x11008 : Shape := ⟨2, ![8320, 11008]⟩
abbrev S1x11008x4096 : Shape := ⟨3, ![1, 11008, 4096]⟩
abbrev S8320x4096 : Shape := ⟨2, ![8320, 4096]⟩
abbrev S11008x4096 : Shape := ⟨2, ![11008, 4096]⟩
abbrev S640x11008 : Shape := ⟨2, ![640, 11008]⟩
abbrev S11008x512 : Shape := ⟨2, ![11008, 512]⟩
abbrev S640x512 : Shape := ⟨2, ![640, 512]⟩

abbrev nBuf : Space → Nat
  | .hbm => 6
  | .vmem => 8
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .hbm, ⟨3, _⟩ => ⟨S11008x4096, .f32⟩
  | .hbm, ⟨4, _⟩ => ⟨S11008x4096, .bf16⟩
  | .hbm, ⟨5, _⟩ => ⟨S8320x4096, .f32⟩
  | .local _ .vmem, ⟨0, _⟩ => ⟨S640x11008, .bf16⟩
  | .local _ .vmem, ⟨1, _⟩ => ⟨S640x11008, .bf16⟩
  | .local _ .vmem, ⟨2, _⟩ => ⟨S11008x512, .bf16⟩
  | .local _ .vmem, ⟨3, _⟩ => ⟨S11008x512, .bf16⟩
  | .local _ .vmem, ⟨4, _⟩ => ⟨S640x512, .f32⟩
  | .local _ .vmem, ⟨5, _⟩ => ⟨S640x512, .f32⟩
  | .local _ .vmem, ⟨6, _⟩ => ⟨S640x512, .f32⟩
  | .local _ .vmem, ⟨7, _⟩ => ⟨S640x512, .f32⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S640x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8320x11008 : Shape := ⟨2, ![8320, 11008]⟩
abbrev S1x11008x4096 : Shape := ⟨3, ![1, 11008, 4096]⟩
abbrev S8320x4096 : Shape := ⟨2, ![8320, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S1x11008x4096, .f32⟩
  | .hbm, ⟨2, _⟩ => ⟨S8320x4096, .f32⟩
  | .hbm, ⟨3, _⟩ => ⟨S8320x11008, .f32⟩
  | .hbm, ⟨4, _⟩ => ⟨S11008x4096, .f32⟩
  | .hbm, ⟨5, _⟩ => ⟨S8320x4096, .f32⟩
  | .hbm, ⟨6, _⟩ => ⟨S8320x4096, .f32⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8320x4096 : Shape := ⟨2, ![8320, 4096]⟩
abbrev S1x4096x11008 : Shape := ⟨3, ![1, 4096, 11008]⟩
abbrev S1x3x11008 : Shape := ⟨3, ![1, 3, 11008]⟩
abbrev S1x128x2x11008 : Shape := ⟨4, ![1, 128, 2, 11008]⟩
abbrev S4096x11008 : Shape := ⟨2, ![4096, 11008]⟩
abbrev S3x11008 : Shape := ⟨2, ![3, 11008]⟩
abbrev S128x2x11008 : Shape := ⟨3, ![128, 2, 11008]⟩
abbrev S128x1x11008 : Shape := ⟨3, ![128, 1, 11008]⟩
abbrev S128x11008 : Shape := ⟨2, ![128, 11008]⟩
abbrev S8320x11008 : Shape := ⟨2, ![8320, 11008]⟩
abbrev S8x11008 : Shape := ⟨2, ![8, 11008]⟩
abbrev S2048x4096 : Shape := ⟨2, ![2048, 4096]⟩
abbrev S128x4096 : Shape := ⟨2, ![128, 4096]⟩
abbrev S4096x256 : Shape := ⟨2, ![4096, 256]⟩
abbrev S3x256 : Shape := ⟨2, ![3, 256]⟩
abbrev S128x256 : Shape := ⟨2, ![128, 256]⟩
abbrev S2048x256 : Shape := ⟨2, ![2048, 256]⟩
abbrev S8x256 : Shape := ⟨2, ![8, 256]⟩
abbrev S1x256 : Shape := ⟨2, ![1, 256]⟩
abbrev S512x4096 : Shape := ⟨2, ![512, 4096]⟩
abbrev S512x256 : Shape := ⟨2, ![512, 256]⟩
abbrev S504x256 : Shape := ⟨2, ![504, 256]⟩

abbrev nBuf : Space → Nat
  | .hbm => 16
  | .vmem => 22
  | .smem => 0
  | _ => 0

abbrev bufTy : (tb : Table) → Fin (tcTables nBuf tb) → BufTy
  | .hbm, ⟨0, _⟩ => ⟨S8320x4096, .bf16⟩
  | .hbm, ⟨1, _⟩ => ⟨S1x4096x11008, .f32⟩
  | .hbm, ⟨2, _⟩ => ⟨S1x3x11008, .f32⟩
  | .hbm, ⟨3, _⟩ => ⟨S1x4096x11008, .f32⟩
  | .hbm, ⟨4, _⟩ => ⟨S1x128x2x11008, .f32⟩
  | .hbm, ⟨5, _⟩ => ⟨S4096x11008, .f32⟩
  | .hbm, ⟨6, _⟩ => ⟨S4096x11008, .f32⟩
  | .hbm, ⟨7, _⟩ => ⟨S3x11008, .f32⟩
  | .hbm, ⟨8, _⟩ => ⟨S128x2x11008, .f32⟩
  | .hbm, ⟨9, _⟩ => ⟨S128x1x11008, .f32⟩
  | .hbm, ⟨10, _⟩ => ⟨S128x11008, .f32⟩
  | .hbm, ⟨11, _⟩ => ⟨S128x1x11008, .f32⟩
  | .hbm, ⟨12, _⟩ => ⟨S128x11008, .f32⟩
  | .hbm, ⟨13, _⟩ => ⟨S8320x11008, .bf16⟩
  | .hbm, ⟨14, _⟩ => ⟨S8x11008, .f32⟩
  | .hbm, ⟨15, _⟩ => ⟨S128x11008, .f32⟩
  | .local _ .vmem, ⟨0, _⟩ => ⟨S2048x4096, .bf16⟩
  | .local _ .vmem, ⟨1, _⟩ => ⟨S2048x4096, .bf16⟩
  | .local _ .vmem, ⟨2, _⟩ => ⟨S128x4096, .bf16⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S4096x256, .f32⟩
  | .local _ .vmem, ⟨7, _⟩ => ⟨S3x256, .f32⟩
  | .local _ .vmem, ⟨8, _⟩ => ⟨S3x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S2048x256, .bf16⟩
  | .local _ .vmem, ⟨14, _⟩ => ⟨S2048x256, .bf16⟩
  | .local _ .vmem, ⟨15, _⟩ => ⟨S8x256, .f32⟩
  | .local _ .vmem, ⟨16, _⟩ => ⟨S8x256, .f32⟩
  | .local _ .vmem, ⟨17, _⟩ => ⟨S128x256, .f32⟩
  | .local _ .vmem, ⟨18, _⟩ => ⟨S128x256, .f32⟩
  | .local _ .vmem, ⟨19, _⟩ => ⟨S4096x256, .bf16⟩
  | .local _ .vmem, ⟨20, _⟩ => ⟨S4096x256, .bf16⟩
  | .local _ .vmem, ⟨21, _⟩ => ⟨S8x256, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![43, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let c0_i32 : BitVec 32 := 0#32
  let c0_i32_0 : BitVec 32 := 0#32
  ![c64_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let v1 : BitVec 32 := Scalar.extui v0
  let v2 : BitVec 32 := Scalar.addi arg0 v1
  let c42_i32 : BitVec 32 := 42#32
  let v3 : BitVec 32 := Scalar.minsi v2 c42_i32
  let c0_i32 : BitVec 32 := 0#32
  let c0_i32_0 : BitVec 32 := 0#32
  ![c0_i32.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sge arg1 c4_i32
  let v1 : BitVec 32 := Scalar.extui v0
  let v2 : BitVec 32 := Scalar.addi arg0 v1
  let c42_i32 : BitVec 32 := 42#32
  let v3 : BitVec 32 := Scalar.minsi v2 c42_i32
  let c0_i32 : BitVec 32 := 0#32
  let c0_i32_0 : BitVec 32 := 0#32
  ![c0_i32.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let v1 : BitVec 32 := Scalar.subi arg1 c1_i32
  let c4_i32 : BitVec 32 := 4#32
  let v2 : BitVec 32 := Scalar.select v0 c4_i32 v1
  let c0_i32_0 : BitVec 32 := 0#32
  ![v2.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference5Ideal.lean ====
abbrev S8320x4096 : Shape := ⟨2, ![8320, 4096]⟩
abbrev S1x4096x11008 : Shape := ⟨3, ![1, 4096, 11008]⟩
abbrev S1x3x11008 : Shape := ⟨3, ![1, 3, 11008]⟩
abbrev S1x128x2x11008 : Shape := ⟨4, ![1, 128, 2, 11008]⟩
abbrev S4096x11008 : Shape := ⟨2, ![4096, 11008]⟩
abbrev S8320x11008 : Shape := ⟨2, ![8320, 11008]⟩
abbrev S8192x11008 : Shape := ⟨2, ![8192, 11008]⟩
abbrev S128x11008 : Shape := ⟨2, ![128, 11008]⟩
abbrev S_ : Shape := ⟨0, ![]⟩
abbrev S2x11008 : Shape := ⟨2, ![2, 11008]⟩
abbrev S3x11008 : Shape := ⟨2, ![3, 11008]⟩
abbrev S8194x11008 : Shape := ⟨2, ![8194, 11008]⟩
abbrev S1x11008 : Shape := ⟨2, ![1, 11008]⟩
abbrev S11008 : Shape := ⟨1, ![11008]⟩
abbrev S128x2x11008 : Shape := ⟨3, ![128, 2, 11008]⟩
abbrev S128x1x11008 : Shape := ⟨3, ![128, 1, 11008]⟩
abbrev S8x11008 : Shape := ⟨2, ![8, 11008]⟩

abbrev nBuf : Space → Nat
  | .hbm => 74
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S1x4096x11008, .f32⟩
  | .hbm, ⟨2, _⟩ => ⟨S1x3x11008, .f32⟩
  | .hbm, ⟨3, _⟩ => ⟨S1x4096x11008, .f32⟩
  | .hbm, ⟨4, _⟩ => ⟨S1x128x2x11008, .f32⟩
  | .hbm, ⟨5, _⟩ => ⟨S8320x4096, .f32⟩
  | .hbm, ⟨6, _⟩ => ⟨S4096x11008, .f32⟩
  | .hbm, ⟨7, _⟩ => ⟨S8320x11008, .f32⟩
  | .hbm, ⟨8, _⟩ => ⟨S4096x11008, .f32⟩
  | .hbm, ⟨9, _⟩ => ⟨S8320x11008, .f32⟩
  | .hbm, ⟨10, _⟩ => ⟨S8192x11008, .f32⟩
  | .hbm, ⟨11, _⟩ => ⟨S128x11008, .f32⟩
  | .hbm, ⟨12, _⟩ => ⟨S_, .f32⟩
  | .hbm, ⟨13, _⟩ => ⟨S2x11008, .f32⟩
  | .hbm, ⟨14, _⟩ => ⟨S3x11008, .f32⟩
  | .hbm, ⟨15, _⟩ => ⟨S8194x11008, .f32⟩
  | .hbm, ⟨16, _⟩ => ⟨S8192x11008, .f32⟩
  | .hbm, ⟨17, _⟩ => ⟨S1x11008, .f32⟩
  | .hbm, ⟨18, _⟩ => ⟨S11008, .f32⟩
  | .hbm, ⟨19, _⟩ => ⟨S1x11008, .f32⟩
  | .hbm, ⟨20, _⟩ => ⟨S8192x11008, .f32⟩
  | .hbm, ⟨21, _⟩ => ⟨S8192x11008, .f32⟩
  | .hbm, ⟨22, _⟩ => ⟨S8192x11008, .f32⟩
  | .hbm, ⟨23, _⟩ => ⟨S1x11008, .f32⟩
  | .hbm, ⟨24, _⟩ => ⟨S11008, .f32⟩
  | .hbm, ⟨25, _⟩ => ⟨S1x11008, .f32⟩
  | .hbm, ⟨26, _⟩ => ⟨S8192x11008, .f32⟩
  | .hbm, ⟨27, _⟩ => ⟨S8192x11008, .f32⟩
  | .hbm, ⟨28, _⟩ => ⟨S8192x11008, .f32⟩
  | .hbm, ⟨29, _⟩ => ⟨S8192x11008, .f32⟩
  | .hbm, ⟨30, _⟩ => ⟨S1x11008, .f32⟩
  | .hbm, ⟨31, _⟩ => ⟨S11008, .f32⟩
  | .hbm, ⟨32, _⟩ => ⟨S1x11008, .f32⟩
  | .hbm, ⟨33, _⟩ => ⟨S8192x11008, .f32⟩
  | .hbm, ⟨34, _⟩ => ⟨S8192x11008, .f32⟩
  | .hbm, ⟨35, _⟩ => ⟨S8192x11008, .f32⟩
  | .hbm, ⟨36, _⟩ => ⟨S128x2x11008, .f32⟩
  | .hbm, ⟨37, _⟩ => ⟨S128x1x11008, .f32⟩
  | .hbm, ⟨38, _⟩ => ⟨S128x11008, .f32⟩
  | .hbm, ⟨39, _⟩ => ⟨S3x11008, .f32⟩
  | .hbm, ⟨40, _⟩ => ⟨S1x11008, .f32⟩
  | .hbm, ⟨41, _⟩ => ⟨S11008, .f32⟩
  | .hbm, ⟨42, _⟩ => ⟨S1x11008, .f32⟩
  | .hbm, ⟨43, _⟩ => ⟨S128x11008, .f32⟩
  | .hbm, ⟨44, _⟩ => ⟨S128x11008, .f32⟩
  | .hbm, ⟨45, _⟩ => ⟨S128x1x11008, .f32⟩
  | .hbm, ⟨46, _⟩ => ⟨S128x11008, .f32⟩
  | .hbm, ⟨47, _⟩ => ⟨S3x11008, .f32⟩
  | .hbm, ⟨48, _⟩ => ⟨S1x11008, .f32⟩
  | .hbm, ⟨49, _⟩ => ⟨S11008, .f32⟩
  | .hbm, ⟨50, _⟩ => ⟨S1x11008, .f32⟩
  | .hbm, ⟨51, _⟩ => ⟨S128x11008, .f32⟩
  | .hbm, ⟨52, _⟩ => ⟨S128x11008, .f32⟩
  | .hbm, ⟨53, _⟩ => ⟨S128x11008, .f32⟩
  | .hbm, ⟨54, _⟩ => ⟨S3x11008, .f32⟩
  | .hbm, ⟨55, _⟩ => ⟨S1x11008, .f32⟩
  | .hbm, ⟨56, _⟩ => ⟨S11008, .f32⟩
  | .hbm, ⟨57, _⟩ => ⟨S1x11008, .f32⟩
  | .hbm, ⟨58, _⟩ => ⟨S128x11008, .f32⟩
  | .hbm, ⟨59, _⟩ => ⟨S128x11008, .f32⟩
  | .hbm, ⟨60, _⟩ => ⟨S128x11008, .f32⟩
  | .hbm, ⟨61, _⟩ => ⟨S8320x11008, .f32⟩
  | .hbm, ⟨62, _⟩ => ⟨S8320x11008, .f32⟩
  | .hbm, ⟨63, _⟩ => ⟨S8320x11008, .f32⟩
  | .hbm, ⟨64, _⟩ => ⟨S_, .f32⟩
  | .hbm, ⟨65, _⟩ => ⟨S8320x11008, .f32⟩
  | .hbm, ⟨66, _⟩ => ⟨S8320x11008, .f32⟩
  | .hbm, ⟨67, _⟩ => ⟨S_, .f32⟩
  | .hbm, ⟨68, _⟩ => ⟨S8320x11008, .f32⟩
  | .hbm, ⟨69, _⟩ => ⟨S8320x11008, .f32⟩
  | .hbm, ⟨70, _⟩ => ⟨S8320x11008, .f32⟩
  | .hbm, ⟨71, _⟩ => ⟨S8320x11008, .f32⟩
  | .hbm, ⟨72, _⟩ => ⟨S8320x11008, .bf16⟩
  | .hbm, ⟨73, _⟩ => ⟨S8x11008, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]
-- ==== Proof.Proj.Tile.lean ====
module

public import proofs.«01_k».proof.Proof.Gen.KernelIdeal.Frame.RunC
public import Idealize.ShloMosaic.Lib.Pipeline.Value
public import Idealize.ShloMosaic.Lib.Pointwise

@[expose] public section

set_option maxRecDepth 16384

noncomputable section

namespace Cert.Proj

open Idealize.ShloMosaic Idealize.ShloMosaic.TcCoe Cert.KernelIdeal Cert.KernelIdeal.Gen

/-- Entry `(r, n)` of the product of a block of rows and a block of columns (the columns stored as rows). -/
def acc (x0 : Vec Ideal S2080x4096 .bf16) (x1 : Vec Ideal S512x4096 .bf16) (r : Fin 2080) (n : Fin 512) : EReal :=
  ∑ k : Fin 4096, x0 (ix2 r k) * x1 (ix2 n k)

/-- The lane a rotated lane is paired with: within each head's first 32 lanes the two halves of 16 are exchanged. -/
def partner (n : Fin 512) : Fin 512 :=
  if n.val % 128 < 16 then ⟨(n.val / 128 * 128 + (n.val % 128 + 16)) % 512, Nat.mod_lt _ (by decide)⟩
  else ⟨n.val - 16, by omega⟩

/-- Where the unit-stride rectangle at `(o0, o1)` puts its element `(i, j)`. -/
theorem emb2 {A B a b o0 o1 : ℕ} (inb : ∀ k, (![o0, o1] : Fin 2 → ℕ) k + (![a, b] : Fin 2 → ℕ) k ≤ (⟨2, ![A, B]⟩ : Shape).size k)
    (i : Fin a) (j : Fin b) :
    (Rect.unit (s := ⟨2, ![A, B]⟩) ![o0, o1] ![a, b] inb).emb (ix2 i j)
      = ix2 ⟨o0 + i.val, by have := inb 0; have := i.isLt; simp at *; omega⟩ ⟨o1 + j.val, by have := inb 1; have := j.isLt; simp at *; omega⟩ := by
  funext k
  match k with
  | ⟨0, _⟩ => exact Fin.ext (by simp [ix2])
  | ⟨1, _⟩ => exact Fin.ext (by simp [ix2])

theorem piecesC (c : Dev nD) (i : grid0.Coords) (arg2 : Memref sig .tc .vmem S2080x4096 .bf16) (harg2 : arg2.IsWhole) (arg3 : Memref sig .tc .vmem S512x4096 .bf16) (harg3 : arg3.IsWhole) (arg4 : Memref sig .tc .vmem S2080x128 .f32) (harg4 : arg4.IsWhole) (arg5 : Memref sig .tc .vmem S2080x128 .f32) (harg5 : arg5.IsWhole) (arg6 : Memref sig .tc .vmem S2080x512 .f32) (harg6 : arg6.IsWhole) (hc0 : ¬cond0_0 i) (hc1 : cond0_1 i) (hc2 : ¬cond0_2 i)
    (x0 : Vec Ideal S2080x4096 .bf16) (x1 : Vec Ideal S512x4096 .bf16) (x2 : Vec Ideal S2080x128 .f32) (x3 : Vec Ideal S2080x128 .f32) :
    ∀ p ∈ (kernelRun0_C (F := Ideal) c i arg2 harg2 arg3 harg3 arg4 harg4 arg5 harg5 arg6 harg6 hc0 hc1 hc2 x0 x1 x2 x3).1, ∀ x : p.1.shape.Idx, p.2 x = (fun y => Ideal.logistic (acc x0 x1 (y 0) (y 1))) (p.1.emb x) := by
  unfold kernelRun0_C
  dsimp only
  intro p hp j
  simp only [List.mem_cons, List.mem_nil_iff, or_false] at hp
  rcases hp with rfl | rfl | rfl | rfl | rfl
  all_goals
    sl_unfold_run_names
    simp only [View.readAt_eq_ld, harg2.read_unread, harg3.read_unread, harg4.read_unread, harg5.read_unread]
    unfold_payloads
    idx_vars j
    rw [emb2]
    pointwise [acc]

theorem piecesB (c : Dev nD) (i : grid0.Coords) (arg2 : Memref sig .tc .vmem S2080x4096 .bf16) (harg2 : arg2.IsWhole) (arg3 : Memref sig .tc .vmem S512x4096 .bf16) (harg3 : arg3.IsWhole) (arg4 : Memref sig .tc .vmem S2080x128 .f32) (harg4 : arg4.IsWhole) (arg5 : Memref sig .tc .vmem S2080x128 .f32) (harg5 : arg5.IsWhole) (arg6 : Memref sig .tc .vmem S2080x512 .f32) (harg6 : arg6.IsWhole) (hc0 : ¬cond0_0 i) (hc1 : ¬cond0_1 i) (hc2 : cond0_2 i)
    (x0 : Vec Ideal S2080x4096 .bf16) (x1 : Vec Ideal S512x4096 .bf16) (x2 : Vec Ideal S2080x128 .f32) (x3 : Vec Ideal S2080x128 .f32) :
    ∀ p ∈ (kernelRun0_B (F := Ideal) c i arg2 harg2 arg3 harg3 arg4 harg4 arg5 harg5 arg6 harg6 hc0 hc1 hc2 x0 x1 x2 x3).1, ∀ x : p.1.shape.Idx, p.2 x = (fun y => acc x0 x1 (y 0) (y 1)) (p.1.emb x) := by
  unfold kernelRun0_B
  dsimp only
  intro p hp j
  simp only [List.mem_cons, List.mem_nil_iff, or_false] at hp
  rcases hp with rfl | rfl | rfl | rfl | rfl
  all_goals
    sl_unfold_run_names
    simp only [View.readAt_eq_ld, harg2.read_unread, harg3.read_unread, harg4.read_unread, harg5.read_unread]
    unfold_payloads
    idx_vars j
    rw [emb2]
    pointwise [acc]

theorem sel_one (a b : EReal) : Scalar.select 1#1 a b = a := rfl
theorem sel_zero (a b : EReal) : Scalar.select 0#1 a b = b := rfl

theorem slt16 : ∀ j : Fin 128, IntOp.cmpi CmpIPredicate.slt (BitVec.ofNat 32 j.val) 16#32 = if j.val < 16 then 1#1 else 0#1 := by
  decide

set_option maxHeartbeats 4000000 in
theorem piecesA (c : Dev nD) (i : grid0.Coords) (arg2 : Memref sig .tc .vmem S2080x4096 .bf16) (harg2 : arg2.IsWhole) (arg3 : Memref sig .tc .vmem S512x4096 .bf16) (harg3 : arg3.IsWhole) (arg4 : Memref sig .tc .vmem S2080x128 .f32) (harg4 : arg4.IsWhole) (arg5 : Memref sig .tc .vmem S2080x128 .f32) (harg5 : arg5.IsWhole) (arg6 : Memref sig .tc .vmem S2080x512 .f32) (harg6 : arg6.IsWhole) (hc0 : cond0_0 i) (hc1 : ¬cond0_1 i) (hc2 : ¬cond0_2 i)
    (x0 : Vec Ideal S2080x4096 .bf16) (x1 : Vec Ideal S512x4096 .bf16) (x2 : Vec Ideal S2080x128 .f32) (x3 : Vec Ideal S2080x128 .f32) :
    ∀ p ∈ (kernelRun0_A (F := Ideal) c i arg2 harg2 arg3 harg3 arg4 harg4 arg5 harg5 arg6 harg6 hc0 hc1 hc2 x0 x1 x2 x3).1, ∀ x : p.1.shape.Idx, p.2 x = (fun y => acc x0 x1 (y 0) (y 1) * x2 (ix2 (y 0) ⟨(y 1).val % 128, Nat.mod_lt _ (by decide)⟩) + acc x0 x1 (y 0) (partner (y 1)) * x3 (ix2 (y 0) ⟨(y 1).val % 128, Nat.mod_lt _ (by decide)⟩)) (p.1.emb x) := by
  unfold kernelRun0_A
  dsimp only
  intro p hp j
  simp only [List.mem_cons, List.mem_nil_iff, or_false] at hp
  rcases hp with rfl | rfl | rfl | rfl | rfl | rfl | rfl | rfl | rfl | rfl | rfl | rfl | rfl | rfl | rfl | rfl | rfl | rfl | rfl | rfl
  all_goals
    sl_unfold_run_names
    simp only [View.readAt_eq_ld, harg2.read_unread, harg3.read_unread, harg4.read_unread, harg5.read_unread]
    unfold_payloads
    idx_vars j
    rw [emb2]
    pointwise [acc]
  all_goals
    have hj := j1.isLt
    have hs := slt16 j1
    by_cases h : j1.val < 16
    · rw [hs, if_pos h, Cert.Proj.sel_one]
      refine Ideal.add_congr (Ideal.mul_congr rfl (congrArg x2 (congrArg (ix2 _) (Fin.ext ?_))))
        (Ideal.mul_congr (Finset.sum_congr rfl fun k _ => Ideal.mul_congr rfl (congrArg (fun n => x1 (ix2 n k)) ?_))
          (congrArg x3 (congrArg (ix2 _) (Fin.ext ?_))))
      · (try dsimp only); omega
      · unfold partner; split
        · apply Fin.ext; (try dsimp only); omega
        · rename_i h2; (try dsimp only at h2); omega
      · (try dsimp only); omega
    · rw [hs, if_neg h, Cert.Proj.sel_zero]
      refine Ideal.add_congr (Ideal.mul_congr rfl (congrArg x2 (congrArg (ix2 _) (Fin.ext ?_))))
        (Ideal.mul_congr (Finset.sum_congr rfl fun k _ => Ideal.mul_congr rfl (congrArg (fun n => x1 (ix2 n k)) ?_))
          (congrArg x3 (congrArg (ix2 _) (Fin.ext ?_))))
      · (try dsimp only); omega
      · unfold partner; split
        · rename_i h2; (try dsimp only at h2); omega
        · apply Fin.ext; (try dsimp only); omega
      · (try dsimp only); omega

end Cert.Proj

end
-- ==== Proof.Proj.Ref.lean ====
/- What the input projection's reference writes, entry by entry: plain products on the columns that are not rotated, the
   rotary embedding on query and key columns, the sigmoid on the gate columns. -/
module

public import proofs.«01_k».proof.Proof.Gen.ReferenceIdeal.Read
public import Idealize.ShloMosaic.Lib.Pointwise

@[expose] public section

set_option maxRecDepth 16384

noncomputable section

namespace Cert.Proj

open Idealize.ShloMosaic Cert.ReferenceIdeal Cert.ReferenceIdeal.Gen Cert.ReferenceIdeal.Read

variable (h : S8320x4096.Idx → EReal) (w : S1x4096x21024.Idx → EReal)

/-- Entry `(r, n)` of the product of the input's rows and the weights' columns. -/
def P (r : Fin 8320) (n : ℕ) : EReal :=
  ∑ k : Fin 4096, h (ix2 r k) * w (ix3 0 k ⟨n % 21024, Nat.mod_lt _ (by decide)⟩)

/-- The rotation angle of row `r` at frequency `l`. -/
def angle (r : Fin 8320) (l : Fin 16) : EReal := val_main_v25 (F := Ideal) (ix2 r l)

/-- The factor a lane of a head takes itself … -/
def cosT (r : Fin 8320) (l : ℕ) : EReal :=
  if h : l < 16 then Ideal.cos (angle r ⟨l, h⟩) else if h : l - 16 < 16 then Ideal.cos (angle r ⟨l - 16, h⟩) else 1

/-- … and the factor its partner takes. -/
def sinT (r : Fin 8320) (l : ℕ) : EReal :=
  if h : l < 16 then - Ideal.sin (angle r ⟨l, h⟩) else if h : l - 16 < 16 then Ideal.sin (angle r ⟨l - 16, h⟩) else 0

/-- The partner of a column in the rotation. -/
def pn (n : ℕ) : ℕ := if n % 128 < 16 then n + 16 else n - 16

/-- A rotated column. -/
def rope (r : Fin 8320) (n : ℕ) : EReal := P h w r n * cosT r (n % 128) + P h w r (pn n) * sinT r (n % 128)

/-- Every column of the projection. -/
def OUT (r : Fin 8320) (n : ℕ) : EReal :=
  if n < 4608 ∧ n / 512 % 3 ≠ 2 then rope h w r n
  else if n < 12800 then P h w r n
  else Ideal.logistic (P h w r (n + 32))

theorem P_congr (r : Fin 8320) {n n' : ℕ} (e : n = n') : P h w r n = P h w r n' := by rw [e]

theorem P_fin (r : Fin 8320) (n : ℕ) (hn : n < 21024) :
    ∑ k : Fin 4096, h (ix2 r k) * w (ix3 0 k ⟨n, hn⟩) = P h w r n := by
  unfold P
  refine Finset.sum_congr rfl fun k _ => ?_
  rw [show (⟨n % 21024, Nat.mod_lt _ (by decide)⟩ : Fin 21024) = ⟨n, hn⟩ from Fin.ext (Nat.mod_eq_of_lt hn)]

/-- The rotation as the reference writes it, on its three stretches of lanes. -/
theorem rope_cases (r : Fin 8320) (b : ℕ) (n : Fin 128) (hb : b % 128 = 0) :
    rope h w r (b + n.val) =
      if hn : n.val < 16 then
        P h w r (b + n.val) * Ideal.cos (angle r ⟨n.val, hn⟩) - P h w r (b + (16 + n.val)) * Ideal.sin (angle r ⟨n.val, hn⟩)
      else if hn : n.val - 16 < 16 then
        P h w r (b + (16 + (n.val - 16))) * Ideal.cos (angle r ⟨n.val - 16, hn⟩)
          + P h w r (b + (n.val - 16)) * Ideal.sin (angle r ⟨n.val - 16, hn⟩)
      else P h w r (b + (32 + (n.val - 16 - 16))) := by
  have hn := n.isLt
  have hl : (b + n.val) % 128 = n.val := by omega
  unfold rope pn cosT sinT
  rw [hl]
  split_ifs with h1 h2
  · rw [P_congr h w r (show b + n.val + 16 = b + (16 + n.val) by omega), sub_eq_add_neg, mul_neg]
  · rw [P_congr h w r (show b + (16 + (n.val - 16)) = b + n.val by omega),
      P_congr h w r (show b + n.val - 16 = b + (n.val - 16) by omega)]
  · rw [P_congr h w r (show b + (32 + (n.val - 16 - 16)) = b + n.val by omega), mul_one, mul_zero, add_zero]

/-- The rotated queries. -/
theorem ref43 (r : Fin 8320) (g : Fin 3) (a : Fin 4) (n : Fin 128) :
    val_main_v43 (F := Ideal) h w (ix4 r g a n) = rope h w r (g.val * 1536 + a.val * 128 + n.val) := by
  rw [rope_cases h w r (g.val * 1536 + a.val * 128) n (by omega)]
  pointwise [val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v3, val_main_v4, val_main_v5, val_main_v6, val_main_v7, val_main_v8, val_main_v9]
  simp only [P_fin]
  rfl

/-- The rotated keys. -/
theorem ref79 (r : Fin 8320) (g : Fin 3) (a : Fin 4) (n : Fin 128) :
    val_main_v79 (F := Ideal) h w (ix4 r g a n) = rope h w r (g.val * 1536 + 512 + a.val * 128 + n.val) := by
  rw [rope_cases h w r (g.val * 1536 + 512 + a.val * 128) n (by omega)]
  pointwise [val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v44, val_main_v45, val_main_v3, val_main_v4, val_main_v5, val_main_v6, val_main_v7]
  simp only [P_fin]
  rfl

theorem ref5 (r : Fin 8320) (n : ℕ) (hn : n < 21024) :
    val_main_v5 (F := Ideal) h w (ix2 r ⟨n, hn⟩) = P h w r n := by
  rw [← P_fin h w r n hn]
  pointwise [val_main_v5, val_main_v4, val_main_v3]

theorem ref_at (r : Fin 8320) (n : Fin 20992) :
    val_main_v95 (F := Ideal) h w (ix2 r n) = OUT h w r n.val := by
  have hn := n.isLt
  pointwise [val_main_v95, val_main_v94, val_main_v93, val_main_v92, val_main_cst_8, val_main_v91, val_main_v90, val_main_cst_7, val_main_v89, val_main_v88, val_main_v87, val_main_v86, val_main_v85, val_main_v84, val_main_v83, val_main_v82, val_main_v81, val_main_v80, val_main_v7, val_main_v6]
  simp only [ref43, ref79, ref5]
  unfold OUT
  split_ifs with h1 h2 h3 h4 h5 h6 h7
  all_goals first
    | (exfalso; omega)
    | (exact congrArg (rope h w r) (by omega))
    | (exact congrArg (P h w r) (by omega))
    | (exact congrArg (fun n => Ideal.logistic (P h w r n)) (by omega))

end Cert.Proj

end
-- ==== Proof.Proj.Value.lean ====
/- The array the input projection leaves, entry by entry. -/
module

public import proofs.«01_k».proof.Proof.Proj.Tile
public import proofs.«01_k».proof.Proof.Proj.Ref
public import proofs.«01_k».proof.Proof.Gen.KernelIdeal.Value
public import Idealize.ShloMosaic.Lib.Pipeline.ValueKit.Point
public import Idealize.ShloMosaic.Lib.Claim
public import Idealize.ShloMosaic.Lib.StableHlo.RunRead

@[expose] public section

set_option maxRecDepth 16384

noncomputable section

namespace Cert.Proj

open Idealize.ShloMosaic Idealize.ShloMosaic.TcCoe Cert.KernelIdeal Cert.KernelIdeal.Gen Cert.KernelIdeal.Value
open Idealize.SL.Sem Idealize.ShloMosaic.Pipeline Idealize.ShloMosaic.StableHlo

variable (m : (ℓ : Loc nD τ sig) → Buf (Elt Ideal) ℓ) (c : Dev nD)

/-- The normed rows, as launched. -/
abbrev H : S8320x4096.Idx → EReal := m ((c : Thread nD τ).loc main_arg0)
/-- The stored weights, as launched. -/
abbrev W : S1x4096x21024.Idx → EReal := m ((c : Thread nD τ).loc main_arg1)

theorem idx0 : ∀ t : Fin cfg0.N, win0_0.index t = ![t.val / 41, 0] :=
  (by decide +kernel : ∀ t : Fin grid0.N, _)
theorem idx2 : ∀ t : Fin cfg0.N, win0_2.index t = ![t.val / 41, 0] :=
  (by decide +kernel : ∀ t : Fin grid0.N, _)
theorem idx3 : ∀ t : Fin cfg0.N, win0_3.index t = ![t.val / 41, 0] :=
  (by decide +kernel : ∀ t : Fin grid0.N, _)
theorem idx4 : ∀ t : Fin cfg0.N, win0_4.index t = ![t.val / 41, t.val % 41] :=
  (by decide +kernel : ∀ t : Fin grid0.N, _)
/-- The weights' window begins 32 columns later from the gate columns on. -/
theorem off1 : ∀ t : Fin cfg0.N, cc0_transform_1 (grid0.coords t) = ![t.val % 41 * 512 + (if 25 ≤ t.val % 41 then 32 else 0), 0] :=
  (by decide +kernel : ∀ t : Fin grid0.N, _)

theorem V2_at (n : Fin 21024) (k : Fin 4096) : V m c main_v2 (ix2 n k) = W m c (ix3 0 k n) := by
  entry_read
  pointwise

/-- Three tables side by side, table by table. -/
theorem cat3 {a a' b b' : Vec Ideal S8320x16 .f32} {d d' : Vec Ideal S8320x96 .f32} (ha : a = a') (hb : b = b') (hd : d = d') :
    (concatenate S8320x128 1 [⟨S8320x16, a⟩, ⟨S8320x16, b⟩, ⟨S8320x96, d⟩] concatenates_S8320x16_S8320x16_S8320x96_S8320x128_d1 : Vec Ideal S8320x128 .f32)
      = concatenate S8320x128 1 [⟨S8320x16, a'⟩, ⟨S8320x16, b'⟩, ⟨S8320x96, d'⟩] concatenates_S8320x16_S8320x16_S8320x96_S8320x128_d1 := by
  rw [ha, hb, hd]

/-- The rotation angles, as both programs compute them. -/
abbrev ang : FVec Ideal S8320x16 .f32 := Cert.ReferenceIdeal.Read.val_main_v25 (F := Ideal)

/-- The tables' pieces before they are put together. -/
def mid : Valuation τ sig (Elt Ideal) := StableHlo.after (hostOps0.take 31) (fun b => m (c, b))

theorem mid22 : mid m c (Proc.devRef .tc main_v22) = Host.cos (s := S8320x16) (φ := .f32) ang := by
  unfold mid
  simp only [hostOps0, List.take, StableHlo.after_cons, StableHlo.after_nil]
  after_results_simp
  rfl
theorem mid23 : mid m c (Proc.devRef .tc main_v23) = Host.sin (s := S8320x16) (φ := .f32) ang := by
  unfold mid
  simp only [hostOps0, List.take, StableHlo.after_cons, StableHlo.after_nil]
  after_results_simp
  rfl
theorem mid24 : mid m c (Proc.devRef .tc main_v24) = (broadcastInDim S8320x96 ![] bcast_S_S8320x96 (constant (F := Ideal) S_ .f32 0x3F800000#32 : Vec Ideal S_ .f32) : Vec Ideal S8320x96 .f32) := by
  unfold mid
  simp only [hostOps0, List.take, StableHlo.after_cons, StableHlo.after_nil]
  after_reads_simp

theorem V25_eq : V m c main_v25 = (concatenate S8320x128 1 [⟨S8320x16, (Host.cos (s := S8320x16) (φ := .f32) ang : Vec Ideal S8320x16 .f32)⟩, ⟨S8320x16, (Host.cos (s := S8320x16) (φ := .f32) ang : Vec Ideal S8320x16 .f32)⟩, ⟨S8320x96, (broadcastInDim S8320x96 ![] bcast_S_S8320x96 (constant (F := Ideal) S_ .f32 0x3F800000#32 : Vec Ideal S_ .f32) : Vec Ideal S8320x96 .f32)⟩] concatenates_S8320x16_S8320x16_S8320x96_S8320x128_d1 : Vec Ideal S8320x128 .f32) := by
  have h : V m c main_v25 = StableHlo.after (hostOps0.drop 32) (StableHlo.after (hostOps0.take 32) (fun b => m (c, b))) (Proc.devRef .tc main_v25) := rfl
  rw [h]
  simp only [hostOps0, List.drop, StableHlo.after_cons, StableHlo.after_nil]
  rw [HloOp.result_of_not_mem, HloOp.result_of_not_mem, HloOp.result_of_not_mem, HloOp.result_of_not_mem]
  · exact cat3 (mid22 m c) (mid22 m c) (mid24 m c)
  all_goals
    simp only [StableHlo.nullary_writes, StableHlo.unary_writes, StableHlo.nary_writes, Finset.mem_singleton]
    exact StableHlo.devRef_ne_of_ne (by decide)

theorem V28_eq : V m c main_v28 = (concatenate S8320x128 1 [⟨S8320x16, (Host.negf (s := S8320x16) (φ := .f32) (Host.sin (s := S8320x16) (φ := .f32) ang) : Vec Ideal S8320x16 .f32)⟩, ⟨S8320x16, (Host.sin (s := S8320x16) (φ := .f32) ang : Vec Ideal S8320x16 .f32)⟩, ⟨S8320x96, (broadcastInDim S8320x96 ![] bcast_S_S8320x96 (constant (F := Ideal) S_ .f32 0x00000000#32 : Vec Ideal S_ .f32) : Vec Ideal S8320x96 .f32)⟩] concatenates_S8320x16_S8320x16_S8320x96_S8320x128_d1 : Vec Ideal S8320x128 .f32) := by
  show StableHlo.after hostOps0 _ _ = _
  simp only [StableHlo.after_cons, StableHlo.after_nil]
  after_reads_simp
  refine cat3 (congrArg (Host.negf (s := S8320x16) (φ := .f32)) (mid23 m c)) (mid23 m c) rfl

theorem V25_at (r : Fin 8320) (n : Fin 128) : V m c main_v25 (ix2 r n) = cosT r n.val := by
  have key : ∀ A : FVec Ideal S8320x16 .f32, A = ang → (concatenate S8320x128 1 [⟨S8320x16, (Host.cos (s := S8320x16) (φ := .f32) A : Vec Ideal S8320x16 .f32)⟩, ⟨S8320x16, (Host.cos (s := S8320x16) (φ := .f32) A : Vec Ideal S8320x16 .f32)⟩, ⟨S8320x96, (broadcastInDim S8320x96 ![] bcast_S_S8320x96 (constant (F := Ideal) S_ .f32 0x3F800000#32 : Vec Ideal S_ .f32) : Vec Ideal S8320x96 .f32)⟩] concatenates_S8320x16_S8320x16_S8320x96_S8320x128_d1 : Vec Ideal S8320x128 .f32) (ix2 r n) = cosT r n.val := by
    intro A hA
    pointwise
    rw [hA]
    rfl
  rw [V25_eq]
  exact key ang rfl

theorem V28_at (r : Fin 8320) (n : Fin 128) : V m c main_v28 (ix2 r n) = sinT r n.val := by
  have key : ∀ A : FVec Ideal S8320x16 .f32, A = ang → (concatenate S8320x128 1 [⟨S8320x16, (Host.negf (s := S8320x16) (φ := .f32) (Host.sin (s := S8320x16) (φ := .f32) A) : Vec Ideal S8320x16 .f32)⟩, ⟨S8320x16, (Host.sin (s := S8320x16) (φ := .f32) A : Vec Ideal S8320x16 .f32)⟩, ⟨S8320x96, (broadcastInDim S8320x96 ![] bcast_S_S8320x96 (constant (F := Ideal) S_ .f32 0x00000000#32 : Vec Ideal S_ .f32) : Vec Ideal S8320x96 .f32)⟩] concatenates_S8320x16_S8320x16_S8320x96_S8320x128_d1 : Vec Ideal S8320x128 .f32) (ix2 r n) = sinT r n.val := by
    intro A hA
    pointwise
    rw [hA]
    rfl
  rw [V28_eq]
  exact key ang rfl

theorem blk0_at (t : Fin cfg0.N) (r : Fin 2080) (k : Fin 4096) (R : Fin 8320) (hR : R.val = t.val / 41 * 2080 + r.val) :
    iblk m c 0 t (ix2 r k) = H m c (ix2 R k) := by
  rw [show H m c = V m c main_arg0 from (V_main_arg0 m c).symm]
  blk_ext [iblk, idx0 t]

theorem blk1_at (t : Fin cfg0.N) (n : Fin 512) (k : Fin 4096) (N : Fin 21024)
    (hN : N.val = t.val % 41 * 512 + (if 25 ≤ t.val % 41 then 32 else 0) + n.val) :
    iblk m c 1 t (ix2 n k) = W m c (ix3 0 k N) := by
  rw [← V2_at m c N k]
  blk_simp [iblk]
  refine congrArg (V m c main_v2) (funext fun a => Fin.ext ?_)
  have e := (Window.rect_emb_val_off win0_1 t (ix2 n k) a)
  have hi : win0_1.index t = ![t.val % 41 * 512 + (if 25 ≤ t.val % 41 then 32 else 0), 0] := off1 t
  rw [hi] at e
  refine Eq.trans e ?_
  match a with
  | ⟨0, _⟩ => exact hN.symm
  | ⟨1, _⟩ => exact Nat.zero_add _

theorem blk2_at (t : Fin cfg0.N) (r : Fin 2080) (n : Fin 128) (R : Fin 8320) (hR : R.val = t.val / 41 * 2080 + r.val) :
    iblk m c 2 t (ix2 r n) = cosT R n.val := by
  rw [← V25_at m c R n]
  blk_ext [iblk, idx2 t]

theorem blk3_at (t : Fin cfg0.N) (r : Fin 2080) (n : Fin 128) (R : Fin 8320) (hR : R.val = t.val / 41 * 2080 + r.val) :
    iblk m c 3 t (ix2 r n) = sinT R n.val := by
  rw [← V28_at m c R n]
  blk_ext [iblk, idx3 t]

theorem acc_at (t : Fin cfg0.N) (r : Fin 2080) (n : Fin 512) (R : Fin 8320) (hR : R.val = t.val / 41 * 2080 + r.val)
    (N : ℕ) (hN : N = t.val % 41 * 512 + (if 25 ≤ t.val % 41 then 32 else 0) + n.val) :
    acc (iblk m c 0 t) (iblk m c 1 t) r n = P (H m c) (W m c) R N := by
  have hn := n.isLt
  have ht : t.val % 41 < 41 := Nat.mod_lt _ (by decide)
  have hlt : N < 21024 := by rw [hN]; split_ifs <;> omega
  rw [← P_fin (H m c) (W m c) R N hlt]
  exact Finset.sum_congr rfl fun k _ => Ideal.mul_congr (blk0_at m c t r k R hR) (blk1_at m c t n k ⟨N, hlt⟩ hN)

/-- What a tile of case A holds. -/
theorem outA_at (c : Dev nD) (i : grid0.Coords) (arg2 : Memref sig .tc .vmem S2080x4096 .bf16) (harg2 : arg2.IsWhole) (arg3 : Memref sig .tc .vmem S512x4096 .bf16) (harg3 : arg3.IsWhole) (arg4 : Memref sig .tc .vmem S2080x128 .f32) (harg4 : arg4.IsWhole) (arg5 : Memref sig .tc .vmem S2080x128 .f32) (harg5 : arg5.IsWhole) (arg6 : Memref sig .tc .vmem S2080x512 .f32) (harg6 : arg6.IsWhole) (hc0 : cond0_0 i) (hc1 : ¬cond0_1 i) (hc2 : ¬cond0_2 i)
    (x0 : Vec Ideal S2080x4096 .bf16) (x1 : Vec Ideal S512x4096 .bf16) (x2 : Vec Ideal S2080x128 .f32) (x3 : Vec Ideal S2080x128 .f32) (y : S2080x512.Idx) :
    out0_A_4 (F := Ideal) c i arg2 harg2 arg3 harg3 arg4 harg4 arg5 harg5 arg6 harg6 hc0 hc1 hc2 x0 x1 x2 x3 y = (fun y : S2080x512.Idx => (acc x0 x1 (y 0) (y 1) * x2 (ix2 (y 0) ⟨(y 1).val % 128, Nat.mod_lt _ (by decide)⟩) + acc x0 x1 (y 0) (partner (y 1)) * x3 (ix2 (y 0) ⟨(y 1).val % 128, Nat.mod_lt _ (by decide)⟩) : EReal)) y := by
  unfold out0_A_4
  exact View.read_writes_apply_of_pieces VO0_4 _ (fun y : S2080x512.Idx => (acc x0 x1 (y 0) (y 1) * x2 (ix2 (y 0) ⟨(y 1).val % 128, Nat.mod_lt _ (by decide)⟩) + acc x0 x1 (y 0) (partner (y 1)) * x3 (ix2 (y 0) ⟨(y 1).val % 128, Nat.mod_lt _ (by decide)⟩) : EReal)) _ (piecesA c i arg2 harg2 arg3 harg3 arg4 harg4 arg5 harg5 arg6 harg6 hc0 hc1 hc2 x0 x1 x2 x3) y (cover0_A_4 c i arg2 harg2 arg3 harg3 arg4 harg4 arg5 harg5 arg6 harg6 hc0 hc1 hc2 x0 x1 x2 x3 y)

/-- What a tile of case B holds. -/
theorem outB_at (c : Dev nD) (i : grid0.Coords) (arg2 : Memref sig .tc .vmem S2080x4096 .bf16) (harg2 : arg2.IsWhole) (arg3 : Memref sig .tc .vmem S512x4096 .bf16) (harg3 : arg3.IsWhole) (arg4 : Memref sig .tc .vmem S2080x128 .f32) (harg4 : arg4.IsWhole) (arg5 : Memref sig .tc .vmem S2080x128 .f32) (harg5 : arg5.IsWhole) (arg6 : Memref sig .tc .vmem S2080x512 .f32) (harg6 : arg6.IsWhole) (hc0 : ¬cond0_0 i) (hc1 : ¬cond0_1 i) (hc2 : cond0_2 i)
    (x0 : Vec Ideal S2080x4096 .bf16) (x1 : Vec Ideal S512x4096 .bf16) (x2 : Vec Ideal S2080x128 .f32) (x3 : Vec Ideal S2080x128 .f32) (y : S2080x512.Idx) :
    out0_B_4 (F := Ideal) c i arg2 harg2 arg3 harg3 arg4 harg4 arg5 harg5 arg6 harg6 hc0 hc1 hc2 x0 x1 x2 x3 y = (fun y : S2080x512.Idx => (acc x0 x1 (y 0) (y 1) : EReal)) y := by
  unfold out0_B_4
  exact View.read_writes_apply_of_pieces VO0_4 _ (fun y : S2080x512.Idx => (acc x0 x1 (y 0) (y 1) : EReal)) _ (piecesB c i arg2 harg2 arg3 harg3 arg4 harg4 arg5 harg5 arg6 harg6 hc0 hc1 hc2 x0 x1 x2 x3) y (cover0_B_4 c i arg2 harg2 arg3 harg3 arg4 harg4 arg5 harg5 arg6 harg6 hc0 hc1 hc2 x0 x1 x2 x3 y)

/-- What a tile of case C holds. -/
theorem outC_at (c : Dev nD) (i : grid0.Coords) (arg2 : Memref sig .tc .vmem S2080x4096 .bf16) (harg2 : arg2.IsWhole) (arg3 : Memref sig .tc .vmem S512x4096 .bf16) (harg3 : arg3.IsWhole) (arg4 : Memref sig .tc .vmem S2080x128 .f32) (harg4 : arg4.IsWhole) (arg5 : Memref sig .tc .vmem S2080x128 .f32) (harg5 : arg5.IsWhole) (arg6 : Memref sig .tc .vmem S2080x512 .f32) (harg6 : arg6.IsWhole) (hc0 : ¬cond0_0 i) (hc1 : cond0_1 i) (hc2 : ¬cond0_2 i)
    (x0 : Vec Ideal S2080x4096 .bf16) (x1 : Vec Ideal S512x4096 .bf16) (x2 : Vec Ideal S2080x128 .f32) (x3 : Vec Ideal S2080x128 .f32) (y : S2080x512.Idx) :
    out0_C_4 (F := Ideal) c i arg2 harg2 arg3 harg3 arg4 harg4 arg5 harg5 arg6 harg6 hc0 hc1 hc2 x0 x1 x2 x3 y = (fun y : S2080x512.Idx => (Ideal.logistic (acc x0 x1 (y 0) (y 1)) : EReal)) y := by
  unfold out0_C_4
  exact View.read_writes_apply_of_pieces VO0_4 _ (fun y : S2080x512.Idx => (Ideal.logistic (acc x0 x1 (y 0) (y 1)) : EReal)) _ (piecesC c i arg2 harg2 arg3 harg3 arg4 harg4 arg5 harg5 arg6 harg6 hc0 hc1 hc2 x0 x1 x2 x3) y (cover0_C_4 c i arg2 harg2 arg3 harg3 arg4 harg4 arg5 harg5 arg6 harg6 hc0 hc1 hc2 x0 x1 x2 x3 y)

theorem final : (dats m 0 c).arrAt 4 cfg0.N = fun i => OUT (H m c) (W m c) (i 0) (i 1).val := by
  refine (dats m 0 c).arrAt_eq_of_covers 4 _ (by decide +kernel) fun t hf y => ?_
  blk_simp
  idx_vars y
  have hr := y0.isLt
  have hn := y1.isLt
  have hN : t.val < 164 := lt_of_lt_of_eq t.isLt (show cfg0.N = 164 from N_0)
  have e0 : ((win0_4.blk t).view.emb (ix2 y0 y1) 0).val = t.val / 41 * 2080 + y0.val := by
    blk_simp [idx4 t]
  have e1 : win0_4.index t 1 = t.val % 41 := by rw [idx4 t]; rfl
  rw [e1]
  generalize hR : (win0_4.blk t).view.emb (ix2 y0 y1) 0 = R
  rw [hR] at e0
  rw [after0_4]
  by_cases h0 : (t.val % 41 = 0 ∨ t.val % 41 = 1 ∨ t.val % 41 = 3 ∨ t.val % 41 = 4 ∨ t.val % 41 = 6 ∨ t.val % 41 = 7)
  · have h1 : ¬25 ≤ t.val % 41 := by omega
    rw [outsAt0_A m c t h0 h1 (by omega), outA_at]
    unfold OUT
    rw [if_pos ⟨by omega, by omega⟩]
    unfold rope
    refine Ideal.add_congr (Ideal.mul_congr (acc_at m c t y0 y1 R e0 _ (by rw [if_neg h1, Nat.add_zero]))
        ((blk2_at m c t y0 _ R e0).trans (congrArg (cosT R) ?_)))
      (Ideal.mul_congr (acc_at m c t y0 (partner y1) R e0 _ ?_) ((blk3_at m c t y0 _ R e0).trans (congrArg (sinT R) ?_)))
    · show y1.val % 128 = _
      omega
    · rw [if_neg h1]
      unfold pn partner
      split_ifs with h3 h4 h4
      · show _ = _ + (y1.val / 128 * 128 + (y1.val % 128 + 16)) % 512
        omega
      · exfalso; omega
      · exfalso; omega
      · show _ = _ + (y1.val - 16)
        omega
    · show y1.val % 128 = _
      omega
  · by_cases h1 : 25 ≤ t.val % 41
    · rw [outsAt0_C m c t h0 h1 (by omega), outC_at]
      unfold OUT
      rw [if_neg (by omega), if_neg (by omega)]
      exact congrArg Ideal.logistic (acc_at m c t y0 y1 R e0 _ (by rw [if_pos h1]; omega))
    · rw [outsAt0_B m c t h0 h1 (by omega), outB_at]
      unfold OUT
      rw [if_neg (by omega), if_pos (by omega)]
      exact acc_at m c t y0 y1 R e0 _ (by rw [if_neg h1, Nat.add_zero])

end Cert.Proj

end
-- ==== Proof.Proj.Claim.lean ====
/- The input projection's value claim: the kernel's array and the reference's are the same entries. -/
module

public import proofs.«01_k».proof.Defs
public import proofs.«01_k».proof.Proof.Proj.Value
public import proofs.«01_k».proof.Proof.Gen.KernelIdeal
public import proofs.«01_k».proof.Proof.Gen.ReferenceIdeal

@[expose] public section

set_option maxRecDepth 16384

noncomputable section

namespace Cert.Proj

open Idealize.ShloMosaic Idealize.SL.Sem

theorem algebraic :
    Cert.algebraic_KernelIdeal_ReferenceIdeal (hKernelIdeal := Cert.KernelIdeal.Gen.facts) (hReferenceIdeal := Cert.ReferenceIdeal.Gen.facts) := by
  intro m ρ m' ρ' _ hagree
  refine ⟨fun c => fun i => OUT (H m c) (W m c) (i 0) (i 1).val,
    (θ_run Cert.KernelIdeal.defs _ _).mono (fun r h c => ⟨(h c).1.trans (final m c), (h c).2.1, (h c).2.2⟩)
      (Cert.KernelIdeal.Value.run_blocks (F := Ideal) m ρ),
    (θ_run Cert.ReferenceIdeal.defs _ _).mono (fun r h c => ⟨(h c).1.trans ?_, (h c).2.1, (h c).2.2⟩)
      (Cert.ReferenceIdeal.Value.run (F := Ideal) m' ρ')⟩
  rw [Cert.ReferenceIdeal.Read.val_main_v95_eq, (hagree c).1, (hagree c).2]
  funext i
  idx_vars i
  exact ref_at _ _ _ _

end Cert.Proj

end
-- ==== Proof.Down.Claim.lean ====
/- The down projection's value claim: activations times weights, added to the residual rows. -/
module

public import proofs.«01_k».proof.Defs
public import proofs.«01_k».proof.Proof.Gen.Kernel3Ideal.Value
public import proofs.«01_k».proof.Proof.Gen.Reference3Ideal.Run
public import Idealize.ShloMosaic.Lib.Pipeline.ValueKit.Point
public import Idealize.ShloMosaic.Lib.Claim
public import Idealize.ShloMosaic.Lib.StableHlo.RunRead
public import Idealize.ShloMosaic.Lib.Pointwise

@[expose] public section

set_option maxRecDepth 16384

noncomputable section

namespace Cert.Down

open Idealize.ShloMosaic Idealize.ShloMosaic.TcCoe Cert.Kernel3Ideal Cert.Kernel3Ideal.Gen Cert.Kernel3Ideal.Value
open Idealize.SL.Sem Idealize.ShloMosaic.Pipeline Idealize.ShloMosaic.StableHlo

variable (m : (ℓ : Loc nD τ sig) → Buf (Elt Ideal) ℓ) (c : Dev nD)

/-- The activations, as launched. -/
abbrev A : S8320x11008.Idx → EReal := m ((c : Thread nD τ).loc main_arg0)
/-- The weights, as launched. -/
abbrev W : S1x11008x4096.Idx → EReal := m ((c : Thread nD τ).loc main_arg1)
/-- The residual rows, as launched. -/
abbrev X : S8320x4096.Idx → EReal := m ((c : Thread nD τ).loc main_arg2)

/-- Entry `(r, n)` of the residual plus the product. -/
def out (a : S8320x11008.Idx → EReal) (w : S1x11008x4096.Idx → EReal) (x : S8320x4096.Idx → EReal) (r : Fin 8320) (n : Fin 4096) : EReal :=
  x (ix2 r n) + ∑ k : Fin 11008, a (ix2 r k) * w (ix3 0 k n)

theorem idx0 : ∀ t : Fin cfg0.N, win0_0.index t = ![t.val / 8, 0] :=
  (by decide +kernel : ∀ t : Fin grid0.N, _)
theorem idx1 : ∀ t : Fin cfg0.N, win0_1.index t = ![0, t.val % 8] :=
  (by decide +kernel : ∀ t : Fin grid0.N, _)
theorem idx2 : ∀ t : Fin cfg0.N, win0_2.index t = ![t.val / 8, t.val % 8] :=
  (by decide +kernel : ∀ t : Fin grid0.N, _)
theorem idx3 : ∀ t : Fin cfg0.N, win0_3.index t = ![t.val / 8, t.val % 8] :=
  (by decide +kernel : ∀ t : Fin grid0.N, _)

theorem V1_at (k : Fin 11008) (n : Fin 4096) : V m c main_v1 (ix2 k n) = W m c (ix3 0 k n) := by
  entry_read
  pointwise

theorem blk0_at (t : Fin cfg0.N) (r : Fin 640) (k : Fin 11008) (R : Fin 8320) (hR : R.val = t.val / 8 * 640 + r.val) :
    iblk m c 0 t (ix2 r k) = A m c (ix2 R k) := by
  rw [show A m c = V m c main_arg0 from (V_main_arg0 m c).symm]
  blk_ext [iblk, idx0 t]

theorem blk1_at (t : Fin cfg0.N) (k : Fin 11008) (n : Fin 512) (N : Fin 4096) (hN : N.val = t.val % 8 * 512 + n.val) :
    iblk m c 1 t (ix2 k n) = W m c (ix3 0 k N) := by
  rw [← V1_at m c k N]
  blk_ext [iblk, idx1 t]

theorem blk2_at (t : Fin cfg0.N) (r : Fin 640) (n : Fin 512) (R : Fin 8320) (hR : R.val = t.val / 8 * 640 + r.val)
    (N : Fin 4096) (hN : N.val = t.val % 8 * 512 + n.val) : iblk m c 2 t (ix2 r n) = X m c (ix2 R N) := by
  rw [show X m c = V m c main_arg2 from (V_main_arg2 m c).symm]
  blk_ext [iblk, idx2 t]

set_option maxRecDepth 262144 in
/-- What a tile holds. -/
theorem tile_at (x0 : Vec Ideal S640x11008 .bf16) (x1 : Vec Ideal S11008x512 .bf16) (x2 : Vec Ideal S640x512 .f32) (r : Fin 640) (n : Fin 512) :
    out0_3 (F := Ideal) x0 x1 x2 (ix2 r n) = x2 (ix2 r n) + ∑ k : Fin 11008, x0 (ix2 r k) * x1 (ix2 k n) := by
  have hz : (![0, 0] : Fin 2 → ℕ) = fun _ => 0 := by decide
  unfold out0_3
  rw [View.canon_unit_zero hz]
  unfold_payloads
  rw [View.ld_unit_zero hz, View.ld_unit_zero hz, View.ld_unit_zero hz]
  pointwise

theorem final : (dats m 0 c).arrAt 3 cfg0.N = fun i => out (A m c) (W m c) (X m c) (i 0) (i 1) := by
  refine (dats m 0 c).arrAt_eq_of_covers 3 _ (by decide +kernel) fun t hf y => ?_
  blk_simp
  idx_vars y
  have e0 : ((win0_3.blk t).view.emb (ix2 y0 y1) 0).val = t.val / 8 * 640 + y0.val := by
    blk_simp [idx3 t]
  have e1 : ((win0_3.blk t).view.emb (ix2 y0 y1) 1).val = t.val % 8 * 512 + y1.val := by
    blk_simp [idx3 t]
  generalize hR : (win0_3.blk t).view.emb (ix2 y0 y1) 0 = R at *
  generalize hN : (win0_3.blk t).view.emb (ix2 y0 y1) 1 = N at *
  rw [after0_3, tile_at]
  exact Ideal.add_congr (blk2_at m c t y0 y1 R e0 N e1)
    (Finset.sum_congr rfl fun k _ => Ideal.mul_congr (blk0_at m c t y0 k R e0) (blk1_at m c t k y1 N e1))

set_option maxRecDepth 262144 in
/-- What the reference writes. -/
theorem ref_at (a : Vec Ideal S8320x11008 .bf16) (w : Vec Ideal S1x11008x4096 .f32) (x : Vec Ideal S8320x4096 .f32) (r : Fin 8320) (n : Fin 4096) :
    (addf x (Host.dotGeneral (F := Ideal) (φ₁ := .f32) (φ₂ := .f32) Cert.Reference3Ideal.dot_S8320x11008_S11008x4096_S8320x4096_1_0_0_1_n_n none (extf (φ := .bf16) .f32 a (by decide)) (shapeCast (α := Ideal .f32) S11008x4096 w Cert.Reference3Ideal.Gen.shapeCasts_S1x11008x4096_S11008x4096))) (ix2 r n) = out a w x r n := by
  pointwise [out]

theorem algebraic :
    Cert.algebraic_Kernel3Ideal_Reference3Ideal (hKernel3Ideal := Cert.Kernel3Ideal.Gen.facts) (hReference3Ideal := Cert.Reference3Ideal.Gen.facts) := by
  intro m ρ m' ρ' _ hagree
  refine ⟨fun c => fun i => out (A m c) (W m c) (X m c) (i 0) (i 1),
    (θ_run Cert.Kernel3Ideal.defs _ _).mono (fun r h c => ⟨(h c).1.trans (final m c), (h c).2.1, (h c).2.2.1, (h c).2.2.2⟩)
      (Cert.Kernel3Ideal.Value.run_blocks (F := Ideal) m ρ),
    (θ_run Cert.Reference3Ideal.defs _ _).mono (fun r h c => ⟨(h c).1.trans ?_, (h c).2.1, (h c).2.2.1, (h c).2.2.2⟩)
      (Cert.Reference3Ideal.Value.run (F := Ideal) m' ρ')⟩
  rw [(hagree c).1, (hagree c).2.1, (hagree c).2.2]
  funext i
  idx_vars i
  exact ref_at _ _ _ _ _

end Cert.Down

end
-- ==== Proof.Delta.Head.lean ====
/- One head of one chunk of the recurrence, as the kernel computes it, over any float values: the same operations for
   each of the sixteen heads. -/
module

public import proofs.«01_k».proof.Proof.Gen.Kernel2Ideal.Skeleton

@[expose] public section

set_option maxRecDepth 16384

noncomputable section

namespace Cert.Delta

open Idealize.ShloMosaic Cert.Kernel2Ideal Cert.Kernel2Ideal.Gen

variable {F : FTy → Type} [FloatOps F]

/-- A product of two 128 × 128 blocks, without rounding of the result. -/
def mmOp (a b : FVec F S128x128 .bf16) : FVec F S128x128 .f32 :=
  matmul dot_S128x128_S128x128_S128x128_1_0_0_1_n_n none a b (constant S128x128 .f32 0x00000000#32)

/-- The narrow format's copy of a block. -/
def bf (a : FVec F S128x128 .f32) : FVec F S128x128 .bf16 := truncf .bf16 a bitsLt_bf16_f32

/-- The zero block. -/
def zeroOp : FVec F S128x128 .f32 := broadcast S128x128 (Scalar.ofBits .f32 0x00000000#32)

/-- One tap of the convolution. -/
def tapOp (x : Vec F S128x128 .f32) (w : Vec F S1x128 .f32) : FVec F S128x128 .f32 :=
  mulf x (broadcastTo S128x128 (shapeCast S1x128 w shapeCasts_S1x128_S1x128) broadcasts_S1x128_S128x128)

def siluOp (a : FVec F S128x128 .f32) : FVec F S128x128 .f32 := mulf a (logistic a)

/-- The four taps and the activation. -/
def convOp (x0 : Vec F S128x128 .f32) (w0 : Vec F S1x128 .f32) (x1 : Vec F S128x128 .f32) (w1 : Vec F S1x128 .f32)
    (x2 : Vec F S128x128 .f32) (w2 : Vec F S1x128 .f32) (x3 : Vec F S128x128 .f32) (w3 : Vec F S1x128 .f32) : FVec F S128x128 .f32 :=
  siluOp (addf (addf (addf (tapOp x0 w0) (tapOp x1 w1)) (tapOp x2 w2)) (tapOp x3 w3))

/-- The sum of a row's squares, as a column. -/
def sqsumOp (a : FVec F S128x128 .f32) : FVec F S128x1 .f32 :=
  shapeCast S128x1 (multiReduction .add [1] S128 (mulf a a) 0x00000000#32 reduces_S128x128_S128 (.inl rfl) rfl) shapeCasts_S128_S128x1

/-- A row divided by its length. -/
def l2nOp (a : FVec F S128x128 .f32) : FVec F S128x128 .f32 :=
  mulf a (broadcastTo S128x128 (rsqrt (addf (sqsumOp a) (broadcast S128x1 (Scalar.ofBits .f32 0x358637BD#32)))) broadcasts_S128x1_S128x128)

/-- The queries' scale. -/
def scaleOp (a : FVec F S128x128 .f32) : FVec F S128x128 .f32 := mulf a (broadcast S128x128 (Scalar.ofBits .f32 0x3DB504F3#32))

/-- A row of the per-head table, in every row of a block. -/
def rowOp (r : ℕ) (hr : S128x128.Slices ![r, 0] S1x128) (p : FVec F S128x128 .f32) : FVec F S128x128 .f32 :=
  broadcastTo S128x128 (shapeCast S1x128 (extractStridedSlice S1x128 ![r, 0] p hr) shapeCasts_S1x128_S1x128) broadcasts_S1x128_S128x128

def transOp (a : FVec F S128x128 .f32) : FVec F S128x128 .f32 := transpose S128x128 [1, 0] a transposes_S128x128_p1_0_S128x128

def rowI : IVec S128x128 32 := iota .tc S128x128 32 [0] iota_S128x128_d0_w32
def colI : IVec S128x128 32 := iota .tc S128x128 32 [1] iota_S128x128_d1_w32
def trilM : IVec S128x128 1 := cmpi .sle colI rowI
def strictM : IVec S128x128 1 := cmpi .slt colI rowI
def eyeOp : FVec F S128x128 .f32 := sitofp .f32 (extui 32 (cmpi .eq colI rowI) natLt_1_32)
/-- Two indices lie in the same block of `2 ^ s`. -/
def blkM (s : BitVec 32) : IVec S128x128 1 := cmpi .eq (shrsi rowI (broadcast S128x128 s)) (shrsi colI (broadcast S128x128 s))
/-- They lie in the same block of `2 ^ s'`, but not of `2 ^ s`. -/
def selM (s' s : BitVec 32) : IVec S128x128 1 := andi (blkM s') (xori (blkM s) (constantI S128x128 1 1#1))

/-- Keys and queries against keys. -/
def kqOp (kb q k : FVec F S128x128 .f32) : FVec F S256x128 .f32 :=
  matmul dot_S256x128_S128x128_S256x128_1_1_0_0_n_n none
    (concatenate S256x128 0 [⟨S128x128, bf kb⟩, ⟨S128x128, bf q⟩] concatenates_S128x128_S128x128_S256x128_d0) (bf k)
    (constant S256x128 .f32 0x00000000#32)

def decayOp (gc gct : FVec F S128x128 .f32) : FVec F S128x128 .f32 :=
  exp (select trilM (subf gc gct) (broadcast S128x128 (Scalar.ofBits .f32 0xFF800000#32)))

def aOp (kq : FVec F S256x128 .f32) (dc : FVec F S128x128 .f32) : FVec F S128x128 .f32 :=
  select strictM (mulf (extractStridedSlice S128x128 ![0, 0] kq slices_S256x128_o0_0_S128x128) dc) zeroOp

def qkOp (kq : FVec F S256x128 .f32) (dc : FVec F S128x128 .f32) : FVec F S128x128 .bf16 :=
  bf (mulf (extractStridedSlice S128x128 ![128, 0] kq slices_S256x128_o128_0_S128x128) dc)

/-- The next power in the base blocks' series … -/
def sqOp (p : FVec F S128x128 .bf16) : FVec F S128x128 .bf16 := bf (mmOp p p)
/-- … and the next factor. -/
def growOp (t : FVec F S128x128 .f32) (p : FVec F S128x128 .bf16) : FVec F S128x128 .f32 := addf t (mmOp (bf t) p)

def baseOp (a : FVec F S128x128 .f32) : FVec F S128x128 .f32 :=
  let d := select (blkM 4#32) a zeroOp
  let p1 := sqOp (bf d)
  let p2 := sqOp p1
  let p3 := sqOp p2
  growOp (growOp (growOp (subf eyeOp d) p1) p2) p3

/-- One step of the merging of neighbouring blocks. -/
def mergeOp (s' s : BitVec 32) (a t : FVec F S128x128 .f32) : FVec F S128x128 .f32 :=
  let tb := bf t
  subf t (mmOp tb (bf (mmOp (bf (select (selM s' s) a zeroOp)) tb)))

def invOp (a : FVec F S128x128 .f32) : FVec F S128x128 .f32 :=
  mergeOp 7#32 6#32 a (mergeOp 6#32 5#32 a (mergeOp 5#32 4#32 a (baseOp a)))

def uwOp (t v β kb eg : FVec F S128x128 .f32) : FVec F S128x256 .f32 :=
  matmul dot_S128x128_S128x256_S128x256_1_0_0_1_n_n none (bf t)
    (concatenate S128x256 1 [⟨S128x128, bf (mulf v β)⟩, ⟨S128x128, bf (mulf kb eg)⟩] concatenates_S128x128_S128x128_S128x256_d1)
    (constant S128x256 .f32 0x00000000#32)

def wsOp (uw : FVec F S128x256 .f32) (q eg s : FVec F S128x128 .f32) : FVec F S256x128 .f32 :=
  matmul dot_S256x128_S128x128_S256x128_1_0_0_1_n_n none
    (concatenate S256x128 0 [⟨S128x128, bf (extractStridedSlice S128x128 ![0, 128] uw slices_S128x256_o0_128_S128x128)⟩, ⟨S128x128, bf (mulf q eg)⟩] concatenates_S128x128_S128x128_S256x128_d0)
    (bf s) (constant S256x128 .f32 0x00000000#32)

def vOp (uw : FVec F S128x256 .f32) (ws : FVec F S256x128 .f32) : FVec F S128x128 .bf16 :=
  bf (subf (extractStridedSlice S128x128 ![0, 0] uw slices_S128x256_o0_0_S128x128) (extractStridedSlice S128x128 ![0, 0] ws slices_S256x128_o0_0_S128x128))

def oOp (ws : FVec F S256x128 .f32) (qk vb : FVec F S128x128 .bf16) : FVec F S128x128 .f32 :=
  addf (extractStridedSlice S128x128 ![128, 0] ws slices_S256x128_o128_0_S128x128) (mmOp qk vb)

def lastOp (gc : FVec F S128x128 .f32) : FVec F S1x128 .f32 := extractStridedSlice S1x128 ![127, 0] gc slices_S128x128_o127_0_S1x128

def kdOp (k gc : FVec F S128x128 .f32) : FVec F S128x128 .bf16 :=
  bf (mulf k (exp (subf (broadcastTo S128x128 (lastOp gc) broadcasts_S1x128_S128x128) gc)))

def sOp (s gc : FVec F S128x128 .f32) (kd vb : FVec F S128x128 .bf16) : FVec F S128x128 .f32 :=
  addf (mulf s (broadcastTo S128x128 (exp (lastOp gc)) broadcasts_S1x128_S128x128))
    (matmul dot_S128x128_S128x128_S128x128_0_0_1_1_n_n none kd vb (constant S128x128 .f32 0x00000000#32))

/-- The gated norm of a head's output. -/
def outOp (o : FVec F S128x128 .f32) (z : Vec F S128x128 .f32) (nw : Vec F S1x128 .f32) : FVec F S128x128 .bf16 :=
  bf (mulf (mulf (mulf o (broadcastTo S128x128 (rsqrt (addf (divf (sqsumOp o) (broadcast S128x1 (Scalar.ofBits .f32 0x43000000#32))) (broadcast S128x1 (Scalar.ofBits .f32 0x358637BD#32)))) broadcasts_S128x1_S128x128))
    (broadcastTo S128x128 nw broadcasts_S1x128_S128x128)) (siluOp z))

/-- The two products with the inverse, from a head's keys, values and gates. -/
def uwHead (q k v β gc gct : FVec F S128x128 .f32) : FVec F S128x256 .f32 :=
  uwOp (invOp (aOp (kqOp (mulf k β) q k) (decayOp gc gct))) v β (mulf k β) (exp gc)

def wsHead (q k v β gc gct s : FVec F S128x128 .f32) : FVec F S256x128 .f32 :=
  wsOp (uwHead q k v β gc gct) q (exp gc) s

def vHead (q k v β gc gct s : FVec F S128x128 .f32) : FVec F S128x128 .bf16 :=
  vOp (uwHead q k v β gc gct) (wsHead q k v β gc gct s)

/-- A head's output over a chunk. -/
def oHead (q k v β gc gct s : FVec F S128x128 .f32) : FVec F S128x128 .f32 :=
  oOp (wsHead q k v β gc gct s) (qkOp (kqOp (mulf k β) q k) (decayOp gc gct)) (vHead q k v β gc gct s)

/-- A head's state after a chunk. -/
def sHead (q k v β gc gct s : FVec F S128x128 .f32) : FVec F S128x128 .f32 :=
  sOp s gc (kdOp k gc) (vHead q k v β gc gct s)

section Loads

/-- What the body reads: the convolution's rows, shifted by nothing (`L0`) or starting at row `r` of the buffer (`Ls`),
    its weights (`W`), the states (`SL`), the gates' inputs (`ZL`, `nw`) and the table of rates and decays (`ph`). -/
structure Loads (F : FTy → Type) where
  L0 : (c0 : ℕ) → c0 + 128 ≤ 6144 → Vec F S128x128 .f32
  Ls : (r c0 : ℕ) → r + 128 ≤ 136 → c0 + 128 ≤ 6144 → Vec F S128x128 .f32
  W : (r c0 : ℕ) → r + 1 ≤ 4 → c0 + 128 ≤ 6144 → Vec F S1x128 .f32
  SL : (h : ℕ) → h + 1 ≤ 16 → Vec F S1x128x128 .f32
  ZL : (c0 : ℕ) → c0 + 128 ≤ 2048 → Vec F S128x128 .f32
  nw : Vec F S1x128 .f32
  ph : FVec F S128x128 .f32

variable (L : Loads F)

def Loads.conv (c0 : ℕ) (hc : c0 + 128 ≤ 6144) : FVec F S128x128 .f32 :=
  convOp (L.L0 c0 hc) (L.W 3 c0 (by decide) hc) (L.Ls 7 c0 (by decide) hc) (L.W 2 c0 (by decide) hc)
    (L.Ls 6 c0 (by decide) hc) (L.W 1 c0 (by decide) hc) (L.Ls 5 c0 (by decide) hc) (L.W 0 c0 (by decide) hc)

variable (h : ℕ) (hh : h + 1 ≤ 16)

def Loads.q : FVec F S128x128 .f32 := scaleOp (l2nOp (L.conv (128 * h) (by omega)))
def Loads.k : FVec F S128x128 .f32 := l2nOp (L.conv (2048 + 128 * h) (by omega))
def Loads.v : FVec F S128x128 .f32 := L.conv (4096 + 128 * h) (by omega)

theorem slices_row (r : ℕ) (hr : r + 1 ≤ 128) : S128x128.Slices ![r, 0] S1x128 := by
  refine ⟨rfl, fun a => ?_⟩
  match a with
  | 0 => exact hr
  | 1 => exact Nat.le_refl _

def Loads.gct : FVec F S128x128 .f32 := rowOp (16 + h) (slices_row _ (by omega)) L.ph
def Loads.gc : FVec F S128x128 .f32 := transOp (L.gct h hh)
def Loads.β : FVec F S128x128 .f32 := transOp (rowOp h (slices_row _ (by omega)) L.ph)
def Loads.s : FVec F S128x128 .f32 := shapeCast S128x128 (L.SL h hh) shapeCasts_S1x128x128_S128x128

/-- The state a head leaves … -/
def Loads.st : FVec F S1x128x128 .f32 :=
  shapeCast S1x128x128 (sHead (L.q h hh) (L.k h hh) (L.v h hh) (L.β h hh) (L.gc h hh) (L.gct h hh) (L.s h hh)) shapeCasts_S128x128_S1x128x128

/-- … and the output it writes. -/
def Loads.out : FVec F S128x128 .bf16 :=
  outOp (oHead (L.q h hh) (L.k h hh) (L.v h hh) (L.β h hh) (L.gc h hh) (L.gct h hh) (L.s h hh)) (L.ZL (128 * h) (by omega)) L.nw

end Loads

end Cert.Delta

end
-- ==== Proof.Delta.Body.lean ====
/- What the recurrence's body stores, piece by piece. -/
module

public import proofs.«01_k».proof.Proof.Delta.Head
public import Idealize.ShloMosaic.Lib.Pipeline.Value
public import Idealize.ShloMosaic.Lib.Pointwise

@[expose] public section

set_option maxRecDepth 16384

noncomputable section

namespace Cert.Delta

open Idealize.ShloMosaic Idealize.ShloMosaic.TcCoe Cert.Kernel2Ideal Cert.Kernel2Ideal.Gen

variable {F : FTy → Type} [FloatOps F]

theorem fitBuf (r c0 : ℕ) (hr : r + 128 ≤ 136) (hc : c0 + 128 ≤ 6144) :
    ∀ a, (![r, c0] : Fin 2 → ℕ) a + S128x128.size a ≤ S136x6144.size a := Fin.forall_fin_two.mpr ⟨hr, hc⟩
theorem fitW (r c0 : ℕ) (hr : r + 1 ≤ 4) (hc : c0 + 128 ≤ 6144) :
    ∀ a, (![r, c0] : Fin 2 → ℕ) a + S1x128.size a ≤ S4x6144.size a := Fin.forall_fin_two.mpr ⟨hr, hc⟩
theorem fitZ (c0 : ℕ) (hc : c0 + 128 ≤ 2048) :
    ∀ a, (![0, c0] : Fin 2 → ℕ) a + S128x128.size a ≤ S128x2048.size a := Fin.forall_fin_two.mpr ⟨Nat.le_refl _, hc⟩
theorem fitS (h : ℕ) (hh : h + 1 ≤ 16) :
    ∀ a, (![h, 0, 0] : Fin 3 → ℕ) a + S1x128x128.size a ≤ S16x128x128.size a := fun a =>
  match a with
  | 0 => hh
  | 1 => Nat.le_refl _
  | 2 => Nat.le_refl _

abbrev rBuf (r c0 : ℕ) (hr : r + 128 ≤ 136) (hc : c0 + 128 ≤ 6144) : Rect S136x6144 := Rect.unit ![r, c0] S128x128.size (fitBuf r c0 hr hc)
abbrev rW (r c0 : ℕ) (hr : r + 1 ≤ 4) (hc : c0 + 128 ≤ 6144) : Rect S4x6144 := Rect.unit ![r, c0] S1x128.size (fitW r c0 hr hc)
abbrev rZ (c0 : ℕ) (hc : c0 + 128 ≤ 2048) : Rect S128x2048 := Rect.unit ![0, c0] S128x128.size (fitZ c0 hc)
abbrev rS (h : ℕ) (hh : h + 1 ≤ 16) : Rect S16x128x128 := Rect.unit ![h, 0, 0] S1x128x128.size (fitS h hh)
abbrev rX : Rect S128x6144 := Rect.unit ![0, 0] S128x6144.size inb_S128x6144_S128x6144_0_0
abbrev rT : Rect S128x128 := Rect.unit ![0, 0] S128x128.size inb_S128x128_S128x128_0_0
abbrev rR : Rect S1x128 := Rect.unit ![0, 0] S1x128.size inb_S1x128_S1x128_0_0

/-- The chunk's rows, stored behind the halo … -/
abbrev pcX (x : Vec F S128x6144 .f32) : View.Piece (Elt F) S136x6144 .f32 :=
  ⟨Rect.unit ![8, 0] S128x6144.size inb_S136x6144_S128x6144_8_0, k0_pay57 x⟩
/-- … the halo at the start … -/
abbrev pcZ : View.Piece (Elt F) S136x6144 .f32 := ⟨Rect.unit ![0, 0] S8x6144.size inb_S136x6144_S8x6144_0_0, k0_pay3⟩
/-- … and the next chunk's. -/
abbrev pcH (x : Vec F S8x6144 .f32) : View.Piece (Elt F) S136x6144 .f32 := ⟨Rect.unit ![0, 0] S8x6144.size inb_S136x6144_S8x6144_0_0, k0_pay154 x⟩
abbrev rH : Rect S136x6144 := Rect.unit ![128, 0] S8x6144.size inb_S136x6144_S8x6144_128_0
/-- The states at the start. -/
abbrev pcS : View.Piece (Elt F) S16x128x128 .f32 := ⟨Rect.unit ![0, 0, 0] S16x128x128.size inb_S16x128x128_S16x128x128_0_0_0, k0_pay2⟩

/-- One head's stores. -/
abbrev pieceS (L : Loads F) (h : ℕ) (hh : h + 1 ≤ 16) : View.Piece (Elt F) S16x128x128 .f32 := ⟨rS h hh, L.st h hh⟩
abbrev pieceO (L : Loads F) (h : ℕ) (hh : h + 1 ≤ 16) : View.Piece (Elt F) S128x2048 .bf16 := ⟨rZ (128 * h) (by omega), L.out h hh⟩

/-- All heads' stores, the last one first. -/
abbrev allS (L : Loads F) : List (View.Piece (Elt F) S16x128x128 .f32) :=
  [pieceS L 15 (by decide), pieceS L 14 (by decide), pieceS L 13 (by decide), pieceS L 12 (by decide), pieceS L 11 (by decide), pieceS L 10 (by decide), pieceS L 9 (by decide), pieceS L 8 (by decide),
    pieceS L 7 (by decide), pieceS L 6 (by decide), pieceS L 5 (by decide), pieceS L 4 (by decide), pieceS L 3 (by decide), pieceS L 2 (by decide), pieceS L 1 (by decide), pieceS L 0 (by decide)]
abbrev allO (L : Loads F) : List (View.Piece (Elt F) S128x2048 .bf16) :=
  [pieceO L 15 (by decide), pieceO L 14 (by decide), pieceO L 13 (by decide), pieceO L 12 (by decide), pieceO L 11 (by decide), pieceO L 10 (by decide), pieceO L 9 (by decide), pieceO L 8 (by decide),
    pieceO L 7 (by decide), pieceO L 6 (by decide), pieceO L 5 (by decide), pieceO L 4 (by decide), pieceO L 3 (by decide), pieceO L 2 (by decide), pieceO L 1 (by decide), pieceO L 0 (by decide)]

section

variable (arg1 : Memref sig .tc .vmem S128x6144 .f32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4x6144 .f32) (harg7 : arg7.IsWhole) (arg8 : Memref sig .tc .vmem S1x128 .f32) (harg8 : arg8.IsWhole) (arg11 : Memref sig .tc .vmem S16x128x128 .f32) (harg11 : arg11.IsWhole) (arg12 : Memref sig .tc .vmem S136x6144 .f32) (harg12 : arg12.IsWhole)
  (x0 : Vec F S128x6144 .f32) (x1 : Vec F S128x2048 .f32) (x2 : Vec F S128x128 .f32) (x3 : Vec F S1x128 .f32) (x4 : Vec F S1x128 .f32) (x5 : Vec F S128x128 .f32) (x6 : Vec F S4x6144 .f32) (x7 : Vec F S1x128 .f32) (xs0 : Vec F S16x128x128 .f32) (xs1 : Vec F S136x6144 .f32)

/-- The table of rates and decays, from what the body loads. -/
abbrev phRaw : FVec F S128x128 .f32 :=
  k0_pay7 (View.readAt (Elt F) arg3.view rT.toLoadRect (harg3.unread x2)) (View.readAt (Elt F) arg5.view rR.toLoadRect (harg5.unread x4))
    (View.readAt (Elt F) arg6.view rT.toLoadRect (harg6.unread x5)) (View.readAt (Elt F) arg4.view rR.toLoadRect (harg4.unread x3))

/-- What the body reads at the first chunk … -/
def loadsA : Loads F where
  L0 c0 hc := arg12.view.readCov [pcX (View.readAt (Elt F) arg1.view rX.toLoadRect (harg1.unread x0)), pcZ] (rBuf 8 c0 (by decide) hc).toLoadRect
  Ls r c0 hr hc := arg12.view.readCov [pcX (View.readAt (Elt F) arg1.view rX.toLoadRect (harg1.unread x0)), pcZ] (rBuf r c0 hr hc).toLoadRect
  W r c0 hr hc := View.readAt (Elt F) arg7.view (rW r c0 hr hc).toLoadRect (harg7.unread x6)
  SL h hh := arg11.view.readCov [pcS] (rS h hh).toLoadRect
  ZL c0 hc := View.readAt (Elt F) arg2.view (rZ c0 hc).toLoadRect (harg2.unread x1)
  nw := View.readAt (Elt F) arg8.view rR.toLoadRect (harg8.unread x7)
  ph := phRaw arg3 harg3 arg4 harg4 arg5 harg5 arg6 harg6 x2 x3 x4 x5

/-- … and at the later ones. -/
def loadsB : Loads F where
  L0 c0 hc := arg12.view.readCov [pcX (View.readAt (Elt F) arg1.view rX.toLoadRect (harg1.unread x0))] (rBuf 8 c0 (by decide) hc).toLoadRect
  Ls r c0 hr hc := View.readAt (Elt F) arg12.view (rBuf r c0 hr hc).toLoadRect (arg12.view.writes (Elt F) (harg12.unread xs1) [pcX (View.readAt (Elt F) arg1.view rX.toLoadRect (harg1.unread x0))])
  W r c0 hr hc := View.readAt (Elt F) arg7.view (rW r c0 hr hc).toLoadRect (harg7.unread x6)
  SL h hh := View.readAt (Elt F) arg11.view (rS h hh).toLoadRect (harg11.unread xs0)
  ZL c0 hc := View.readAt (Elt F) arg2.view (rZ c0 hc).toLoadRect (harg2.unread x1)
  nw := View.readAt (Elt F) arg8.view rR.toLoadRect (harg8.unread x7)
  ph := phRaw arg3 harg3 arg4 harg4 arg5 harg5 arg6 harg6 x2 x3 x4 x5

/-- The pieces of the buffer of rows: the chunk's, then its last eight rows as the next halo. -/
abbrev allBuf : List (View.Piece (Elt F) S136x6144 .f32) :=
  [pcH (arg12.view.readCov [pcX (View.readAt (Elt F) arg1.view rX.toLoadRect (harg1.unread x0))] rH.toLoadRect),
    pcX (View.readAt (Elt F) arg1.view rX.toLoadRect (harg1.unread x0))]
/-- … over the zeros of the first chunk's halo. -/
abbrev allBufA : List (View.Piece (Elt F) S136x6144 .f32) :=
  [pcH (arg12.view.readCov [pcX (View.readAt (Elt F) arg1.view rX.toLoadRect (harg1.unread x0)), pcZ] rH.toLoadRect),
    pcX (View.readAt (Elt F) arg1.view rX.toLoadRect (harg1.unread x0)), pcZ]

end

end Cert.Delta

end
-- ==== Proof.Delta.RunA.lean ====
/- The pieces the body stores at a first chunk are the heads' ones. -/
module

public import proofs.«01_k».proof.Proof.Delta.Body
public import proofs.«01_k».proof.Proof.Gen.Kernel2Ideal.Frame.RunA

@[expose] public section

set_option maxRecDepth 16384
set_option maxHeartbeats 4000000

noncomputable section

namespace Cert.Delta

open Idealize.ShloMosaic Idealize.ShloMosaic.TcCoe Cert.Kernel2Ideal Cert.Kernel2Ideal.Gen

variable {F : FTy → Type} [FloatOps F]

variable (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4x6144 .f32) (harg7 : arg7.IsWhole) (arg8 : Memref sig .tc .vmem S1x128 .f32) (harg8 : arg8.IsWhole) (arg9 : Memref sig .tc .vmem S128x2048 .bf16) (harg9 : arg9.IsWhole) (arg10 : Memref sig .tc .vmem S16x128x128 .f32) (harg10 : arg10.IsWhole) (arg11 : Memref sig .tc .vmem S16x128x128 .f32) (harg11 : arg11.IsWhole) (arg12 : Memref sig .tc .vmem S136x6144 .f32) (harg12 : arg12.IsWhole) (hc0 : cond0_0 i) (hc1 : ¬cond0_1 i)
    (x0 : Vec F S128x6144 .f32) (x1 : Vec F S128x2048 .f32) (x2 : Vec F S128x128 .f32) (x3 : Vec F S1x128 .f32) (x4 : Vec F S1x128 .f32) (x5 : Vec F S128x128 .f32) (x6 : Vec F S4x6144 .f32) (x7 : Vec F S1x128 .f32)

theorem runA_out :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).1 =
      allO (loadsA arg1 harg1 arg2 harg2 arg3 harg3 arg4 harg4 arg5 harg5 arg6 harg6 arg7 harg7 arg8 harg8 arg11 arg12 x0 x1 x2 x3 x4 x5 x6 x7) := by
  unfold kernelRun0_A
  dsimp only
  sl_unfold_run_names
  rfl

theorem runA_state :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.1 =
      allS (loadsA arg1 harg1 arg2 harg2 arg3 harg3 arg4 harg4 arg5 harg5 arg6 harg6 arg7 harg7 arg8 harg8 arg11 arg12 x0 x1 x2 x3 x4 x5 x6 x7) ++ [pcS] := by
  unfold kernelRun0_A
  dsimp only
  sl_unfold_run_names
  rfl

theorem runA_buf :
    (kernelRun0_A c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7).2.2.2.1 = allBufA arg1 harg1 arg12 x0 := by
  unfold kernelRun0_A
  dsimp only
  sl_unfold_run_names
  rfl

end Cert.Delta

end
-- ==== Proof.Delta.RunB.lean ====
/- The pieces the body stores at a middle chunk are the heads' ones. -/
module

public import proofs.«01_k».proof.Proof.Delta.Body
public import proofs.«01_k».proof.Proof.Gen.Kernel2Ideal.Frame.RunB

@[expose] public section

set_option maxRecDepth 16384
set_option maxHeartbeats 4000000

noncomputable section

namespace Cert.Delta

open Idealize.ShloMosaic Idealize.ShloMosaic.TcCoe Cert.Kernel2Ideal Cert.Kernel2Ideal.Gen

variable {F : FTy → Type} [FloatOps F]

variable (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4x6144 .f32) (harg7 : arg7.IsWhole) (arg8 : Memref sig .tc .vmem S1x128 .f32) (harg8 : arg8.IsWhole) (arg9 : Memref sig .tc .vmem S128x2048 .bf16) (harg9 : arg9.IsWhole) (arg10 : Memref sig .tc .vmem S16x128x128 .f32) (harg10 : arg10.IsWhole) (arg11 : Memref sig .tc .vmem S16x128x128 .f32) (harg11 : arg11.IsWhole) (arg12 : Memref sig .tc .vmem S136x6144 .f32) (harg12 : arg12.IsWhole) (hc0 : ¬cond0_0 i) (hc1 : ¬cond0_1 i)
    (x0 : Vec F S128x6144 .f32) (x1 : Vec F S128x2048 .f32) (x2 : Vec F S128x128 .f32) (x3 : Vec F S1x128 .f32) (x4 : Vec F S1x128 .f32) (x5 : Vec F S128x128 .f32) (x6 : Vec F S4x6144 .f32) (x7 : Vec F S1x128 .f32) (xs0 : Vec F S16x128x128 .f32) (xs1 : Vec F S136x6144 .f32)

theorem runB_out :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 =
      allO (loadsB arg1 harg1 arg2 harg2 arg3 harg3 arg4 harg4 arg5 harg5 arg6 harg6 arg7 harg7 arg8 harg8 arg11 harg11 arg12 harg12 x0 x1 x2 x3 x4 x5 x6 x7 xs0 xs1) := by
  unfold kernelRun0_B
  dsimp only
  sl_unfold_run_names
  rfl

theorem runB_state :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 =
      allS (loadsB arg1 harg1 arg2 harg2 arg3 harg3 arg4 harg4 arg5 harg5 arg6 harg6 arg7 harg7 arg8 harg8 arg11 harg11 arg12 harg12 x0 x1 x2 x3 x4 x5 x6 x7 xs0 xs1) := by
  unfold kernelRun0_B
  dsimp only
  sl_unfold_run_names
  rfl

theorem runB_buf :
    (kernelRun0_B c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.2.1 = allBuf arg1 harg1 arg12 x0 := by
  unfold kernelRun0_B
  dsimp only
  sl_unfold_run_names
  rfl

end Cert.Delta

end
-- ==== Proof.Delta.RunC.lean ====
/- The pieces the body stores at a last chunk are the heads' ones. -/
module

public import proofs.«01_k».proof.Proof.Delta.Body
public import proofs.«01_k».proof.Proof.Gen.Kernel2Ideal.Frame.RunC

@[expose] public section

set_option maxRecDepth 16384
set_option maxHeartbeats 4000000

noncomputable section

namespace Cert.Delta

open Idealize.ShloMosaic Idealize.ShloMosaic.TcCoe Cert.Kernel2Ideal Cert.Kernel2Ideal.Gen

variable {F : FTy → Type} [FloatOps F]

variable (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4x6144 .f32) (harg7 : arg7.IsWhole) (arg8 : Memref sig .tc .vmem S1x128 .f32) (harg8 : arg8.IsWhole) (arg9 : Memref sig .tc .vmem S128x2048 .bf16) (harg9 : arg9.IsWhole) (arg10 : Memref sig .tc .vmem S16x128x128 .f32) (harg10 : arg10.IsWhole) (arg11 : Memref sig .tc .vmem S16x128x128 .f32) (harg11 : arg11.IsWhole) (arg12 : Memref sig .tc .vmem S136x6144 .f32) (harg12 : arg12.IsWhole) (hc0 : ¬cond0_0 i) (hc1 : cond0_1 i)
    (x0 : Vec F S128x6144 .f32) (x1 : Vec F S128x2048 .f32) (x2 : Vec F S128x128 .f32) (x3 : Vec F S1x128 .f32) (x4 : Vec F S1x128 .f32) (x5 : Vec F S128x128 .f32) (x6 : Vec F S4x6144 .f32) (x7 : Vec F S1x128 .f32) (xs0 : Vec F S16x128x128 .f32) (xs1 : Vec F S136x6144 .f32)

theorem runC_out :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).1 =
      allO (loadsB arg1 harg1 arg2 harg2 arg3 harg3 arg4 harg4 arg5 harg5 arg6 harg6 arg7 harg7 arg8 harg8 arg11 harg11 arg12 harg12 x0 x1 x2 x3 x4 x5 x6 x7 xs0 xs1) := by
  unfold kernelRun0_C
  dsimp only
  sl_unfold_run_names
  rfl

theorem runC_state :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.1 =
      allS (loadsB arg1 harg1 arg2 harg2 arg3 harg3 arg4 harg4 arg5 harg5 arg6 harg6 arg7 harg7 arg8 harg8 arg11 harg11 arg12 harg12 x0 x1 x2 x3 x4 x5 x6 x7 xs0 xs1) := by
  unfold kernelRun0_C
  dsimp only
  sl_unfold_run_names
  rfl

theorem runC_buf :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.2.2.1 = allBuf arg1 harg1 arg12 x0 := by
  unfold kernelRun0_C
  dsimp only
  sl_unfold_run_names
  rfl

theorem runC_last :
    (kernelRun0_C c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1).2.1 =
      [⟨Rect.unit ![0, 0, 0] S16x128x128.size inb_S16x128x128_S16x128x128_0_0_0,
        arg11.view.readCov (allS (loadsB arg1 harg1 arg2 harg2 arg3 harg3 arg4 harg4 arg5 harg5 arg6 harg6 arg7 harg7 arg8 harg8 arg11 harg11 arg12 harg12 x0 x1 x2 x3 x4 x5 x6 x7 xs0 xs1)) (Rect.unit (s := S16x128x128) ![0, 0, 0] S16x128x128.size inb_S16x128x128_S16x128x128_0_0_0).toLoadRect⟩] := by
  unfold kernelRun0_C
  dsimp only
  sl_unfold_run_names
  rfl

end Cert.Delta

end
-- ==== Proof.Delta.Mask.lean ====
/- The masks of the recurrence: below the diagonal, on it, and in the same blocks. -/
module

public import proofs.«01_k».proof.Proof.Delta.Head
public import Idealize.ShloMosaic.Lib.Pipeline.ValueKit.Point
public import Idealize.ShloMosaic.Lib.Pointwise

@[expose] public section

set_option maxRecDepth 16384

noncomputable section

namespace Cert.Delta

open Idealize.ShloMosaic Cert.Kernel2Ideal Cert.Kernel2Ideal.Gen

theorem bit_ne {p : Prop} [Decidable p] {α : Type} (a b : α) : Scalar.select (if p then 1#1 else 0#1) a b = if p then a else b := by
  unfold Scalar.select
  by_cases h : p
  · rw [if_pos h, if_pos h]; rfl
  · rw [if_neg h, if_neg h]; rfl

theorem tril_at (i j : Fin 128) : trilM (ix2 i j) = if j ≤ i then 1#1 else 0#1 := by
  unfold trilM rowI colI
  pointwise
  exact (by decide +kernel : ∀ i j : Fin 128, IntOp.cmpi CmpIPredicate.sle (BitVec.ofNat 32 j.val) (BitVec.ofNat 32 i.val) = if j ≤ i then 1#1 else 0#1) i j

theorem strict_at (i j : Fin 128) : strictM (ix2 i j) = if j < i then 1#1 else 0#1 := by
  unfold strictM rowI colI
  pointwise
  exact (by decide +kernel : ∀ i j : Fin 128, IntOp.cmpi CmpIPredicate.slt (BitVec.ofNat 32 j.val) (BitVec.ofNat 32 i.val) = if j < i then 1#1 else 0#1) i j

theorem eye_at (i j : Fin 128) : (BitVec.setWidth 32 (IntOp.cmpi CmpIPredicate.eq (BitVec.ofNat 32 j.val) (BitVec.ofNat 32 i.val))).toInt = if i = j then 1 else 0 :=
  (by decide +kernel : ∀ i j : Fin 128, (BitVec.setWidth 32 (IntOp.cmpi CmpIPredicate.eq (BitVec.ofNat 32 j.val) (BitVec.ofNat 32 i.val))).toInt = if i = j then 1 else 0) i j

theorem blk4_at (i j : Fin 128) : blkM 4#32 (ix2 i j) = if i.val / 16 = j.val / 16 then 1#1 else 0#1 := by
  unfold blkM rowI colI
  pointwise
  exact (by decide +kernel : ∀ i j : Fin 128, IntOp.cmpi CmpIPredicate.eq (IntOp.shrsi ArithUnit.vector (BitVec.ofNat 32 i.val) 4#32)
      (IntOp.shrsi ArithUnit.vector (BitVec.ofNat 32 j.val) 4#32) = if i.val / 16 = j.val / 16 then 1#1 else 0#1) i j

theorem sel5_at (i j : Fin 128) : selM 5#32 4#32 (ix2 i j) = if i.val / (2 * 16) = j.val / (2 * 16) ∧ ¬ i.val / 16 = j.val / 16 then 1#1 else 0#1 := by
  unfold selM blkM rowI colI
  pointwise
  exact (by decide +kernel : ∀ i j : Fin 128, IntOp.andi
      (IntOp.cmpi CmpIPredicate.eq (IntOp.shrsi ArithUnit.vector (BitVec.ofNat 32 i.val) 5#32) (IntOp.shrsi ArithUnit.vector (BitVec.ofNat 32 j.val) 5#32))
      (IntOp.xori (IntOp.cmpi CmpIPredicate.eq (IntOp.shrsi ArithUnit.vector (BitVec.ofNat 32 i.val) 4#32) (IntOp.shrsi ArithUnit.vector (BitVec.ofNat 32 j.val) 4#32)) 1#1) =
    if i.val / 32 = j.val / 32 ∧ ¬ i.val / 16 = j.val / 16 then 1#1 else 0#1) i j

theorem sel6_at (i j : Fin 128) : selM 6#32 5#32 (ix2 i j) = if i.val / (2 * 32) = j.val / (2 * 32) ∧ ¬ i.val / 32 = j.val / 32 then 1#1 else 0#1 := by
  unfold selM blkM rowI colI
  pointwise
  exact (by decide +kernel : ∀ i j : Fin 128, IntOp.andi
      (IntOp.cmpi CmpIPredicate.eq (IntOp.shrsi ArithUnit.vector (BitVec.ofNat 32 i.val) 6#32) (IntOp.shrsi ArithUnit.vector (BitVec.ofNat 32 j.val) 6#32))
      (IntOp.xori (IntOp.cmpi CmpIPredicate.eq (IntOp.shrsi ArithUnit.vector (BitVec.ofNat 32 i.val) 5#32) (IntOp.shrsi ArithUnit.vector (BitVec.ofNat 32 j.val) 5#32)) 1#1) =
    if i.val / 64 = j.val / 64 ∧ ¬ i.val / 32 = j.val / 32 then 1#1 else 0#1) i j

theorem sel7_at (i j : Fin 128) : selM 7#32 6#32 (ix2 i j) = if i.val / (2 * 64) = j.val / (2 * 64) ∧ ¬ i.val / 64 = j.val / 64 then 1#1 else 0#1 := by
  unfold selM blkM rowI colI
  pointwise
  exact (by decide +kernel : ∀ i j : Fin 128, IntOp.andi
      (IntOp.cmpi CmpIPredicate.eq (IntOp.shrsi ArithUnit.vector (BitVec.ofNat 32 i.val) 7#32) (IntOp.shrsi ArithUnit.vector (BitVec.ofNat 32 j.val) 7#32))
      (IntOp.xori (IntOp.cmpi CmpIPredicate.eq (IntOp.shrsi ArithUnit.vector (BitVec.ofNat 32 i.val) 6#32) (IntOp.shrsi ArithUnit.vector (BitVec.ofNat 32 j.val) 6#32)) 1#1) =
    if i.val / 128 = j.val / 128 ∧ ¬ i.val / 64 = j.val / 64 then 1#1 else 0#1) i j

end Cert.Delta

end
-- ==== Proof.Delta.Inverse.lean ====
/- The inverse of a unit lower triangular matrix by 16-blocks and three merges, over the reals. -/
module

public import Mathlib.Data.Matrix.Mul
public import Mathlib.Data.Real.Basic
public import Mathlib.Tactic.NoncommRing
public import Mathlib.Tactic.Ring
public import Mathlib.Tactic.Linarith

@[expose] public section

noncomputable section

namespace Cert.Delta

abbrev M := Matrix (Fin 128) (Fin 128) ℝ

/-- The entries of `a` whose row and column lie in the same block of `s`. -/
def blk (s : ℕ) (a : M) : M := fun i j => if i.val / s = j.val / s then a i j else 0

/-- The entries in the same block of `2 s` but not of `s`. -/
def off (s : ℕ) (a : M) : M := fun i j => if i.val / (2 * s) = j.val / (2 * s) ∧ ¬ i.val / s = j.val / s then a i j else 0

/-- Three doublings of the geometric sum from `1 - d`. -/
def base (d : M) : M :=
  let t0 := 1 - d
  let p1 := d * d
  let t1 := t0 + t0 * p1
  let p2 := p1 * p1
  let t2 := t1 + t1 * p2
  let p3 := p2 * p2
  t2 + t2 * p3

/-- One merge of neighbouring blocks. -/
def merge (s : ℕ) (a t : M) : M := t - t * (off s a * t)

/-- The whole inverse. -/
def inv (a : M) : M := merge 64 a (merge 32 a (merge 16 a (base (blk 16 a))))

/-- Strictly below the diagonal. -/
def Strict (a : M) : Prop := ∀ i j : Fin 128, ¬ j < i → a i j = 0

/-- No entry outside the blocks of `s`. -/
def Diag (s : ℕ) (t : M) : Prop := ∀ i j : Fin 128, i.val / s ≠ j.val / s → t i j = 0

theorem Diag.mul {s : ℕ} {a b : M} (ha : Diag s a) (hb : Diag s b) : Diag s (a * b) := by
  intro i j hij
  rw [Matrix.mul_apply]
  refine Finset.sum_eq_zero fun k _ => ?_
  by_cases h : i.val / s = k.val / s
  · rw [hb k j (h ▸ hij), mul_zero]
  · rw [ha i k h, zero_mul]

theorem Diag.one (s : ℕ) : Diag s 1 := by
  intro i j hij
  exact Matrix.one_apply_ne (fun h => hij (by rw [h]))

theorem Diag.sub {s : ℕ} {a b : M} (ha : Diag s a) (hb : Diag s b) : Diag s (a - b) := by
  intro i j hij
  rw [Matrix.sub_apply, ha i j hij, hb i j hij, sub_zero]

theorem Diag.add {s : ℕ} {a b : M} (ha : Diag s a) (hb : Diag s b) : Diag s (a + b) := by
  intro i j hij
  rw [Matrix.add_apply, ha i j hij, hb i j hij, add_zero]

theorem Diag.double {s : ℕ} {a : M} (ha : Diag s a) : Diag (2 * s) a := by
  intro i j hij
  refine ha i j fun h => hij ?_
  rw [mul_comm, ← Nat.div_div_eq_div_mul, ← Nat.div_div_eq_div_mul, h]

theorem diag_blk (s : ℕ) (a : M) : Diag s (blk s a) := fun i j h => if_neg h

/-- A power of a strictly lower triangular block: its entries lie at least that far below the diagonal. -/
theorem pow_far {a : M} (ha : Strict a) (n : ℕ) (i j : Fin 128) :
    ¬ (i.val / 16 = j.val / 16 ∧ j.val + n ≤ i.val) → (blk 16 a ^ n) i j = 0 := by
  induction n generalizing i j with
  | zero =>
    intro h
    rw [pow_zero]
    refine Matrix.one_apply_ne fun e => h ?_
    subst e; exact ⟨rfl, le_rfl⟩
  | succ n ih =>
    intro h
    rw [pow_succ, Matrix.mul_apply]
    refine Finset.sum_eq_zero fun k _ => ?_
    by_cases h1 : i.val / 16 = k.val / 16 ∧ k.val + n ≤ i.val
    · have : blk 16 a k j = 0 := by
        unfold blk
        split_ifs with h2
        · refine ha k j fun h3 => h ⟨h1.1.trans h2, ?_⟩
          have := Fin.lt_def.mp h3
          omega
        · rfl
      rw [this, mul_zero]
    · rw [ih i k h1, zero_mul]

theorem base_inv {a : M} (ha : Strict a) : base (blk 16 a) * (1 + blk 16 a) = 1 := by
  have h16 : (blk 16 a) ^ 16 = 0 := by
    ext i j
    rw [Matrix.zero_apply]
    refine pow_far ha 16 i j ?_
    omega
  have : base (blk 16 a) * (1 + blk 16 a) = 1 - blk 16 a ^ 16 := by
    unfold base
    noncomm_ring
  rw [this, h16, sub_zero]

theorem base_diag (a : M) : Diag 16 (base (blk 16 a)) := by
  have hd := diag_blk 16 a
  have h1 := Diag.one 16
  unfold base
  have t0 := h1.sub hd
  have p1 := hd.mul hd
  have t1 := t0.add (t0.mul p1)
  have p2 := p1.mul p1
  have t2 := t1.add (t1.mul p2)
  have p3 := p2.mul p2
  exact t2.add (t2.mul p3)

theorem off_diag (s : ℕ) (a : M) : Diag (2 * s) (off s a) := fun i j h => if_neg fun h' => h h'.1

/-- Through a block-diagonal matrix an off-block entry leads to no other one. -/
theorem off_mul_off {s : ℕ} (hs : 0 < s) {a t : M} (ha : Strict a) (ht : Diag s t) : off s a * t * off s a = 0 := by
  ext i j
  rw [Matrix.zero_apply, Matrix.mul_apply]
  refine Finset.sum_eq_zero fun k _ => ?_
  rw [Matrix.mul_apply, Finset.sum_mul]
  refine Finset.sum_eq_zero fun l _ => ?_
  by_contra hne
  have h1 : off s a i l ≠ 0 := fun h => hne (by rw [h, zero_mul, zero_mul])
  have h2 : t l k ≠ 0 := fun h => hne (by rw [h, mul_zero, zero_mul])
  have h3 : off s a k j ≠ 0 := fun h => hne (by rw [h, mul_zero])
  have lk : l.val / s = k.val / s := by
    by_contra h; exact h2 (ht l k h)
  have key : ∀ x y : Fin 128, off s a x y ≠ 0 → x.val / (2 * s) = y.val / (2 * s) ∧ y.val / s < x.val / s := by
    intro x y h
    unfold off at h
    split_ifs at h with h4
    · refine ⟨h4.1, lt_of_le_of_ne ?_ fun e => h4.2 e.symm⟩
      have : y < x := by
        by_contra h5; exact h (ha x y h5)
      exact Nat.div_le_div_right (le_of_lt (Fin.lt_def.mp this))
    · exact absurd rfl h
  obtain ⟨e1, l1⟩ := key i l h1
  obtain ⟨e3, l3⟩ := key k j h3
  rw [mul_comm, ← Nat.div_div_eq_div_mul, ← Nat.div_div_eq_div_mul] at e1 e3
  omega

theorem blk_double {s : ℕ} (a : M) : blk (2 * s) a = blk s a + off s a := by
  ext i j
  rw [Matrix.add_apply]
  unfold blk off
  by_cases h : i.val / s = j.val / s
  · have : i.val / (2 * s) = j.val / (2 * s) := by
      rw [mul_comm, ← Nat.div_div_eq_div_mul, ← Nat.div_div_eq_div_mul, h]
    simp [h, this]
  · simp [h]

theorem merge_inv {s : ℕ} (hs : 0 < s) {a t : M} (ha : Strict a) (ht : Diag s t) (hi : t * (1 + blk s a) = 1) :
    merge s a t * (1 + blk (2 * s) a) = 1 := by
  have h0 := off_mul_off hs ha ht
  rw [blk_double]
  unfold merge
  have : (t - t * (off s a * t)) * (1 + (blk s a + off s a))
      = t * (1 + blk s a) + t * off s a - t * off s a * (t * (1 + blk s a)) - t * (off s a * t * off s a) := by
    noncomm_ring
  rw [this, hi, h0]
  noncomm_ring

theorem merge_diag {s : ℕ} {a t : M} (ht : Diag s t) : Diag (2 * s) (merge s a t) :=
  ht.double.sub (ht.double.mul ((off_diag s a).mul ht.double))

theorem inv_mul {a : M} (ha : Strict a) : inv a * (1 + a) = 1 := by
  have h16 := base_inv ha
  have d16 := base_diag a
  have h32 := merge_inv (by norm_num) ha d16 h16
  have d32 := merge_diag (a := a) d16
  have h64 := merge_inv (by norm_num) ha d32 h32
  have d64 := merge_diag (a := a) d32
  have h128 := merge_inv (by norm_num) ha d64 h64
  have e : blk (2 * (2 * (2 * 16))) a = a := by
    ext i j
    exact if_pos (by omega)
  rw [e] at h128
  exact h128

end Cert.Delta

end
-- ==== Proof.Delta.Chunk.lean ====
/- One chunk of the gated delta rule in closed form against its tokens one by one, over the reals, for one head. -/
module

public import proofs.«01_k».proof.Proof.Delta.Inverse
public import Mathlib.Analysis.SpecialFunctions.Exp

@[expose] public section

noncomputable section

namespace Cert.Delta

/-- What one token writes: `β (v - kᵀ e^g S)`. -/
def vnew (k v : Fin 128 → ℝ) (β g : ℝ) (S : M) : Fin 128 → ℝ := fun e => β * (v e - ∑ d, k d * (S d e * Real.exp g))

/-- One token's step of the state. -/
def stepS (k v : Fin 128 → ℝ) (β g : ℝ) (S : M) : M := fun d e => S d e * Real.exp g + k d * vnew k v β g S e

/-- One token's output, before its norm. -/
def stepO (q : Fin 128 → ℝ) (S : M) : Fin 128 → ℝ := fun e => ∑ d, q d * S d e

/-- The state before token `n`. -/
def St (k v : ℕ → Fin 128 → ℝ) (β g : ℕ → ℝ) (S0 : M) : ℕ → M
  | 0 => S0
  | n + 1 => stepS (k n) (v n) (β n) (g n) (St k v β g S0 n)

/-! ## A chunk in closed form -/

def decay (gc : Fin 128 → ℝ) : M := fun i j => if j ≤ i then Real.exp (gc i - gc j) else 0

def kbeta (K : M) (β : Fin 128 → ℝ) : M := fun i d => K i d * β i

def amat (K : M) (β gc : Fin 128 → ℝ) : M := fun i j => if j < i then (∑ d, kbeta K β i d * K j d) * decay gc i j else 0

def pmat (Q K : M) (gc : Fin 128 → ℝ) : M := fun i j => (∑ d, Q i d * K j d) * decay gc i j

def scaleR (X : M) (gc : Fin 128 → ℝ) : M := fun i d => X i d * Real.exp (gc i)

/-- What the chunk's tokens write, as rows. -/
def vmat (K V : M) (β gc : Fin 128 → ℝ) (S0 : M) : M :=
  inv (amat K β gc) * (kbeta V β) - inv (amat K β gc) * scaleR (kbeta K β) gc * S0

def omat (Q K V : M) (β gc : Fin 128 → ℝ) (S0 : M) : M :=
  scaleR Q gc * S0 + pmat Q K gc * vmat K V β gc S0

def kdmat (K : M) (gc : Fin 128 → ℝ) : M := fun i d => K i d * Real.exp (gc 127 - gc i)

def smat (K V : M) (β gc : Fin 128 → ℝ) (S0 : M) : M :=
  fun d e => S0 d e * Real.exp (gc 127) + ∑ i, kdmat K gc i d * vmat K V β gc S0 i e

section
variable (k v : ℕ → Fin 128 → ℝ) (β g : ℕ → ℝ) (S0 : M)

/-- The cumulative log decay before token `n`. -/
def G : ℕ → ℝ := fun n => ∑ j ∈ Finset.range n, g j

/-- What token `n` writes. -/
def vn (n : ℕ) : Fin 128 → ℝ := vnew (k n) (v n) (β n) (g n) (St k v β g S0 n)

theorem St_closed (n : ℕ) (d e : Fin 128) :
    St k v β g S0 n d e = S0 d e * Real.exp (G g n)
      + ∑ j ∈ Finset.range n, Real.exp (G g n - G g (j + 1)) * (k j d * vn k v β g S0 j e) := by
  induction n with
  | zero => simp [St, G]
  | succ n ih =>
    have hG : G g (n + 1) = G g n + g n := by unfold G; rw [Finset.sum_range_succ]
    show St k v β g S0 n d e * Real.exp (g n) + k n d * vn k v β g S0 n e = _
    rw [ih, Finset.sum_range_succ, sub_self, Real.exp_zero, one_mul, add_mul, Finset.sum_mul, ← add_assoc]
    congr 1
    congr 1
    · rw [hG, Real.exp_add]; ring
    · refine Finset.sum_congr rfl fun j _ => ?_
      rw [hG, show G g n + g n - G g (j + 1) = (G g n - G g (j + 1)) + g n by ring, Real.exp_add]; ring

end

/-- A sum over the tokens up to `i` as one over all of them. -/
theorem sum_below (f : ℕ → ℝ) (i : ℕ) (hi : i ≤ 128) :
    ∑ j ∈ Finset.range i, f j = ∑ j : Fin 128, if j.val < i then f j.val else 0 := by
  rw [Fin.sum_univ_eq_sum_range (fun j => if j < i then f j else 0) 128, ← Finset.sum_filter]
  refine Finset.sum_congr ?_ fun _ _ => rfl
  ext j; simp only [Finset.mem_range, Finset.mem_filter]; omega

section
variable (k v : ℕ → Fin 128 → ℝ) (β g : ℕ → ℝ) (S0 : M)

abbrev Km : M := fun i d => k i.val d
abbrev βm : Fin 128 → ℝ := fun i => β i.val
abbrev gm : Fin 128 → ℝ := fun i => G g (i.val + 1)

theorem vn_solves (i e : Fin 128) :
    vn k v β g S0 i.val e + ∑ j, amat (Km k) (βm β) (gm g) i j * vn k v β g S0 j.val e
      = kbeta (Km v) (βm β) i e - ∑ d, scaleR (kbeta (Km k) (βm β)) (gm g) i d * S0 d e := by
  have hG : ∀ n, G g (n + 1) = G g n + g n := fun n => by unfold G; rw [Finset.sum_range_succ]
  have h1 : vn k v β g S0 i.val e = β i.val * (v i.val e
      - ∑ d, k i.val d * ((S0 d e * Real.exp (G g i.val)
          + ∑ j ∈ Finset.range i.val, Real.exp (G g i.val - G g (j + 1)) * (k j d * vn k v β g S0 j e)) * Real.exp (g i.val))) := by
    conv_lhs => unfold vn vnew
    simp only [St_closed]
  have h2 : ∑ d, k i.val d * ((S0 d e * Real.exp (G g i.val)
          + ∑ j ∈ Finset.range i.val, Real.exp (G g i.val - G g (j + 1)) * (k j d * vn k v β g S0 j e)) * Real.exp (g i.val))
      = ∑ d, k i.val d * Real.exp (G g (i.val + 1)) * S0 d e
        + ∑ j : Fin 128, (if j < i then (∑ d, k i.val d * k j.val d) * Real.exp (G g (i.val + 1) - G g (j.val + 1)) * vn k v β g S0 j.val e else 0) := by
    have : ∀ d, k i.val d * ((S0 d e * Real.exp (G g i.val)
          + ∑ j ∈ Finset.range i.val, Real.exp (G g i.val - G g (j + 1)) * (k j d * vn k v β g S0 j e)) * Real.exp (g i.val))
        = k i.val d * Real.exp (G g (i.val + 1)) * S0 d e
          + ∑ j : Fin 128, (if j < i then k i.val d * k j.val d * Real.exp (G g (i.val + 1) - G g (j.val + 1)) * vn k v β g S0 j.val e else 0) := by
      intro d
      rw [add_mul, Finset.sum_mul, mul_add, Finset.mul_sum, sum_below _ _ (le_of_lt i.isLt)]
      congr 1
      · rw [hG, Real.exp_add]; ring
      · refine Finset.sum_congr rfl fun j _ => ?_
        by_cases hj : j < i
        · rw [if_pos hj, if_pos (Fin.lt_def.mp hj), hG i.val,
            show G g i.val + g i.val - G g (j.val + 1) = (G g i.val - G g (j.val + 1)) + g i.val by ring, Real.exp_add]; ring
        · rw [if_neg hj, if_neg (fun h => hj (Fin.lt_def.mpr h))]
    rw [Finset.sum_congr rfl fun d _ => this d, Finset.sum_add_distrib, Finset.sum_comm]
    congr 1
    refine Finset.sum_congr rfl fun j _ => ?_
    by_cases hj : j < i
    · simp only [if_pos hj, Finset.sum_mul]
    · simp only [if_neg hj, Finset.sum_const_zero]
  rw [h1, h2, mul_sub, mul_add, Finset.mul_sum, Finset.mul_sum]
  have h3 : ∑ j : Fin 128, amat (Km k) (βm β) (gm g) i j * vn k v β g S0 j.val e
      = ∑ j : Fin 128, β i.val * (if j < i then (∑ d, k i.val d * k j.val d) * Real.exp (G g (i.val + 1) - G g (j.val + 1)) * vn k v β g S0 j.val e else 0) := by
    refine Finset.sum_congr rfl fun j _ => ?_
    unfold amat decay kbeta
    by_cases hj : j < i
    · rw [if_pos hj, if_pos (le_of_lt hj), if_pos hj]
      have : ∑ d, Km k i d * βm β i * Km k j d = β i.val * ∑ d, k i.val d * k j.val d := by
        rw [Finset.mul_sum]; exact Finset.sum_congr rfl fun d _ => by ring
      rw [this]; ring
    · rw [if_neg hj, if_neg hj, zero_mul, mul_zero]
  have h4 : ∑ d, scaleR (kbeta (Km k) (βm β)) (gm g) i d * S0 d e
      = ∑ d, β i.val * (k i.val d * Real.exp (G g (i.val + 1)) * S0 d e) :=
    Finset.sum_congr rfl fun d _ => by unfold scaleR kbeta; ring
  rw [h3, h4]
  unfold kbeta
  ring

/-- What the chunk's closed form writes is what its tokens write one by one. -/
theorem vmat_eq (i e : Fin 128) : vmat (Km k) (Km v) (βm β) (gm g) S0 i e = vn k v β g S0 i.val e := by
  let W : M := fun i e => vn k v β g S0 i.val e
  have hs : Strict (amat (Km k) (βm β) (gm g)) := fun i j h => if_neg h
  have h : (1 + amat (Km k) (βm β) (gm g)) * W
      = kbeta (Km v) (βm β) - scaleR (kbeta (Km k) (βm β)) (gm g) * S0 := by
    rw [add_mul, one_mul]
    ext i e
    exact vn_solves k v β g S0 i e
  have h2 := congrArg (fun X => inv (amat (Km k) (βm β) (gm g)) * X) h
  rw [← mul_assoc, inv_mul hs, one_mul, mul_sub, ← mul_assoc] at h2
  unfold vmat
  rw [← h2]

theorem omat_eq (q : ℕ → Fin 128 → ℝ) (i e : Fin 128) :
    omat (Km q) (Km k) (Km v) (βm β) (gm g) S0 i e = stepO (q i.val) (St k v β g S0 (i.val + 1)) e := by
  unfold omat stepO
  rw [Matrix.add_apply, Matrix.mul_apply, Matrix.mul_apply]
  simp only [vmat_eq, St_closed, mul_add, Finset.sum_add_distrib, Finset.mul_sum]
  congr 1
  · exact Finset.sum_congr rfl fun d _ => by unfold scaleR; ring
  · have : ∀ d, ∑ j ∈ Finset.range (i.val + 1), q i.val d * (Real.exp (G g (i.val + 1) - G g (j + 1)) * (k j d * vn k v β g S0 j e))
        = ∑ j : Fin 128, if j ≤ i then q i.val d * (Real.exp (G g (i.val + 1) - G g (j.val + 1)) * (k j.val d * vn k v β g S0 j.val e)) else 0 := by
      intro d
      rw [sum_below _ _ i.isLt]
      refine Finset.sum_congr rfl fun j _ => ?_
      by_cases hj : j ≤ i
      · rw [if_pos hj, if_pos (Nat.lt_succ_of_le (Fin.le_def.mp hj))]
      · rw [if_neg hj, if_neg (fun h => hj (Fin.le_def.mpr (Nat.le_of_lt_succ h)))]
    rw [Finset.sum_congr rfl fun d _ => this d, Finset.sum_comm]
    refine Finset.sum_congr rfl fun j _ => ?_
    unfold pmat decay
    by_cases hj : j ≤ i
    · simp only [if_pos hj, Finset.sum_mul]
      exact Finset.sum_congr rfl fun d _ => by ring
    · simp only [if_neg hj, Finset.sum_const_zero, mul_zero, zero_mul]

theorem smat_eq (d e : Fin 128) :
    smat (Km k) (Km v) (βm β) (gm g) S0 d e = St k v β g S0 128 d e := by
  unfold smat
  rw [St_closed, sum_below _ _ le_rfl]
  congr 1
  refine Finset.sum_congr rfl fun j _ => ?_
  rw [if_pos j.isLt, vmat_eq]
  unfold kdmat
  show k j.val d * Real.exp (G g 128 - G g (j.val + 1)) * _ = _
  ring

end

end Cert.Delta

end
-- ==== Proof.Delta.Lift.lean ====
/- Over real entries, the kernel's blocks are matrices: each operation on blocks is the matrices' one. -/
module

public import proofs.«01_k».proof.Proof.Delta.Mask
public import proofs.«01_k».proof.Proof.Delta.Chunk
public import Idealize.ShloMosaic.Lib.Pipeline.ValueKit.Point
public import Idealize.ShloMosaic.Lib.Pointwise

@[expose] public section

set_option maxRecDepth 16384

noncomputable section

namespace Cert.Delta

open Idealize.ShloMosaic Cert.Kernel2Ideal Cert.Kernel2Ideal.Gen

/-- A real matrix as a block. -/
def Mx (A : M) : S128x128.Idx → EReal := fun i => ((A (i 0) (i 1) : ℝ) : EReal)

theorem Mx_at (A : M) (i j : Fin 128) : Mx A (ix2 i j) = ((A i j : ℝ) : EReal) := rfl

/-- Entry by entry. -/
def had (A B : M) : M := fun i j => A i j * B i j
def expM (A : M) : M := fun i j => Real.exp (A i j)
def keep (p : Fin 128 → Fin 128 → Prop) [∀ i j, Decidable (p i j)] (A : M) : M := fun i j => if p i j then A i j else 0
/-- Rows against rows. -/
def dotT (A B : M) : M := fun i j => ∑ d, A i d * B j d

/-- Columns against columns. -/
def tdot (A B : M) : M := fun d e => ∑ i, A i d * B i e

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem bf_mx (A : M) : bf (F := Ideal) (Mx A) = Mx A := by
  funext i
  idx_vars i
  unfold bf
  pointwise

theorem mm_mx (A B : M) : mmOp (F := Ideal) (Mx A) (Mx B) = Mx (A * B) := by
  funext i
  idx_vars i
  unfold mmOp
  pointwise
  simp only [Mx_at, Matrix.mul_apply, coe_sum, EReal.coe_mul]

theorem zero_mx : zeroOp (F := Ideal) = Mx 0 := by
  funext i
  idx_vars i
  unfold zeroOp
  pointwise
  simp only [Mx_at, Matrix.zero_apply, EReal.coe_zero]

theorem sub_mx (A B : M) : subf (F := Ideal) (φ := .f32) (Mx A) (Mx B) = Mx (A - B) := by
  funext i
  idx_vars i
  pointwise
  simp only [Mx_at, Matrix.sub_apply, EReal.coe_sub]

theorem add_mx (A B : M) : addf (F := Ideal) (φ := .f32) (Mx A) (Mx B) = Mx (A + B) := by
  funext i
  idx_vars i
  pointwise
  simp only [Mx_at, Matrix.add_apply, EReal.coe_add]

theorem mul_mx (A B : M) : mulf (F := Ideal) (φ := .f32) (Mx A) (Mx B) = Mx (had A B) := by
  funext i
  idx_vars i
  pointwise
  exact (EReal.coe_mul _ _).symm

theorem exp_mx (A : M) : exp (F := Ideal) (φ := .f32) (Mx A) = Mx (expM A) := by
  funext i
  idx_vars i
  pointwise
  exact Ideal.exp_coe _

theorem eye_mx : eyeOp (F := Ideal) = Mx 1 := by
  funext i
  idx_vars i
  unfold eyeOp rowI colI
  pointwise
  rw [Mx_at, Matrix.one_apply]
  show (((BitVec.setWidth 32 (IntOp.cmpi CmpIPredicate.eq (BitVec.ofNat 32 i1.val) (BitVec.ofNat 32 i0.val))).toInt : ℝ) : EReal) = _
  rw [eye_at]
  by_cases e : i0 = i1
  · simp [e]
  · simp [e]

/-! ## The inverse -/

theorem sq_mx (A : M) : sqOp (F := Ideal) (Mx A) = Mx (A * A) := by
  unfold sqOp
  rw [mm_mx, bf_mx]

theorem grow_mx (T P : M) : growOp (F := Ideal) (Mx T) (Mx P) = Mx (T + T * P) := by
  unfold growOp
  rw [bf_mx, mm_mx, add_mx]

theorem base_mx (A : M) : baseOp (F := Ideal) (Mx A) = Mx (base (blk 16 A)) := by
  have h : select (blkM 4#32) (Mx A) (zeroOp (F := Ideal)) = Mx (blk 16 A) := by
    funext i
    idx_vars i
    pointwise
    rw [blk4_at, bit_ne, zero_mx, Mx_at, Mx_at, Mx_at]
    unfold blk
    split <;> rfl
  unfold baseOp
  dsimp only
  rw [h, eye_mx, bf_mx, sq_mx, sq_mx, sq_mx, sub_mx, grow_mx, grow_mx, grow_mx]
  rfl

theorem select_mx (c : IVec S128x128 1) (p : Fin 128 → Fin 128 → Prop) [∀ i j, Decidable (p i j)] (hc : ∀ i j, c (ix2 i j) = if p i j then 1#1 else 0#1) (A : M) :
    select c (Mx A) (zeroOp (F := Ideal)) = Mx (keep p A) := by
  funext i
  idx_vars i
  pointwise
  rw [hc, bit_ne, zero_mx]
  show _ = (((if p i0 i1 then A i0 i1 else 0 : ℝ)) : EReal)
  split <;> rfl

theorem merge_mx (s' s : BitVec 32) (n : ℕ) (hs : ∀ i j : Fin 128, selM s' s (ix2 i j) = if i.val / (2 * n) = j.val / (2 * n) ∧ ¬ i.val / n = j.val / n then 1#1 else 0#1)
    (A T : M) : mergeOp (F := Ideal) s' s (Mx A) (Mx T) = Mx (merge n A T) := by
  unfold mergeOp
  dsimp only
  rw [select_mx _ _ hs, bf_mx, bf_mx, mm_mx, bf_mx, mm_mx, sub_mx]
  rfl

theorem inv_mx (A : M) : invOp (F := Ideal) (Mx A) = Mx (inv A) := by
  unfold invOp
  rw [base_mx, merge_mx _ _ 16 sel5_at, merge_mx _ _ 32 sel6_at, merge_mx _ _ 64 sel7_at]
  rfl

/-! ## A chunk -/

/-- A vector of rows' numbers, in every column. -/
abbrev colV (f : Fin 128 → ℝ) : M := fun i _ => f i
/-- A vector of columns' numbers, in every row. -/
abbrev rowV (f : Fin 128 → ℝ) : M := fun _ j => f j

theorem ofBits_neg_inf : Ideal.ofBits .f32 0xFF800000#32 = ⊥ := by simp [Ideal.ofBits, Ideal.ieee]

theorem decay_mx (gc : Fin 128 → ℝ) : decayOp (F := Ideal) (Mx (colV gc)) (Mx (rowV gc)) = Mx (decay gc) := by
  funext i
  idx_vars i
  unfold decayOp
  pointwise
  rw [tril_at, bit_ne, ofBits_neg_inf]
  show _ = (((if i1 ≤ i0 then Real.exp (gc i0 - gc i1) else 0 : ℝ)) : EReal)
  split
  · rw [Mx_at, Mx_at, ← EReal.coe_sub, Ideal.exp_coe]
  · simp

theorem kq_hi (A B C : M) : extractStridedSlice S128x128 ![0, 0] (kqOp (F := Ideal) (Mx A) (Mx B) (Mx C)) slices_S256x128_o0_0_S128x128 = Mx (dotT A C) := by
  funext i
  idx_vars i
  unfold kqOp
  rw [bf_mx, bf_mx, bf_mx]
  pointwise
  simp only [Mx_at, dotT, coe_sum, EReal.coe_mul]

theorem kq_lo (A B C : M) : extractStridedSlice S128x128 ![128, 0] (kqOp (F := Ideal) (Mx A) (Mx B) (Mx C)) slices_S256x128_o128_0_S128x128 = Mx (dotT B C) := by
  funext i
  idx_vars i
  unfold kqOp
  rw [bf_mx, bf_mx, bf_mx]
  pointwise
  simp only [Mx_at, dotT, coe_sum, EReal.coe_mul]

theorem uw_left (T V B Kb E : M) : extractStridedSlice S128x128 ![0, 0] (uwOp (F := Ideal) (Mx T) (Mx V) (Mx B) (Mx Kb) (Mx E)) slices_S128x256_o0_0_S128x128
    = Mx (T * had V B) := by
  funext i
  idx_vars i
  unfold uwOp
  rw [mul_mx, mul_mx, bf_mx, bf_mx, bf_mx]
  pointwise
  simp only [Mx_at, Matrix.mul_apply, coe_sum, EReal.coe_mul]

theorem uw_right (T V B Kb E : M) : extractStridedSlice S128x128 ![0, 128] (uwOp (F := Ideal) (Mx T) (Mx V) (Mx B) (Mx Kb) (Mx E)) slices_S128x256_o0_128_S128x128
    = Mx (T * had Kb E) := by
  funext i
  idx_vars i
  unfold uwOp
  rw [mul_mx, mul_mx, bf_mx, bf_mx, bf_mx]
  pointwise
  simp only [Mx_at, Matrix.mul_apply, coe_sum, EReal.coe_mul]

theorem last_at (A : M) (j : Fin 128) : lastOp (F := Ideal) (Mx A) (ix2 0 j) = ((A 127 j : ℝ) : EReal) := by
  unfold lastOp
  pointwise
  rfl

theorem bcast_last (A : M) : broadcastTo S128x128 (lastOp (F := Ideal) (Mx A)) broadcasts_S1x128_S128x128 = Mx (rowV (A 127)) := by
  funext i
  idx_vars i
  pointwise
  rw [last_at]
  rfl

theorem bcast_explast (A : M) : broadcastTo S128x128 (exp (F := Ideal) (lastOp (F := Ideal) (Mx A))) broadcasts_S1x128_S128x128 = Mx (expM (rowV (A 127))) := by
  funext i
  idx_vars i
  pointwise
  rw [last_at, Ideal.exp_coe]
  rfl

theorem a_mx (Kb Q K D : M) : aOp (kqOp (F := Ideal) (Mx Kb) (Mx Q) (Mx K)) (Mx D) = Mx (keep (fun i j => j < i) (had (dotT Kb K) D)) := by
  unfold aOp
  rw [kq_hi, mul_mx, select_mx _ _ strict_at]

theorem qk_mx (Kb Q K D : M) : qkOp (kqOp (F := Ideal) (Mx Kb) (Mx Q) (Mx K)) (Mx D) = Mx (had (dotT Q K) D) := by
  unfold qkOp
  rw [kq_lo, mul_mx, bf_mx]

theorem ws_hi (uw : FVec Ideal S128x256 .f32) (U Q E S : M)
    (h : extractStridedSlice S128x128 ![0, 128] uw slices_S128x256_o0_128_S128x128 = Mx U) :
    extractStridedSlice S128x128 ![0, 0] (wsOp (F := Ideal) uw (Mx Q) (Mx E) (Mx S)) slices_S256x128_o0_0_S128x128 = Mx (U * S) := by
  funext i
  idx_vars i
  unfold wsOp
  rw [h, mul_mx, bf_mx, bf_mx, bf_mx]
  pointwise
  simp only [Mx_at, Matrix.mul_apply, coe_sum, EReal.coe_mul]

theorem ws_lo (uw : FVec Ideal S128x256 .f32) (U Q E S : M)
    (h : extractStridedSlice S128x128 ![0, 128] uw slices_S128x256_o0_128_S128x128 = Mx U) :
    extractStridedSlice S128x128 ![128, 0] (wsOp (F := Ideal) uw (Mx Q) (Mx E) (Mx S)) slices_S256x128_o128_0_S128x128 = Mx (had Q E * S) := by
  funext i
  idx_vars i
  unfold wsOp
  rw [h, mul_mx, bf_mx, bf_mx, bf_mx]
  pointwise
  simp only [Mx_at, Matrix.mul_apply, coe_sum, EReal.coe_mul]

theorem kd_mx (K : M) (gc : Fin 128 → ℝ) : kdOp (F := Ideal) (Mx K) (Mx (colV gc)) = Mx (kdmat K gc) := by
  unfold kdOp
  rw [bcast_last, sub_mx, exp_mx, mul_mx, bf_mx]
  rfl

theorem tn_mx (A B : M) : matmul (F := Ideal) (φ₁ := .bf16) (φ₂ := .bf16) dot_S128x128_S128x128_S128x128_0_0_1_1_n_n none (Mx A) (Mx B) (constant (F := Ideal) S128x128 .f32 0x00000000#32)
    = Mx (tdot A B) := by
  funext i
  idx_vars i
  pointwise
  show _ = ((∑ i, A i i0 * B i i1 : ℝ) : EReal)
  simp only [Mx_at, coe_sum, EReal.coe_mul]

section

variable (Q K V S : M) (β gc : Fin 128 → ℝ)

theorem amat_mx : aOp (kqOp (F := Ideal) (mulf (F := Ideal) (φ := .f32) (Mx K) (Mx (colV β))) (Mx Q) (Mx K)) (decayOp (F := Ideal) (Mx (colV gc)) (Mx (rowV gc))) = Mx (amat K β gc) := by
  rw [mul_mx, decay_mx, a_mx]
  rfl

theorem vHead_mx : vHead (F := Ideal) (Mx Q) (Mx K) (Mx V) (Mx (colV β)) (Mx (colV gc)) (Mx (rowV gc)) (Mx S) = Mx (vmat K V β gc S) := by
  unfold vHead wsHead uwHead vOp
  rw [amat_mx, inv_mx, exp_mx, mul_mx, uw_left, ws_hi _ _ _ _ _ (uw_right _ _ _ _ _), sub_mx, bf_mx]
  rfl

/-- A head's output over a chunk, before its norm. -/
theorem oHead_mx : oHead (F := Ideal) (Mx Q) (Mx K) (Mx V) (Mx (colV β)) (Mx (colV gc)) (Mx (rowV gc)) (Mx S) = Mx (omat Q K V β gc S) := by
  unfold oHead oOp
  rw [vHead_mx, mul_mx, decay_mx, qk_mx, mm_mx]
  unfold wsHead uwHead
  rw [amat_mx, inv_mx, exp_mx, mul_mx, ws_lo _ _ _ _ _ (uw_right _ _ _ _ _), add_mx]
  rfl

/-- A head's state after a chunk. -/
theorem sHead_mx : sHead (F := Ideal) (Mx Q) (Mx K) (Mx V) (Mx (colV β)) (Mx (colV gc)) (Mx (rowV gc)) (Mx S) = Mx (smat K V β gc S) := by
  unfold sHead sOp
  rw [vHead_mx, kd_mx, bcast_explast, mul_mx, tn_mx, add_mx]
  rfl

end

/-! ## Rows -/

/-- The logistic function. -/
def sg (x : ℝ) : ℝ := (1 + Real.exp (-x))⁻¹
def silu (x : ℝ) : ℝ := x * sg x

/-- The norms' small constant. -/
def eps : ℝ := 8796093 * (2 ^ 43)⁻¹
/-- The queries' scale. -/
def qscale : ℝ := 11863283 * (2 ^ 27)⁻¹

theorem eps_pos : 0 < eps := by
  unfold eps
  positivity

theorem ofBits_eps : Ideal.ofBits .f32 0x358637BD#32 = ((eps : ℝ) : EReal) := by
  unfold eps
  rw [EReal.coe_mul]
  simp [Ideal.ofBits, Ideal.ieee]

theorem ofBits_qscale : Ideal.ofBits .f32 0x3DB504F3#32 = ((qscale : ℝ) : EReal) := by
  unfold qscale
  rw [EReal.coe_mul]
  simp [Ideal.ofBits, Ideal.ieee]

theorem ofBits_128 : Ideal.ofBits .f32 0x43000000#32 = ((128 : ℝ) : EReal) := by
  simp only [Ideal.ofBits, Ideal.ieee]
  have h : (128 : ℝ) = 8388608 * (2 ^ 16)⁻¹ := by norm_num
  rw [h, EReal.coe_mul]
  simp

theorem rsqrt_pos {r : ℝ} (h : 0 < r) : Ideal.rsqrt ((r : ℝ) : EReal) = (((√r)⁻¹ : ℝ) : EReal) := by
  rw [Ideal.rsqrt_coe, if_neg (not_lt.mpr h.le), if_neg h.ne']

theorem coe_max (a b : ℝ) : max ((a : ℝ) : EReal) ((b : ℝ) : EReal) = ((max a b : ℝ) : EReal) :=
  (EReal.coe_strictMono.monotone.map_max).symm

/-- `log (1 + e^y)`. -/
def softplus (y : ℝ) : ℝ := max y 0 + Real.log (1 + Real.exp (-|y|))

theorem log1p_exp (x : ℝ) : Ideal.log1p ((Real.exp x : ℝ) : EReal) = ((Real.log (1 + Real.exp x) : ℝ) : EReal) := by
  have h : (0 : ℝ) < 1 + Real.exp x := by positivity
  unfold Ideal.log1p
  rw [← EReal.coe_one, ← EReal.coe_add, Ideal.log_coe, if_neg (not_le.mpr h)]

theorem absf_coe (x : ℝ) : FloatOps.absf (F := Ideal) (φ := .f32) ((x : ℝ) : EReal) = ((|x| : ℝ) : EReal) := by
  show max ((x : ℝ) : EReal) (-((x : ℝ) : EReal)) = _
  rw [← EReal.coe_neg, coe_max, abs]

theorem softplus_coe (y : ℝ) :
    max ((y : ℝ) : EReal) 0 + Ideal.log1p (Ideal.exp (0 - FloatOps.absf (F := Ideal) (φ := .f32) ((y : ℝ) : EReal))) = ((softplus y : ℝ) : EReal) := by
  rw [absf_coe, ← EReal.coe_zero, coe_max, ← EReal.coe_sub, Ideal.exp_coe, log1p_exp, ← EReal.coe_add, zero_sub]
  rfl

def siluM (A : M) : M := fun i j => silu (A i j)
def l2n (A : M) : M := fun i j => A i j * (√(∑ e, A i e * A i e + eps))⁻¹

def scl (A : M) : M := fun i j => A i j * qscale
/-- The gated norm. -/
def gnorm (O Z : M) (w : Fin 128 → ℝ) : M := fun i e => O i e * (√((∑ e, O i e * O i e) / 128 + eps))⁻¹ * w e * silu (Z i e)
/-- Row `h`: the rates of head `h`, or the summed log decays. -/
def phM (B L : M) (al dt : Fin 128 → ℝ) : M := fun h n =>
  if h.val < 16 then sg (B n h) else ∑ m, L n m * (-Real.exp (al h) * softplus (B m h + dt h))

/-- A row of numbers as a block of one row. -/
def Rw (f : Fin 128 → ℝ) : S1x128.Idx → EReal := fun i => ((f (i 1) : ℝ) : EReal)
theorem Rw_at (f : Fin 128 → ℝ) (j : Fin 128) : Rw f (ix2 0 j) = ((f j : ℝ) : EReal) := rfl

theorem silu_mx (A : M) : siluOp (F := Ideal) (Mx A) = Mx (siluM A) := by
  funext i
  idx_vars i
  unfold siluOp
  pointwise
  rw [Mx_at, Ideal.logistic_coe, ← EReal.coe_mul]
  rfl

theorem tap_mx (A : M) (w : Fin 128 → ℝ) : tapOp (F := Ideal) (Mx A) (Rw w) = Mx (had A (rowV w)) := by
  funext i
  idx_vars i
  unfold tapOp
  pointwise
  rw [Mx_at, Rw_at, ← EReal.coe_mul]
  rfl

theorem sqsum_at (A : M) (i : Fin 128) : sqsumOp (F := Ideal) (Mx A) (ix2 i 0) = ((∑ e, A i e * A i e : ℝ) : EReal) := by
  unfold sqsumOp
  pointwise
  simp only [Mx_at, coe_sum, EReal.coe_mul]

theorem l2n_mx (A : M) : l2nOp (F := Ideal) (Mx A) = Mx (l2n A) := by
  funext i
  idx_vars i
  unfold l2nOp
  pointwise
  rw [Mx_at, sqsum_at, ofBits_eps, ← EReal.coe_add,
    rsqrt_pos (add_pos_of_nonneg_of_pos (Finset.sum_nonneg fun e _ => mul_self_nonneg _) eps_pos), ← EReal.coe_mul]
  rfl

theorem scale_mx (A : M) : scaleOp (F := Ideal) (Mx A) = Mx (scl A) := by
  funext i
  idx_vars i
  unfold scaleOp
  pointwise
  rw [Mx_at, ofBits_qscale, ← EReal.coe_mul]
  rfl

theorem row_mx (r : ℕ) (R : Fin 128) (hR : R.val = r) (hr : S128x128.Slices ![r, 0] S1x128) (P : M) : rowOp (F := Ideal) r hr (Mx P) = Mx (rowV (P R)) := by
  subst hR
  funext i
  idx_vars i
  unfold rowOp
  pointwise
  rfl

theorem trans_mx (A : M) : transOp (F := Ideal) (Mx A) = Mx A.transpose := by
  funext i
  idx_vars i
  unfold transOp
  pointwise
  rfl

theorem out_mx (O Z : M) (w : Fin 128 → ℝ) : outOp (F := Ideal) (Mx O) (Mx Z) (Rw w) = Mx (gnorm O Z w) := by
  unfold outOp
  rw [silu_mx, bf]
  funext i
  idx_vars i
  pointwise
  rw [Mx_at, Mx_at, Rw_at, sqsum_at, ofBits_eps, ofBits_128, Ideal.div_coe (by norm_num), ← EReal.coe_mul, ← EReal.coe_add,
    rsqrt_pos (add_pos_of_nonneg_of_pos (mul_nonneg (Finset.sum_nonneg fun e _ => mul_self_nonneg _) (by norm_num)) eps_pos),
    ← EReal.coe_mul, ← EReal.coe_mul, ← EReal.coe_mul, mul_one_div]
  rfl

theorem slt16 (h : Fin 128) : IntOp.cmpi CmpIPredicate.slt (BitVec.ofNat 32 h.val) 16#32 = if h.val < 16 then 1#1 else 0#1 :=
  (by decide +kernel : ∀ h : Fin 128, IntOp.cmpi CmpIPredicate.slt (BitVec.ofNat 32 h.val) 16#32 = if h.val < 16 then 1#1 else 0#1) h

theorem ph_mx (B L : M) (al dt : Fin 128 → ℝ) : k0_pay7 (F := Ideal) (Mx B) (Rw dt) (Mx L) (Rw al) = Mx (phM B L al dt) := by
  funext i
  idx_vars i
  unfold k0_pay7
  pointwise
  rw [slt16, bit_ne]
  show _ = ((if i0.val < 16 then sg (B i1 i0) else ∑ m, L i1 m * (-Real.exp (al i0) * softplus (B m i0 + dt i0)) : ℝ) : EReal)
  split
  · rw [Mx_at, Ideal.logistic_coe]
    rfl
  · simp only [Mx_at, Rw_at, ← EReal.coe_add, softplus_coe, Ideal.exp_coe]
    rw [coe_sum]
    refine Finset.sum_congr rfl fun m _ => ?_
    rw [← EReal.coe_zero, ← EReal.coe_sub, ← EReal.coe_mul, ← EReal.coe_mul, zero_sub]

end Cert.Delta

end
-- ==== Proof.Delta.Spec.lean ====
/- What the recurrence computes over real numbers, token by token, and that one chunk of the kernel computes it. -/
module

public import proofs.«01_k».proof.Proof.Delta.Lift

@[expose] public section

set_option maxRecDepth 16384

noncomputable section

namespace Cert.Delta

open Idealize.ShloMosaic Cert.Kernel2Ideal Cert.Kernel2Ideal.Gen

/-- A row divided by its length. -/
def l2 (f : Fin 128 → ℝ) : Fin 128 → ℝ := fun d => f d * (√(∑ e, f e * f e + eps))⁻¹

/-- The inputs: the convolution's rows, the gates' rows, the rates' and decays' inputs, the taps, the heads' constants and the norm. -/
structure Ins where
  x : ℕ → ℕ → ℝ
  z : ℕ → ℕ → ℝ
  b : ℕ → ℕ → ℝ
  w : ℕ → ℕ → ℝ
  al : ℕ → ℝ
  dt : ℕ → ℝ
  nw : Fin 128 → ℝ

namespace Ins

variable (I : Ins)

/-- The rows behind eight rows of zeros. -/
def xp (n c : ℕ) : ℝ := if n < 8 then 0 else I.x (n - 8) c

/-- The convolution over a token and the three before it. -/
def cv (n c : ℕ) : ℝ :=
  silu (I.xp (n + 8) c * I.w 3 c + I.xp (n + 7) c * I.w 2 c + I.xp (n + 6) c * I.w 1 c + I.xp (n + 5) c * I.w 0 c)

variable (h : ℕ)

def q (n : ℕ) : Fin 128 → ℝ := fun d => l2 (fun e => I.cv n (128 * h + e.val)) d * qscale
def k (n : ℕ) : Fin 128 → ℝ := l2 fun e => I.cv n (2048 + 128 * h + e.val)
def v (n : ℕ) : Fin 128 → ℝ := fun e => I.cv n (4096 + 128 * h + e.val)
def β (n : ℕ) : ℝ := sg (I.b n h)
def g (n : ℕ) : ℝ := -Real.exp (I.al h) * softplus (I.b n (16 + h) + I.dt h)

/-- A head's state before token `n` … -/
def S (n : ℕ) : M := St (I.k h) (I.v h) (I.β h) (I.g h) 0 n

/-- … its output at the token, before its norm … -/
def o (n : ℕ) : Fin 128 → ℝ := stepO (I.q h n) (I.S h (n + 1))

/-- … and behind its gated norm. -/
def out (n : ℕ) : Fin 128 → ℝ := fun e =>
  I.o h n e * (√((∑ e, I.o h n e * I.o h n e) / 128 + eps))⁻¹ * I.nw e * silu (I.z n (128 * h + e.val))

end Ins

/-- A sequence from a chunk's first token on. -/
def sh {α : Type} (t : ℕ) (f : ℕ → α) : ℕ → α := fun n => f (128 * t + n)

theorem St_shift (k v : ℕ → Fin 128 → ℝ) (β g : ℕ → ℝ) (S0 : M) (t n : ℕ) :
    St (sh t k) (sh t v) (sh t β) (sh t g) (St k v β g S0 (128 * t)) n = St k v β g S0 (128 * t + n) := by
  induction n with
  | zero => rfl
  | succ n ih =>
    show stepS _ _ _ _ (St (sh t k) (sh t v) (sh t β) (sh t g) (St k v β g S0 (128 * t)) n) = _
    rw [ih]
    rfl

/-- A block of a table: chunk `t`'s rows, moved by `r`, and the columns from `c` on. -/
def win (f : ℕ → ℕ → ℝ) (t r c : ℕ) : M := fun i j => f (128 * t + i.val + r) (c + j.val)

/-- The body's loads hold chunk `t` of the inputs. -/
structure Holds (L : Loads Ideal) (I : Ins) (t : ℕ) : Prop where
  L0 : ∀ c0 hc, L.L0 c0 hc = Mx (win I.xp t 8 c0)
  Ls : ∀ r c0 hr hc, L.Ls r c0 hr hc = Mx (win I.xp t r c0)
  W : ∀ r c0 hr hc, L.W r c0 hr hc = Rw fun j => I.w r (c0 + j.val)
  s : ∀ h hh, L.s h hh = Mx (I.S h (128 * t))
  ZL : ∀ c0 hc, L.ZL c0 hc = Mx (win I.z t 0 c0)
  nw : L.nw = Rw I.nw
  ph : ∃ P : M, L.ph = Mx P ∧ (∀ h (hh : h + 1 ≤ 16) n, P ⟨h, by omega⟩ n = I.β h (128 * t + n.val))
    ∧ ∀ h (hh : h + 1 ≤ 16) n, P ⟨16 + h, by omega⟩ n = gm (sh t (I.g h)) n

theorem conv_mx (A0 A1 A2 A3 : M) (w0 w1 w2 w3 : Fin 128 → ℝ) :
    convOp (F := Ideal) (Mx A0) (Rw w0) (Mx A1) (Rw w1) (Mx A2) (Rw w2) (Mx A3) (Rw w3)
      = Mx (siluM (had A0 (rowV w0) + had A1 (rowV w1) + had A2 (rowV w2) + had A3 (rowV w3))) := by
  unfold convOp
  rw [tap_mx, tap_mx, tap_mx, tap_mx, add_mx, add_mx, add_mx, silu_mx]

namespace Holds

variable {L : Loads Ideal} {I : Ins} {t : ℕ} (H : Holds L I t)

include H

theorem conv (c0 : ℕ) (hc : c0 + 128 ≤ 6144) : L.conv c0 hc = Mx (win I.cv t 0 c0) := by
  unfold Loads.conv
  rw [H.L0, H.Ls, H.Ls, H.Ls, H.W, H.W, H.W, H.W, conv_mx]
  rfl

variable (h : ℕ) (hh : h + 1 ≤ 16)

theorem q : L.q h hh = Mx (Km (sh t (I.q h))) := by
  unfold Loads.q
  rw [H.conv, l2n_mx, scale_mx]
  rfl

theorem k : L.k h hh = Mx (Km (sh t (I.k h))) := by
  unfold Loads.k
  rw [H.conv, l2n_mx]
  rfl

theorem v : L.v h hh = Mx (Km (sh t (I.v h))) := by
  unfold Loads.v
  rw [H.conv]
  rfl

theorem β : L.β h hh = Mx (colV (βm (sh t (I.β h)))) := by
  obtain ⟨P, hp, hb, -⟩ := H.ph
  unfold Loads.β
  rw [hp, row_mx h ⟨h, by omega⟩ rfl, trans_mx]
  congr 1
  funext i j
  exact hb h hh i

theorem gct : L.gct h hh = Mx (rowV (gm (sh t (I.g h)))) := by
  obtain ⟨P, hp, -, hg⟩ := H.ph
  unfold Loads.gct
  rw [hp, row_mx (16 + h) ⟨16 + h, by omega⟩ rfl]
  congr 1
  funext i j
  exact hg h hh j

theorem gc : L.gc h hh = Mx (colV (gm (sh t (I.g h)))) := by
  unfold Loads.gc
  rw [H.gct, trans_mx]
  rfl

/-- The state after the chunk. -/
theorem st_at (d e : Fin 128) : L.st h hh (ix3 0 d e) = ((I.S h (128 * (t + 1)) d e : ℝ) : EReal) := by
  unfold Loads.st
  rw [H.q, H.k, H.v, H.β, H.gc, H.gct, H.s, sHead_mx]
  pointwise
  rw [Mx_at, smat_eq]
  unfold Ins.S
  rw [St_shift]
  rfl

/-- The chunk's outputs. -/
theorem out_at (i e : Fin 128) : L.out h hh (ix2 i e) = ((I.out h (128 * t + i.val) e : ℝ) : EReal) := by
  unfold Loads.out
  rw [H.q, H.k, H.v, H.β, H.gc, H.gct, H.s, H.ZL, H.nw, oHead_mx, out_mx, Mx_at]
  have ho : ∀ e, omat (Km (sh t (I.q h))) (Km (sh t (I.k h))) (Km (sh t (I.v h))) (βm (sh t (I.β h))) (gm (sh t (I.g h))) (I.S h (128 * t)) i e
      = I.o h (128 * t + i.val) e := fun e => by
    rw [omat_eq]
    unfold Ins.S Ins.o
    rw [St_shift]
    rfl
  unfold gnorm
  simp only [ho]
  rfl

end Holds

end Cert.Delta

end
-- ==== Proof.Delta.Inputs.lean ====
/- The recurrence's inputs over real numbers, read off arrays whose entries are real. -/
module

public import proofs.«01_k».proof.Proof.Delta.Spec

@[expose] public section

set_option maxRecDepth 16384

noncomputable section

namespace Cert.Delta

open Idealize.ShloMosaic Cert.Kernel2Ideal Cert.Kernel2Ideal.Gen

/-- A table's entries as real numbers, zero outside. -/
def nat2 {R C : ℕ} (f : Fin R → Fin C → EReal) (n c : ℕ) : ℝ := if h : n < R ∧ c < C then (f ⟨n, h.1⟩ ⟨c, h.2⟩).toReal else 0

theorem nat2_at {R C : ℕ} (f : Fin R → Fin C → EReal) (hf : ∀ i j, f i j = (((f i j).toReal : ℝ) : EReal)) (i : Fin R) (j : Fin C) :
    f i j = ((nat2 f i.val j.val : ℝ) : EReal) := by
  unfold nat2
  rw [dif_pos ⟨i.isLt, j.isLt⟩]
  exact hf i j

/-- The six argument arrays. -/
structure Arrs where
  p : S8320x20992.Idx → EReal
  ba : S8320x128.Idx → EReal
  w : S1x4x6144.Idx → EReal
  al : S1x16.Idx → EReal
  dt : S1x16.Idx → EReal
  nw : S1x128.Idx → EReal

/-- Every entry is a real number. -/
structure Arrs.Finite (A : Arrs) : Prop where
  p : ∀ i j, A.p (ix2 i j) = (((A.p (ix2 i j)).toReal : ℝ) : EReal)
  ba : ∀ i j, A.ba (ix2 i j) = (((A.ba (ix2 i j)).toReal : ℝ) : EReal)
  w : ∀ i j, A.w (ix3 0 i j) = (((A.w (ix3 0 i j)).toReal : ℝ) : EReal)
  al : ∀ i j, A.al (ix2 i j) = (((A.al (ix2 i j)).toReal : ℝ) : EReal)
  dt : ∀ i j, A.dt (ix2 i j) = (((A.dt (ix2 i j)).toReal : ℝ) : EReal)
  nw : ∀ i j, A.nw (ix2 i j) = (((A.nw (ix2 i j)).toReal : ℝ) : EReal)

/-- The inputs the arrays hold. -/
def Arrs.ins (A : Arrs) : Ins where
  x n c := nat2 (fun i j => A.p (ix2 i j)) n (4608 + c)
  z n c := nat2 (fun i j => A.p (ix2 i j)) n (10752 + c)
  b n c := nat2 (fun i j => A.ba (ix2 i j)) n c
  w r c := nat2 (fun i j => A.w (ix3 0 i j)) r c
  al h := nat2 (fun i j => A.al (ix2 i j)) 0 h
  dt h := nat2 (fun i j => A.dt (ix2 i j)) 0 h
  nw j := nat2 (fun i j => A.nw (ix2 i j)) 0 j.val

variable {A : Arrs} (H : A.Finite)

include H

theorem Arrs.x_at (i : Fin 8320) (j : Fin 20992) (n c : ℕ) (hn : i.val = n) (hc : j.val = 4608 + c) : A.p (ix2 i j) = ((A.ins.x n c : ℝ) : EReal) := by
  subst hn
  refine (nat2_at (fun i j => A.p (ix2 i j)) H.p i j).trans ?_
  rw [hc]
  rfl
theorem Arrs.z_at (i : Fin 8320) (j : Fin 20992) (n c : ℕ) (hn : i.val = n) (hc : j.val = 10752 + c) : A.p (ix2 i j) = ((A.ins.z n c : ℝ) : EReal) := by
  subst hn
  refine (nat2_at (fun i j => A.p (ix2 i j)) H.p i j).trans ?_
  rw [hc]
  rfl
theorem Arrs.b_at (i : Fin 8320) (j : Fin 128) : A.ba (ix2 i j) = ((A.ins.b i.val j.val : ℝ) : EReal) := nat2_at (fun i j => A.ba (ix2 i j)) H.ba i j
theorem Arrs.w_at (i : Fin 4) (j : Fin 6144) : A.w (ix3 0 i j) = ((A.ins.w i.val j.val : ℝ) : EReal) := nat2_at (fun i j => A.w (ix3 0 i j)) H.w i j
theorem Arrs.al_at (j : Fin 16) : A.al (ix2 0 j) = ((A.ins.al j.val : ℝ) : EReal) := nat2_at (fun i j => A.al (ix2 i j)) H.al 0 j
theorem Arrs.dt_at (j : Fin 16) : A.dt (ix2 0 j) = ((A.ins.dt j.val : ℝ) : EReal) := nat2_at (fun i j => A.dt (ix2 i j)) H.dt 0 j
theorem Arrs.nw_at (j : Fin 128) : A.nw (ix2 0 j) = ((A.ins.nw j : ℝ) : EReal) := nat2_at (fun i j => A.nw (ix2 i j)) H.nw 0 j

end Cert.Delta

end
-- ==== Proof.Delta.Reads.lean ====
/- What the recurrence's body reads at a chunk, entry by entry, and what its stores leave. -/
module

public import proofs.«01_k».proof.Proof.Delta.Body
public import proofs.«01_k».proof.Proof.Delta.Spec
public import Idealize.ShloMosaic.Lib.Pipeline.ValueKit.Point
public import Idealize.ShloMosaic.Lib.WritesUnit

@[expose] public section

set_option maxRecDepth 16384

noncomputable section

namespace Cert.Delta

open Idealize.ShloMosaic Idealize.ShloMosaic.TcCoe Cert.Kernel2Ideal Cert.Kernel2Ideal.Gen

/-- Ones on and below the diagonal. -/
def ltri : M := fun i j => if j ≤ i then 1 else 0

/-- The input blocks of chunk `t`. -/
structure Blks (I : Ins) (t : ℕ) (x0 : Vec Ideal S128x6144 .f32) (x1 : Vec Ideal S128x2048 .f32) (x2 : Vec Ideal S128x128 .f32) (x3 x4 : Vec Ideal S1x128 .f32)
    (x5 : Vec Ideal S128x128 .f32) (x6 : Vec Ideal S4x6144 .f32) (x7 : Vec Ideal S1x128 .f32) : Prop where
  h0 : ∀ i j, x0 (ix2 i j) = ((I.x (128 * t + i.val) j.val : ℝ) : EReal)
  h1 : ∀ i j, x1 (ix2 i j) = ((I.z (128 * t + i.val) j.val : ℝ) : EReal)
  h2 : x2 = Mx (win I.b t 0 0)
  h3 : ∃ al, x3 = Rw al ∧ ∀ h (hh : h + 1 ≤ 16), al ⟨16 + h, by omega⟩ = I.al h
  h4 : ∃ dt, x4 = Rw dt ∧ ∀ h (hh : h + 1 ≤ 16), dt ⟨16 + h, by omega⟩ = I.dt h
  h5 : x5 = Mx ltri
  h6 : ∀ r j, x6 (ix2 r j) = ((I.w r.val j.val : ℝ) : EReal)
  h7 : x7 = Rw I.nw

theorem hz2 : (![0, 0] : Fin 2 → ℕ) = fun _ => 0 := by decide

theorem pay57_at (x : Vec Ideal S128x6144 .f32) (i : Fin 128) (j : Fin 6144) : k0_pay57 (F := Ideal) x (ix2 i j) = x (ix2 i j) := by
  unfold k0_pay57
  pointwise

theorem pay154_at (x : Vec Ideal S8x6144 .f32) (i : Fin 8) (j : Fin 6144) : k0_pay154 (F := Ideal) x (ix2 i j) = x (ix2 i j) := by
  unfold k0_pay154
  pointwise

theorem pay3_at (i : Fin 8) (j : Fin 6144) : k0_pay3 (F := Ideal) (ix2 i j) = 0 := by
  unfold k0_pay3
  pointwise

theorem pay2_at (h : Fin 16) (d e : Fin 128) : k0_pay2 (F := Ideal) (ix3 h d e) = 0 := by
  unfold k0_pay2
  pointwise

section

variable {I : Ins} {t : ℕ} {x0 : Vec Ideal S128x6144 .f32} {x1 : Vec Ideal S128x2048 .f32} {x2 : Vec Ideal S128x128 .f32} {x3 x4 : Vec Ideal S1x128 .f32}
    {x5 : Vec Ideal S128x128 .f32} {x6 : Vec Ideal S4x6144 .f32} {x7 : Vec Ideal S1x128 .f32} (B : Blks I t x0 x1 x2 x3 x4 x5 x6 x7)

include B

theorem Blks.table : ∃ P : M, k0_pay7 (F := Ideal) x2 x4 x5 x3 = Mx P ∧ (∀ h (hh : h + 1 ≤ 16) n, P ⟨h, by omega⟩ n = I.β h (128 * t + n.val))
    ∧ ∀ h (hh : h + 1 ≤ 16) n, P ⟨16 + h, by omega⟩ n = gm (sh t (I.g h)) n := by
  obtain ⟨al, ha, hal⟩ := B.h3
  obtain ⟨dt, hd, hdt⟩ := B.h4
  refine ⟨_, by rw [B.h2, ha, hd, B.h5, ph_mx], fun h hh n => ?_, fun h hh n => ?_⟩
  · unfold phM win Ins.β
    rw [if_pos (show h < 16 by omega), Nat.add_zero, Nat.zero_add]
  · unfold phM
    rw [if_neg (show ¬ 16 + h < 16 by omega), hal h hh, hdt h hh]
    unfold gm G
    rw [sum_below _ _ (by omega)]
    refine Finset.sum_congr rfl fun m _ => ?_
    unfold ltri win sh Ins.g
    rw [Nat.add_zero, Nat.zero_add]
    by_cases e : m ≤ n
    · rw [if_pos e, if_pos (show m.val < n.val + 1 by have : m.val ≤ n.val := e; omega), one_mul]
    · rw [if_neg e, if_neg (show ¬ m.val < n.val + 1 by have : ¬ m.val ≤ n.val := e; omega), zero_mul]

/-- The chunk's rows behind the halo. -/
theorem Blks.row (i : Fin 128) (c : Fin 6144) (y : S136x6144.Idx) (h0 : (y 0).val = 8 + i.val) (h1 : (y 1).val = c.val)
    (Ls : List (View.Piece (Elt Ideal) S136x6144 .f32)) :
    View.canon (Val := Elt Ideal) (pcX x0 :: Ls) y = ((I.xp (128 * t + (y 0).val) (y 1).val : ℝ) : EReal) := by
  have e : y = (Rect.unit (s := S136x6144) ![8, 0] S128x6144.size inb_S136x6144_S128x6144_8_0).emb (ix2 i c) := by
    funext a
    refine Fin.ext ?_
    match a with
    | 0 =>
      show (y 0).val = 8 + 1 * i.val
      omega
    | 1 =>
      show (y 1).val = 0 + 1 * c.val
      omega
  have q : View.canon (Val := Elt Ideal) (pcX x0 :: Ls) y = k0_pay57 (F := Ideal) x0 (ix2 i c) := by
    rw [e]
    exact View.canon_cons_emb _ _ _ _
  rw [q, pay57_at, B.h0, h0, h1]
  unfold Ins.xp
  rw [if_neg (by omega), show 128 * t + (8 + i.val) - 8 = 128 * t + i.val by omega]

end

theorem not_mem_pcX (x0 : Vec Ideal S128x6144 .f32) (y : S136x6144.Idx) (h : (y 0).val < 8) : y ∉ (pcX x0).1.set := by
  rw [Rect.mem_set_unit]
  intro hall
  have : 8 ≤ (y 0).val := (hall 0).1
  omega

section

variable (arg1 : Memref sig .tc .vmem S128x6144 .f32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4x6144 .f32) (harg7 : arg7.IsWhole) (arg8 : Memref sig .tc .vmem S1x128 .f32) (harg8 : arg8.IsWhole) (arg11 : Memref sig .tc .vmem S16x128x128 .f32) (harg11 : arg11.IsWhole) (arg12 : Memref sig .tc .vmem S136x6144 .f32) (harg12 : arg12.IsWhole)
  {I : Ins} {t : ℕ} {x0 : Vec Ideal S128x6144 .f32} {x1 : Vec Ideal S128x2048 .f32} {x2 : Vec Ideal S128x128 .f32} {x3 x4 : Vec Ideal S1x128 .f32}
    {x5 : Vec Ideal S128x128 .f32} {x6 : Vec Ideal S4x6144 .f32} {x7 : Vec Ideal S1x128 .f32} (B : Blks I t x0 x1 x2 x3 x4 x5 x6 x7)

theorem read_x (x0 : Vec Ideal S128x6144 .f32) : View.readAt (Elt Ideal) arg1.view rX.toLoadRect (harg1.unread x0) = x0 := by
  rw [View.readAt_eq_ld, harg1.read_unread, View.ld_unit_zero hz2]
theorem read_t (x : Vec Ideal S128x128 .f32) : View.readAt (Elt Ideal) arg3.view rT.toLoadRect (harg3.unread x) = x := by
  rw [View.readAt_eq_ld, harg3.read_unread, View.ld_unit_zero hz2]
theorem read_r (x : Vec Ideal S1x128 .f32) : View.readAt (Elt Ideal) arg4.view rR.toLoadRect (harg4.unread x) = x := by
  rw [View.readAt_eq_ld, harg4.read_unread, View.ld_unit_zero hz2]

theorem read_w (B : Blks I t x0 x1 x2 x3 x4 x5 x6 x7) (r c0 : ℕ) (hr : r + 1 ≤ 4) (hc : c0 + 128 ≤ 6144) :
    View.readAt (Elt Ideal) arg7.view (rW r c0 hr hc).toLoadRect (harg7.unread x6) = Rw fun j => I.w r (c0 + j.val) := by
  rw [View.readAt_eq_ld, harg7.read_unread]
  funext i
  idx_vars i
  rw [View.ld_unit_apply_of _ _ _ _ _ (ix2 (⟨r, by omega⟩ : Fin 4) (⟨c0 + i1.val, by omega⟩ : Fin 6144))
    (Fin.forall_fin_two.mpr ⟨by show r = r + i0.val; omega, rfl⟩), B.h6]
  rfl

theorem read_z (B : Blks I t x0 x1 x2 x3 x4 x5 x6 x7) (c0 : ℕ) (hc : c0 + 128 ≤ 2048) :
    View.readAt (Elt Ideal) arg2.view (rZ c0 hc).toLoadRect (harg2.unread x1) = Mx (win I.z t 0 c0) := by
  rw [View.readAt_eq_ld, harg2.read_unread]
  funext i
  idx_vars i
  rw [View.ld_unit_apply_of _ _ _ _ _ (ix2 i0 (⟨c0 + i1.val, by omega⟩ : Fin 2048))
    (Fin.forall_fin_two.mpr ⟨by show i0.val = 0 + i0.val; omega, rfl⟩), B.h1]
  rfl

theorem read_l0 (B : Blks I t x0 x1 x2 x3 x4 x5 x6 x7) (Q : List (View.Piece (Elt Ideal) S136x6144 .f32)) (c0 : ℕ) (hc : c0 + 128 ≤ 6144) :
    arg12.view.readCov (pcX x0 :: Q) (rBuf 8 c0 (by decide) hc).toLoadRect = Mx (win I.xp t 8 c0) := by
  rw [View.readCov_eq_canon']
  funext i
  idx_vars i
  rw [B.row i0 ⟨c0 + i1.val, by omega⟩ _ (by show 8 + 1 * i0.val = _; omega) (by show c0 + 1 * i1.val = _; rw [Nat.one_mul])]
  show ((I.xp (128 * t + (8 + 1 * i0.val)) (c0 + 1 * i1.val) : ℝ) : EReal) = ((I.xp (128 * t + i0.val + 8) (c0 + i1.val) : ℝ) : EReal)
  rw [Nat.one_mul, Nat.one_mul, show 128 * t + (8 + i0.val) = 128 * t + i0.val + 8 by omega]

/-- The rows of the buffer at the first chunk. -/
theorem read_lsA (B : Blks I 0 x0 x1 x2 x3 x4 x5 x6 x7) (r c0 : ℕ) (hr : r + 128 ≤ 136) (hc : c0 + 128 ≤ 6144) :
    arg12.view.readCov [pcX x0, pcZ] (rBuf r c0 hr hc).toLoadRect = Mx (win I.xp 0 r c0) := by
  rw [View.readCov_eq_canon']
  funext i
  idx_vars i
  have s : ((I.xp (128 * 0 + ((rBuf r c0 hr hc).toLoadRect.idx (ix2 i0 i1) 0).val) ((rBuf r c0 hr hc).toLoadRect.idx (ix2 i0 i1) 1).val : ℝ) : EReal)
      = Mx (win I.xp 0 r c0) (ix2 i0 i1) := by
    show ((I.xp (128 * 0 + (r + 1 * i0.val)) (c0 + 1 * i1.val) : ℝ) : EReal) = ((I.xp (128 * 0 + i0.val + r) (c0 + i1.val) : ℝ) : EReal)
    rw [Nat.one_mul, Nat.one_mul, show 128 * 0 + (r + i0.val) = 128 * 0 + i0.val + r by omega]
  by_cases e : 8 ≤ r + i0.val
  · rw [B.row ⟨r + i0.val - 8, by omega⟩ ⟨c0 + i1.val, by omega⟩ _ (by show r + 1 * i0.val = 8 + (r + i0.val - 8); omega)
      (by show c0 + 1 * i1.val = _; rw [Nat.one_mul]), s]
  · rw [View.canon_cons_of_not_mem _ _ (not_mem_pcX x0 _ (by show r + 1 * i0.val < 8; omega)), ← s]
    have q : (rBuf r c0 hr hc).toLoadRect.idx (ix2 i0 i1)
        = (Rect.unit (s := S136x6144) ![0, 0] S8x6144.size inb_S136x6144_S8x6144_0_0).emb (ix2 (⟨r + i0.val, by omega⟩ : Fin 8) (⟨c0 + i1.val, by omega⟩ : Fin 6144)) := by
      funext a
      refine Fin.ext ?_
      match a with
      | 0 =>
        show r + 1 * i0.val = 0 + 1 * (r + i0.val)
        omega
      | 1 =>
        show c0 + 1 * i1.val = 0 + 1 * (c0 + i1.val)
        omega
    have p : View.canon (Val := Elt Ideal) [pcZ] ((rBuf r c0 hr hc).toLoadRect.idx (ix2 i0 i1)) = k0_pay3 (F := Ideal) (ix2 (⟨r + i0.val, by omega⟩ : Fin 8) (⟨c0 + i1.val, by omega⟩ : Fin 6144)) := by
      rw [q]
      exact View.canon_cons_emb _ _ _ _
    rw [p, pay3_at]
    unfold Ins.xp
    rw [if_pos (by show 128 * 0 + (r + 1 * i0.val) < 8; omega)]
    rfl

/-- The rows of the buffer at a later chunk, whose halo the chunk before left. -/
theorem read_lsB (B : Blks I t x0 x1 x2 x3 x4 x5 x6 x7) (xs1 : Vec Ideal S136x6144 .f32)
    (hh : ∀ (r : Fin 136) (j : Fin 6144), r.val < 8 → xs1 (ix2 r j) = ((I.xp (128 * t + r.val) j.val : ℝ) : EReal))
    (r c0 : ℕ) (hr : r + 128 ≤ 136) (hc : c0 + 128 ≤ 6144) :
    View.readAt (Elt Ideal) arg12.view (rBuf r c0 hr hc).toLoadRect (arg12.view.writes (Elt Ideal) (harg12.unread xs1) [pcX x0]) = Mx (win I.xp t r c0) := by
  rw [View.readAt_eq_ld]
  funext i
  idx_vars i
  rw [View.ld_unit_apply_of _ _ _ _ _ (ix2 (⟨r + i0.val, by omega⟩ : Fin 136) (⟨c0 + i1.val, by omega⟩ : Fin 6144))
    (Fin.forall_fin_two.mpr ⟨rfl, rfl⟩)]
  show _ = ((I.xp (128 * t + i0.val + r) (c0 + i1.val) : ℝ) : EReal)
  by_cases e : 8 ≤ r + i0.val
  · refine (View.read_writes_cons_unit_of_mem (off' := ![8, 0]) arg12.view _ inb_S136x6144_S128x6144_8_0 _ _ _ (ix2 (⟨r + i0.val - 8, by omega⟩ : Fin 128) (⟨c0 + i1.val, by omega⟩ : Fin 6144)) rfl
      (Fin.forall_fin_two.mpr ⟨by show r + i0.val = 8 + (r + i0.val - 8); omega, (Nat.zero_add _).symm⟩)).trans ?_
    rw [pay57_at, B.h0]
    unfold Ins.xp
    rw [if_neg (by omega)]
    show ((I.x (128 * t + (r + i0.val - 8)) (c0 + i1.val) : ℝ) : EReal) = _
    rw [show 128 * t + (r + i0.val - 8) = 128 * t + i0.val + r - 8 by omega]
  · refine (View.read_writes_cons_unit_of_not_mem (off' := ![8, 0]) arg12.view _ inb_S136x6144_S128x6144_8_0 _ _ _ rfl (0 : Fin 2) (Or.inl (by show r + i0.val < 8; omega))).trans ?_
    rw [View.writes_nil, harg12.read_unread, hh _ _ (by show r + i0.val < 8; omega)]
    show ((I.xp (128 * t + (r + i0.val)) (c0 + i1.val) : ℝ) : EReal) = _
    rw [show 128 * t + (r + i0.val) = 128 * t + i0.val + r by omega]

theorem cast_state (f : S1x128x128.Idx → EReal) (A : M) (h : ∀ d e, f (ix3 0 d e) = ((A d e : ℝ) : EReal)) :
    shapeCast S128x128 f shapeCasts_S1x128x128_S128x128 = Mx A := by
  funext i
  idx_vars i
  pointwise
  exact h _ _

/-- The first chunk's loads. -/
theorem holdsA (B : Blks I 0 x0 x1 x2 x3 x4 x5 x6 x7) :
    Holds (loadsA arg1 harg1 arg2 harg2 arg3 harg3 arg4 harg4 arg5 harg5 arg6 harg6 arg7 harg7 arg8 harg8 arg11 arg12 x0 x1 x2 x3 x4 x5 x6 x7) I 0 where
  L0 c0 hc := by
    unfold loadsA
    dsimp only
    rw [read_x, read_l0 arg12 B _]
  Ls r c0 hr hc := by
    unfold loadsA
    dsimp only
    rw [read_x, read_lsA arg12 B]
  W r c0 hr hc := read_w arg7 harg7 B r c0 hr hc
  s h hh := by
    unfold Loads.s loadsA
    dsimp only
    refine cast_state _ _ fun d e => ?_
    rw [View.readCov_eq_canon']
    have q : (rS h hh).toLoadRect.idx (ix3 0 d e)
        = (Rect.unit (s := S16x128x128) ![0, 0, 0] S16x128x128.size inb_S16x128x128_S16x128x128_0_0_0).emb (ix3 (⟨h, by omega⟩ : Fin 16) d e) := by
      funext a
      refine Fin.ext ?_
      match a with
      | 0 =>
        show h + 1 * 0 = 0 + 1 * h
        omega
      | 1 =>
        show 0 + 1 * d.val = 0 + 1 * d.val
        rfl
      | 2 =>
        show 0 + 1 * e.val = 0 + 1 * e.val
        rfl
    have p : View.canon (Val := Elt Ideal) [pcS] ((rS h hh).toLoadRect.idx (ix3 0 d e)) = k0_pay2 (F := Ideal) (ix3 (⟨h, by omega⟩ : Fin 16) d e) := by
      rw [q]
      exact View.canon_cons_emb _ _ _ _
    exact p.trans (pay2_at _ _ _)
  ZL c0 hc := read_z arg2 harg2 B c0 hc
  nw := (read_r arg8 harg8 x7).trans B.h7
  ph := by
    unfold loadsA phRaw
    dsimp only
    rw [read_t, read_t, read_r, read_r]
    exact B.table

/-- A later chunk's loads. -/
theorem holdsB (B : Blks I t x0 x1 x2 x3 x4 x5 x6 x7) (xs0 : Vec Ideal S16x128x128 .f32) (xs1 : Vec Ideal S136x6144 .f32)
    (hs : ∀ (h : Fin 16) d e, xs0 (ix3 h d e) = ((I.S h.val (128 * t) d e : ℝ) : EReal))
    (hh : ∀ (r : Fin 136) (j : Fin 6144), r.val < 8 → xs1 (ix2 r j) = ((I.xp (128 * t + r.val) j.val : ℝ) : EReal)) :
    Holds (loadsB arg1 harg1 arg2 harg2 arg3 harg3 arg4 harg4 arg5 harg5 arg6 harg6 arg7 harg7 arg8 harg8 arg11 harg11 arg12 harg12 x0 x1 x2 x3 x4 x5 x6 x7 xs0 xs1) I t where
  L0 c0 hc := by
    unfold loadsB
    dsimp only
    rw [read_x, read_l0 arg12 B _]
  Ls r c0 hr hc := by
    unfold loadsB
    dsimp only
    rw [read_x, read_lsB arg12 harg12 B xs1 hh]
  W r c0 hr hc := read_w arg7 harg7 B r c0 hr hc
  s h hh := by
    unfold Loads.s loadsB
    dsimp only
    refine cast_state _ _ fun d e => ?_
    rw [View.readAt_eq_ld, harg11.read_unread]
    exact (View.ld_unit_apply_of xs0 ![h, 0, 0] S1x128x128.size (fitS h hh) (ix3 0 d e) (ix3 (⟨h, by omega⟩ : Fin 16) d e) (fun a =>
      match a with
      | 0 => rfl
      | 1 => (Nat.zero_add d.val).symm
      | 2 => (Nat.zero_add e.val).symm)).trans (hs _ _ _)
  ZL c0 hc := read_z arg2 harg2 B c0 hc
  nw := (read_r arg8 harg8 x7).trans B.h7
  ph := by
    unfold loadsB phRaw
    dsimp only
    rw [read_t, read_t, read_r, read_r]
    exact B.table

end

/-! ## What the stores leave -/

theorem allS_mem (L : Loads Ideal) : ∀ p ∈ allS L, ∃ h hh, p = pieceS L h hh := by
  unfold allS
  repeat' (first | exact List.forall_mem_nil _ | refine List.forall_mem_cons.mpr ⟨⟨_, _, rfl⟩, ?_⟩)

theorem allO_mem (L : Loads Ideal) : ∀ p ∈ allO L, ∃ h hh, p = pieceO L h hh := by
  unfold allO
  repeat' (first | exact List.forall_mem_nil _ | refine List.forall_mem_cons.mpr ⟨⟨_, _, rfl⟩, ?_⟩)

theorem mem_allS (L : Loads Ideal) (h : ℕ) (hh : h + 1 ≤ 16) : pieceS L h hh ∈ allS L := by
  have e : (allS L)[15 - h]? = some (pieceS L h hh) := by
    obtain hl : h < 16 := hh
    interval_cases h <;> rfl
  exact List.mem_of_getElem? e

theorem mem_allO (L : Loads Ideal) (h : ℕ) (hh : h + 1 ≤ 16) : pieceO L h hh ∈ allO L := by
  have e : (allO L)[15 - h]? = some (pieceO L h hh) := by
    obtain hl : h < 16 := hh
    interval_cases h <;> rfl
  exact List.mem_of_getElem? e

theorem canon_append {S : Shape} {e : EltTy} (R : List (View.Piece (Elt Ideal) S e)) (y : S.Idx) :
    ∀ L : List (View.Piece (Elt Ideal) S e), (∃ p ∈ L, y ∈ p.1.set) → View.canon (Val := Elt Ideal) (L ++ R) y = View.canon L y
  | [], h => by
    obtain ⟨_, hm, _⟩ := h
    exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      obtain ⟨q, hq, hyq⟩ := h
      rcases List.mem_cons.mp hq with rfl | hq'
      · exact absurd hyq hy
      · exact canon_append R y L ⟨q, hq', hyq⟩

section

variable {L : Loads Ideal} {I : Ins} {t : ℕ} (H : Holds L I t)

include H

theorem Holds.state_at (R : List (View.Piece (Elt Ideal) S16x128x128 .f32)) (h : Fin 16) (d e : Fin 128) :
    View.canon (Val := Elt Ideal) (allS L ++ R) (ix3 h d e) = ((I.S h.val (128 * (t + 1)) d e : ℝ) : EReal) := by
  have hc : ∃ p ∈ allS L, ix3 h d e ∈ p.1.set := by
    refine ⟨pieceS L h.val h.isLt, mem_allS L _ _, ?_⟩
    rw [Rect.mem_set_unit]
    intro a
    match a with
    | 0 => exact ⟨Nat.le_refl _, Nat.lt_succ_self _⟩
    | 1 => exact ⟨Nat.zero_le _, (Nat.zero_add 128).symm ▸ d.isLt⟩
    | 2 => exact ⟨Nat.zero_le _, (Nat.zero_add 128).symm ▸ e.isLt⟩
  rw [canon_append _ _ _ hc]
  refine View.canon_apply_of_pieces (Val := Elt Ideal) (S := S16x128x128) (e := .f32)
    (fun y => ((I.S (y 0).val (128 * (t + 1)) (y 1) (y 2) : ℝ) : EReal)) _ ?_ _ hc
  intro p hp
  obtain ⟨h, hh, rfl⟩ := allS_mem L p hp
  intro x
  idx_vars x
  obtain rfl : x0 = 0 := Subsingleton.elim _ _
  refine (H.st_at h hh x1 x2).trans ?_
  have e0 : ((pieceS L h hh).1.emb (ix3 0 x1 x2) 0).val = h := by
    show h + 1 * 0 = h
    omega
  have e1 : (pieceS L h hh).1.emb (ix3 0 x1 x2) 1 = x1 := Fin.ext (by show 0 + 1 * x1.val = x1.val; omega)
  have e2 : (pieceS L h hh).1.emb (ix3 0 x1 x2) 2 = x2 := Fin.ext (by show 0 + 1 * x2.val = x2.val; omega)
  rw [e0, e1, e2]

theorem Holds.outs_at (i : Fin 128) (c : Fin 2048) :
    View.canon (Val := Elt Ideal) (allO L) (ix2 i c) = ((I.out (c.val / 128) (128 * t + i.val) ⟨c.val % 128, Nat.mod_lt _ (by decide)⟩ : ℝ) : EReal) := by
  refine View.canon_apply_of_pieces (Val := Elt Ideal) (S := S128x2048) (e := .bf16)
    (fun y => ((I.out ((y 1).val / 128) (128 * t + (y 0).val) ⟨(y 1).val % 128, Nat.mod_lt _ (by decide)⟩ : ℝ) : EReal)) _ ?_ _ ?_
  · intro p hp
    obtain ⟨h, hh, rfl⟩ := allO_mem L p hp
    intro x
    idx_vars x
    refine (H.out_at h hh x0 x1).trans ?_
    show _ = ((I.out ((128 * h + 1 * x1.val) / 128) (128 * t + (0 + 1 * x0.val)) ⟨(128 * h + 1 * x1.val) % 128, _⟩ : ℝ) : EReal)
    have e1 : (128 * h + 1 * x1.val) / 128 = h := by omega
    have e2 : (⟨(128 * h + 1 * x1.val) % 128, Nat.mod_lt _ (by decide)⟩ : Fin 128) = x1 := Fin.ext (by show (128 * h + 1 * x1.val) % 128 = x1.val; omega)
    rw [e1, e2, Nat.zero_add, Nat.one_mul]
  · refine ⟨pieceO L (c.val / 128) (by omega), mem_allO L _ _, ?_⟩
    rw [Rect.mem_set_unit]
    refine Fin.forall_fin_two.mpr ⟨⟨Nat.zero_le _, ?_⟩, ⟨?_, ?_⟩⟩
    · show i.val < 0 + 128
      omega
    · show 128 * (c.val / 128) ≤ c.val
      omega
    · show c.val < 128 * (c.val / 128) + 128
      omega

end

/-- The buffer's first rows, after the chunk: its last rows. -/
theorem buf_at {I : Ins} {t : ℕ} {x0 : Vec Ideal S128x6144 .f32} {x1 : Vec Ideal S128x2048 .f32} {x2 : Vec Ideal S128x128 .f32} {x3 x4 : Vec Ideal S1x128 .f32}
    {x5 : Vec Ideal S128x128 .f32} {x6 : Vec Ideal S4x6144 .f32} {x7 : Vec Ideal S1x128 .f32} (B : Blks I t x0 x1 x2 x3 x4 x5 x6 x7)
    (arg1 : Memref sig .tc .vmem S128x6144 .f32) (harg1 : arg1.IsWhole) (arg12 : Memref sig .tc .vmem S136x6144 .f32)
    (Q R : List (View.Piece (Elt Ideal) S136x6144 .f32)) (r : Fin 136) (j : Fin 6144) (hr : r.val < 8) :
    View.canon (Val := Elt Ideal) (pcH (arg12.view.readCov (pcX (View.readAt (Elt Ideal) arg1.view rX.toLoadRect (harg1.unread x0)) :: Q) rH.toLoadRect) :: R) (ix2 r j) = ((I.xp (128 * (t + 1) + r.val) j.val : ℝ) : EReal) := by
  rw [read_x]
  have q : ix2 r j = (Rect.unit (s := S136x6144) ![0, 0] S8x6144.size inb_S136x6144_S8x6144_0_0).emb (ix2 (⟨r.val, hr⟩ : Fin 8) j) := by
    funext a
    refine Fin.ext ?_
    match a with
    | 0 =>
      show r.val = 0 + 1 * r.val
      omega
    | 1 =>
      show j.val = 0 + 1 * j.val
      omega
  have p : View.canon (Val := Elt Ideal) (pcH (arg12.view.readCov (pcX x0 :: Q) rH.toLoadRect) :: R) (ix2 r j)
      = k0_pay154 (F := Ideal) (arg12.view.readCov (pcX x0 :: Q) rH.toLoadRect) (ix2 (⟨r.val, hr⟩ : Fin 8) j) := by
    rw [q]
    exact View.canon_cons_emb _ _ _ _
  rw [p, pay154_at, View.readCov_eq_canon']
  refine (B.row ⟨120 + r.val, by omega⟩ j _ (by show 128 + 1 * r.val = 8 + (120 + r.val); omega) (by show 0 + 1 * j.val = j.val; omega) _).trans ?_
  show ((I.xp (128 * t + (128 + 1 * r.val)) (0 + 1 * j.val) : ℝ) : EReal) = _
  rw [Nat.zero_add, Nat.one_mul, Nat.one_mul, show 128 * t + (128 + r.val) = 128 * (t + 1) + r.val by omega]

end Cert.Delta

end
-- ==== Proof.Delta.Blocks.lean ====
/- The blocks the recurrence's windows bring in, entry by entry. -/
module

public import proofs.«01_k».proof.Proof.Delta.Inputs
public import proofs.«01_k».proof.Proof.Delta.Reads
public import proofs.«01_k».proof.Proof.Gen.Kernel2Ideal.Value
public import Idealize.ShloMosaic.Lib.Pipeline.ValueKit.Point
public import Idealize.ShloMosaic.Lib.Claim
public import Idealize.ShloMosaic.Lib.StableHlo.RunRead
public import Idealize.ShloMosaic.Lib.Pointwise

@[expose] public section

set_option maxRecDepth 16384

noncomputable section

namespace Cert.Delta

open Idealize.ShloMosaic Idealize.ShloMosaic.TcCoe Cert.Kernel2Ideal Cert.Kernel2Ideal.Gen Cert.Kernel2Ideal.Value
open Idealize.SL.Sem Idealize.ShloMosaic.Pipeline Idealize.ShloMosaic.StableHlo

variable (m : (ℓ : Loc nD τ sig) → Buf (Elt Ideal) ℓ) (c : Dev nD)

/-- The argument arrays, as launched. -/
def arrs : Arrs where
  p := m ((c : Thread nD τ).loc main_arg0)
  ba := m ((c : Thread nD τ).loc main_arg1)
  w := m ((c : Thread nD τ).loc main_arg2)
  al := m ((c : Thread nD τ).loc main_arg3)
  dt := m ((c : Thread nD τ).loc main_arg4)
  nw := m ((c : Thread nD τ).loc main_arg5)

theorem idx0 : ∀ t : Fin cfg0.N, win0_0.index t = ![t.val * 128, 4608] :=
  (by decide +kernel : ∀ t : Fin grid0.N, _)
theorem idx1 : ∀ t : Fin cfg0.N, win0_1.index t = ![t.val * 128, 10752] :=
  (by decide +kernel : ∀ t : Fin grid0.N, _)
theorem idx2 : ∀ t : Fin cfg0.N, win0_2.index t = ![t.val, 0] :=
  (by decide +kernel : ∀ t : Fin grid0.N, _)
theorem idx3 : ∀ t : Fin cfg0.N, win0_3.index t = ![0, 0] :=
  (by decide +kernel : ∀ t : Fin grid0.N, _)
theorem idx4 : ∀ t : Fin cfg0.N, win0_4.index t = ![0, 0] :=
  (by decide +kernel : ∀ t : Fin grid0.N, _)
theorem idx5 : ∀ t : Fin cfg0.N, win0_5.index t = ![0, 0] :=
  (by decide +kernel : ∀ t : Fin grid0.N, _)
theorem idx6 : ∀ t : Fin cfg0.N, win0_6.index t = ![0, 0] :=
  (by decide +kernel : ∀ t : Fin grid0.N, _)
theorem idx7 : ∀ t : Fin cfg0.N, win0_7.index t = ![0, 0] :=
  (by decide +kernel : ∀ t : Fin grid0.N, _)
theorem idx8 : ∀ t : Fin cfg0.N, win0_8.index t = ![t.val, 0] :=
  (by decide +kernel : ∀ t : Fin grid0.N, _)
theorem idx9 : ∀ t : Fin cfg0.N, win0_9.index t = ![0, 0, 0] :=
  (by decide +kernel : ∀ t : Fin grid0.N, _)

/-- The heads' constants behind sixteen zeros, with zeros behind. -/
def padded (f : ℕ → ℝ) : Fin 128 → ℝ := fun j => if 16 ≤ j.val ∧ j.val < 32 then f (j.val - 16) else 0

theorem sitofp_zero : FloatOps.sitofp (F := Ideal) FTy.f32 0#32 = 0 := by
  show ((((0#32 : BitVec 32).toInt : ℤ) : ℝ) : EReal) = 0
  rw [show (0#32 : BitVec 32).toInt = 0 by decide]
  simp

theorem addi_zero (x : BitVec 32) : IntOp.addi x 0#32 = x := BitVec.add_zero x

theorem sge_at (i j : Fin 128) : IntOp.cmpi CmpIPredicate.sge (BitVec.ofNat 32 i.val) (BitVec.ofNat 32 j.val) = if j ≤ i then 1#1 else 0#1 :=
  (by decide +kernel : ∀ i j : Fin 128, IntOp.cmpi CmpIPredicate.sge (BitVec.ofNat 32 i.val) (BitVec.ofNat 32 j.val) = if j ≤ i then 1#1 else 0#1) i j

theorem V2_at (j : Fin 128) : V m c main_v2 (ix2 0 j) = if h : 16 ≤ j.val ∧ j.val < 32 then (arrs m c).al (ix2 0 ⟨j.val - 16, by omega⟩) else 0 := by
  simp only [V, hostOps0, hostOps0_1, hostOps0_2, hostOps0_3, hostOps0_4, hostOps0_5, hostOps0_6, List.flatten_cons, List.flatten_nil, List.append_nil, List.cons_append, List.nil_append]
  entry_read
  pointwise
  show pad S128 ![16] ![96] ![0] (fun i : S16.Idx => m (c, Proc.tc.devRef main_arg3) (ix2 0 (i 0))) (sitofp (F := Ideal) FTy.f32 (constantI S_ 32 0#32)) pads_S16_S128_16960 h_S_ (ix1 j) = _
  pointwise
  by_cases h : 16 ≤ j.val ∧ j.val - 16 < 16
  · rw [dif_pos h, dif_pos ⟨h.1, by omega⟩]
    rfl
  · rw [dif_neg h, dif_neg (by omega)]
    exact sitofp_zero

theorem V5_at (j : Fin 128) : V m c main_v5 (ix2 0 j) = if h : 16 ≤ j.val ∧ j.val < 32 then (arrs m c).dt (ix2 0 ⟨j.val - 16, by omega⟩) else 0 := by
  simp only [V, hostOps0, hostOps0_1, hostOps0_2, hostOps0_3, hostOps0_4, hostOps0_5, hostOps0_6, List.flatten_cons, List.flatten_nil, List.append_nil, List.cons_append, List.nil_append]
  entry_read
  pointwise
  show pad S128 ![16] ![96] ![0] (fun i : S16.Idx => m (c, Proc.tc.devRef main_arg4) (ix2 0 (i 0))) (sitofp (F := Ideal) FTy.f32 (constantI S_ 32 0#32)) pads_S16_S128_16960 h_S_ (ix1 j) = _
  pointwise
  by_cases h : 16 ≤ j.val ∧ j.val - 16 < 16
  · rw [dif_pos h, dif_pos ⟨h.1, by omega⟩]
    rfl
  · rw [dif_neg h, dif_neg (by omega)]
    exact sitofp_zero

theorem V7_at (i j : Fin 128) : V m c main_v7 (ix2 i j) = Mx ltri (ix2 i j) := by
  simp only [V, hostOps0, hostOps0_1, hostOps0_2, hostOps0_3, hostOps0_4, hostOps0_5, hostOps0_6, List.flatten_cons, List.flatten_nil, List.append_nil, List.cons_append, List.nil_append]
  entry_read
  pointwise
  show select (cmpi CmpIPredicate.sge (addi (iotaInDim S128x128 32 0) (broadcastInDim S128x128 ![] bcast_S_S128x128 (constantI S_ 32 0#32))) (iotaInDim S128x128 32 1))
    (broadcastInDim S128x128 ![] bcast_S_S128x128 (constant (F := Ideal) S_ FTy.f32 1065353216#32))
    (broadcastInDim S128x128 ![] bcast_S_S128x128 (constant (F := Ideal) S_ FTy.f32 0#32)) (ix2 i j) = _
  pointwise
  rw [Mx_at, addi_zero, sge_at]
  unfold ltri
  by_cases h : j ≤ i
  · rw [if_pos h, if_pos h]
    rfl
  · rw [if_neg h, if_neg h]
    rfl

theorem V8_at (i : Fin 4) (j : Fin 6144) : V m c main_v8 (ix2 i j) = (arrs m c).w (ix3 0 i j) := by
  simp only [V, hostOps0, hostOps0_1, hostOps0_2, hostOps0_3, hostOps0_4, hostOps0_5, hostOps0_6, List.flatten_cons, List.flatten_nil, List.append_nil, List.cons_append, List.nil_append]
  entry_read
  pointwise
  rfl

theorem in0_at (t : Fin cfg0.N) (i : Fin 128) (j : Fin 6144) (R : Fin 8320) (hR : R.val = 128 * t.val + i.val) (C : Fin 20992) (hC : C.val = 4608 + j.val) :
    iblk m c 0 t (ix2 i j) = (arrs m c).p (ix2 R C) := by
  show _ = m ((c : Thread nD τ).loc main_arg0) (ix2 R C)
  rw [← V_main_arg0 m c]
  blk_simp [iblk]
  refine congrArg (V m c main_arg0) (funext fun a => Fin.ext ?_)
  have e := (Window.rect_emb_val_off win0_0 t (ix2 i j) a)
  have hi : win0_0.index t = ![t.val * 128, 4608] := idx0 t
  rw [hi] at e
  refine Eq.trans e ?_
  match a with
  | ⟨0, _⟩ => exact ((hR.trans (by rw [Nat.mul_comm] : 128 * t.val + i.val = t.val * 128 + i.val)).symm)
  | ⟨1, _⟩ => exact hC.symm

theorem in1_at (t : Fin cfg0.N) (i : Fin 128) (j : Fin 2048) (R : Fin 8320) (hR : R.val = 128 * t.val + i.val) (C : Fin 20992) (hC : C.val = 10752 + j.val) :
    iblk m c 1 t (ix2 i j) = (arrs m c).p (ix2 R C) := by
  show _ = m ((c : Thread nD τ).loc main_arg0) (ix2 R C)
  rw [← V_main_arg0 m c]
  blk_simp [iblk]
  refine congrArg (V m c main_arg0) (funext fun a => Fin.ext ?_)
  have e := (Window.rect_emb_val_off win0_1 t (ix2 i j) a)
  have hi : win0_1.index t = ![t.val * 128, 10752] := idx1 t
  rw [hi] at e
  refine Eq.trans e ?_
  match a with
  | ⟨0, _⟩ => exact ((hR.trans (by rw [Nat.mul_comm] : 128 * t.val + i.val = t.val * 128 + i.val)).symm)
  | ⟨1, _⟩ => exact hC.symm

theorem in2_at (t : Fin cfg0.N) (i j : Fin 128) (R : Fin 8320) (hR : R.val = t.val * 128 + i.val) :
    iblk m c 2 t (ix2 i j) = (arrs m c).ba (ix2 R j) := by
  rw [show (arrs m c).ba = V m c main_arg1 from (V_main_arg1 m c).symm]
  blk_ext [iblk, idx2 t]

theorem in3_at (t : Fin cfg0.N) (j : Fin 128) : iblk m c 3 t (ix2 0 j) = V m c main_v2 (ix2 0 j) := by
  blk_ext [iblk, idx3 t]
theorem in4_at (t : Fin cfg0.N) (j : Fin 128) : iblk m c 4 t (ix2 0 j) = V m c main_v5 (ix2 0 j) := by
  blk_ext [iblk, idx4 t]
theorem in5_at (t : Fin cfg0.N) (i j : Fin 128) : iblk m c 5 t (ix2 i j) = V m c main_v7 (ix2 i j) := by
  blk_ext [iblk, idx5 t]
theorem in6_at (t : Fin cfg0.N) (i : Fin 4) (j : Fin 6144) : iblk m c 6 t (ix2 i j) = V m c main_v8 (ix2 i j) := by
  blk_ext [iblk, idx6 t]
theorem in7_at (t : Fin cfg0.N) (j : Fin 128) : iblk m c 7 t (ix2 0 j) = (arrs m c).nw (ix2 0 j) := by
  rw [show (arrs m c).nw = V m c main_arg5 from (V_main_arg5 m c).symm]
  blk_ext [iblk, idx7 t]

variable {m c} (H : (arrs m c).Finite)

theorem padded_at {v : Fin 128 → EReal} {a : S1x16.Idx → EReal} {f : ℕ → ℝ} (hv : ∀ j : Fin 128, v j = if h : 16 ≤ j.val ∧ j.val < 32 then a (ix2 0 ⟨j.val - 16, by omega⟩) else 0)
    (ha : ∀ j : Fin 16, a (ix2 0 j) = ((f j.val : ℝ) : EReal)) (j : Fin 128) : v j = ((padded f j : ℝ) : EReal) := by
  rw [hv]
  unfold padded
  by_cases h : 16 ≤ j.val ∧ j.val < 32
  · rw [dif_pos h, if_pos h, ha]
  · rw [dif_neg h, if_neg h]
    rfl

theorem padded_head (f : ℕ → ℝ) (h : ℕ) (hh : h + 1 ≤ 16) : padded f ⟨16 + h, by omega⟩ = f h := by
  unfold padded
  rw [if_pos ⟨by show 16 ≤ 16 + h; omega, by show 16 + h < 32; omega⟩]
  exact congrArg f (by show 16 + h - 16 = h; omega)

include H

/-- The blocks chunk `t` is given. -/
theorem blks (t : Fin cfg0.N) : Blks (arrs m c).ins t.val (iblk m c 0 t) (iblk m c 1 t) (iblk m c 2 t) (iblk m c 3 t) (iblk m c 4 t) (iblk m c 5 t) (iblk m c 6 t) (iblk m c 7 t) where
  h0 i j := by
    have ht : t.val < 64 := t.isLt.trans_eq N_0
    exact (in0_at m c t i j ⟨128 * t.val + i.val, by omega⟩ rfl ⟨4608 + j.val, by omega⟩ rfl).trans (Arrs.x_at H _ _ _ _ rfl rfl)
  h1 i j := by
    have ht : t.val < 64 := t.isLt.trans_eq N_0
    exact (in1_at m c t i j ⟨128 * t.val + i.val, by omega⟩ rfl ⟨10752 + j.val, by omega⟩ rfl).trans (Arrs.z_at H _ _ _ _ rfl rfl)
  h2 := by
    have ht : t.val < 64 := t.isLt.trans_eq N_0
    funext i
    idx_vars i
    refine (in2_at m c t i0 i1 ⟨t.val * 128 + i0.val, by omega⟩ rfl).trans ((Arrs.b_at H _ _).trans ?_)
    show (((arrs m c).ins.b (t.val * 128 + i0.val) i1.val : ℝ) : EReal) = (((arrs m c).ins.b (128 * t.val + i0.val + 0) (0 + i1.val) : ℝ) : EReal)
    rw [Nat.zero_add, Nat.add_zero, Nat.mul_comm]
  h3 := ⟨padded (arrs m c).ins.al, by
    funext i
    idx_vars i
    rw [show i0 = 0 from Subsingleton.elim _ _]
    exact (in3_at m c t i1).trans (padded_at (v := fun j => V m c main_v2 (ix2 0 j)) (V2_at m c) (Arrs.al_at H) i1), fun h hh => padded_head _ h hh⟩
  h4 := ⟨padded (arrs m c).ins.dt, by
    funext i
    idx_vars i
    rw [show i0 = 0 from Subsingleton.elim _ _]
    exact (in4_at m c t i1).trans (padded_at (v := fun j => V m c main_v5 (ix2 0 j)) (V5_at m c) (Arrs.dt_at H) i1), fun h hh => padded_head _ h hh⟩
  h5 := by
    funext i
    idx_vars i
    exact (in5_at m c t i0 i1).trans (V7_at m c i0 i1)
  h6 r j := (in6_at m c t r j).trans ((V8_at m c r j).trans (Arrs.w_at H r j))
  h7 := by
    funext i
    idx_vars i
    rw [show i0 = 0 from Subsingleton.elim _ _]
    exact (in7_at m c t i1).trans (Arrs.nw_at H i1)

end Cert.Delta

end
-- ==== Proof.Delta.Chunks.lean ====
/- What a chunk leaves: its outputs, the heads' states, the next chunk's halo. -/
module

public import proofs.«01_k».proof.Proof.Delta.RunA
public import proofs.«01_k».proof.Proof.Delta.RunB
public import proofs.«01_k».proof.Proof.Delta.RunC
public import proofs.«01_k».proof.Proof.Delta.Blocks

@[expose] public section

set_option maxRecDepth 16384

noncomputable section

namespace Cert.Delta

open Idealize.ShloMosaic Idealize.ShloMosaic.TcCoe Cert.Kernel2Ideal Cert.Kernel2Ideal.Gen Cert.Kernel2Ideal.Value
open Idealize.SL.Sem Idealize.ShloMosaic.Pipeline Idealize.ShloMosaic.StableHlo

theorem hz3 : (![0, 0, 0] : Fin 3 → ℕ) = fun _ => 0 := by decide

section
variable (c : Dev nD) (i : grid0.Coords) (arg1 : Memref sig .tc .vmem S128x6144 .f32) (harg1 : arg1.IsWhole) (arg2 : Memref sig .tc .vmem S128x2048 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S4x6144 .f32) (harg7 : arg7.IsWhole) (arg8 : Memref sig .tc .vmem S1x128 .f32) (harg8 : arg8.IsWhole) (arg9 : Memref sig .tc .vmem S128x2048 .bf16) (harg9 : arg9.IsWhole) (arg10 : Memref sig .tc .vmem S16x128x128 .f32) (harg10 : arg10.IsWhole) (arg11 : Memref sig .tc .vmem S16x128x128 .f32) (harg11 : arg11.IsWhole) (arg12 : Memref sig .tc .vmem S136x6144 .f32) (harg12 : arg12.IsWhole)
    {I : Ins} {t : ℕ} {x0 : Vec Ideal S128x6144 .f32} {x1 : Vec Ideal S128x2048 .f32} {x2 : Vec Ideal S128x128 .f32} {x3 x4 : Vec Ideal S1x128 .f32}
    {x5 : Vec Ideal S128x128 .f32} {x6 : Vec Ideal S4x6144 .f32} {x7 : Vec Ideal S1x128 .f32}

section
variable (hc0 : cond0_0 i) (hc1 : ¬cond0_1 i) (B : Blks I 0 x0 x1 x2 x3 x4 x5 x6 x7)

include B

theorem outA_at (r : Fin 128) (j : Fin 2048) : out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r j) = ((I.out (j.val / 128) (128 * 0 + r.val) ⟨j.val % 128, Nat.mod_lt _ (by decide)⟩ : ℝ) : EReal) := by
  unfold out0_A_8
  rw [View.read_writes_junk_eq_canon, runA_out]
  exact (holdsA arg1 harg1 arg2 harg2 arg3 harg3 arg4 harg4 arg5 harg5 arg6 harg6 arg7 harg7 arg8 harg8 arg11 arg12 B).outs_at r j

theorem stateA_at (h : Fin 16) (d e : Fin 128) : sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix3 h d e) = ((I.S h.val (128 * (0 + 1)) d e : ℝ) : EReal) := by
  unfold sout0_A_0
  rw [View.read_writes_junk_eq_canon, runA_state]
  exact (holdsA arg1 harg1 arg2 harg2 arg3 harg3 arg4 harg4 arg5 harg5 arg6 harg6 arg7 harg7 arg8 harg8 arg11 arg12 B).state_at [pcS] h d e

theorem bufA_at (r : Fin 136) (j : Fin 6144) (hr : r.val < 8) : sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 (ix2 r j) = ((I.xp (128 * (0 + 1) + r.val) j.val : ℝ) : EReal) := by
  unfold sout0_A_1
  rw [View.read_writes_junk_eq_canon, runA_buf]
  exact buf_at B arg1 harg1 arg12 [pcZ] _ r j hr

end

variable (hc0 : ¬cond0_0 i) (B : Blks I t x0 x1 x2 x3 x4 x5 x6 x7) (xs0 : Vec Ideal S16x128x128 .f32) (xs1 : Vec Ideal S136x6144 .f32)
    (hs : ∀ (h : Fin 16) d e, xs0 (ix3 h d e) = ((I.S h.val (128 * t) d e : ℝ) : EReal))
    (hh : ∀ (r : Fin 136) (j : Fin 6144), r.val < 8 → xs1 (ix2 r j) = ((I.xp (128 * t + r.val) j.val : ℝ) : EReal))

include B hs hh

section
variable (hc1 : ¬cond0_1 i)

theorem outB_at (r : Fin 128) (j : Fin 2048) : out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix2 r j) = ((I.out (j.val / 128) (128 * t + r.val) ⟨j.val % 128, Nat.mod_lt _ (by decide)⟩ : ℝ) : EReal) := by
  unfold out0_B_8
  rw [View.read_writes_junk_eq_canon, runB_out]
  exact (holdsB arg1 harg1 arg2 harg2 arg3 harg3 arg4 harg4 arg5 harg5 arg6 harg6 arg7 harg7 arg8 harg8 arg11 harg11 arg12 harg12 B xs0 xs1 hs hh).outs_at r j

theorem stateB_at (h : Fin 16) (d e : Fin 128) : sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix3 h d e) = ((I.S h.val (128 * (t + 1)) d e : ℝ) : EReal) := by
  unfold sout0_B_0
  rw [View.read_writes_junk_eq_canon, runB_state, ← List.append_nil (allS _)]
  exact (holdsB arg1 harg1 arg2 harg2 arg3 harg3 arg4 harg4 arg5 harg5 arg6 harg6 arg7 harg7 arg8 harg8 arg11 harg11 arg12 harg12 B xs0 xs1 hs hh).state_at [] h d e

theorem bufB_at (r : Fin 136) (j : Fin 6144) (hr : r.val < 8) : sout0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix2 r j) = ((I.xp (128 * (t + 1) + r.val) j.val : ℝ) : EReal) := by
  unfold sout0_B_1
  rw [View.read_writes_junk_eq_canon, runB_buf]
  exact buf_at B arg1 harg1 arg12 [] _ r j hr

end

section
variable (hc1 : cond0_1 i)

theorem outC_at (r : Fin 128) (j : Fin 2048) : out0_C_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix2 r j) = ((I.out (j.val / 128) (128 * t + r.val) ⟨j.val % 128, Nat.mod_lt _ (by decide)⟩ : ℝ) : EReal) := by
  unfold out0_C_8
  rw [View.read_writes_junk_eq_canon, runC_out]
  exact (holdsB arg1 harg1 arg2 harg2 arg3 harg3 arg4 harg4 arg5 harg5 arg6 harg6 arg7 harg7 arg8 harg8 arg11 harg11 arg12 harg12 B xs0 xs1 hs hh).outs_at r j

theorem stateC_at (h : Fin 16) (d e : Fin 128) : sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix3 h d e) = ((I.S h.val (128 * (t + 1)) d e : ℝ) : EReal) := by
  unfold sout0_C_0
  rw [View.read_writes_junk_eq_canon, runC_state, ← List.append_nil (allS _)]
  exact (holdsB arg1 harg1 arg2 harg2 arg3 harg3 arg4 harg4 arg5 harg5 arg6 harg6 arg7 harg7 arg8 harg8 arg11 harg11 arg12 harg12 B xs0 xs1 hs hh).state_at [] h d e

theorem bufC_at (r : Fin 136) (j : Fin 6144) (hr : r.val < 8) : sout0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix2 r j) = ((I.xp (128 * (t + 1) + r.val) j.val : ℝ) : EReal) := by
  unfold sout0_C_1
  rw [View.read_writes_junk_eq_canon, runC_buf]
  exact buf_at B arg1 harg1 arg12 [] _ r j hr

theorem lastC_at (h : Fin 16) (d e : Fin 128) : out0_C_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 (ix3 h d e) = ((I.S h.val (128 * (t + 1)) d e : ℝ) : EReal) := by
  unfold out0_C_9
  rw [View.read_writes_junk_eq_canon, runC_last, View.canon_unit_zero hz3, View.readCov_eq_canon']
  have q : (Rect.unit (s := S16x128x128) ![0, 0, 0] S16x128x128.size inb_S16x128x128_S16x128x128_0_0_0).toLoadRect.idx (ix3 h d e) = ix3 h d e := by
    funext a
    refine Fin.ext ?_
    match a with
    | 0 =>
      show 0 + 1 * h.val = h.val
      omega
    | 1 =>
      show 0 + 1 * d.val = d.val
      omega
    | 2 =>
      show 0 + 1 * e.val = e.val
      omega
  show View.canon _ ((Rect.unit (s := S16x128x128) ![0, 0, 0] S16x128x128.size inb_S16x128x128_S16x128x128_0_0_0).toLoadRect.idx (ix3 h d e)) = _
  rw [q, ← List.append_nil (allS _)]
  exact (holdsB arg1 harg1 arg2 harg2 arg3 harg3 arg4 harg4 arg5 harg5 arg6 harg6 arg7 harg7 arg8 harg8 arg11 harg11 arg12 harg12 B xs0 xs1 hs hh).state_at [] h d e

end

end

/-- What chunk `n` leaves. -/
structure After (I : Ins) (n : ℕ) (o : Vec Ideal S128x2048 .bf16 × Vec Ideal S16x128x128 .f32 × Vec Ideal S16x128x128 .f32 × Vec Ideal S136x6144 .f32) : Prop where
  out : ∀ (r : Fin 128) (j : Fin 2048), o.1 (ix2 r j) = ((I.out (j.val / 128) (128 * n + r.val) ⟨j.val % 128, Nat.mod_lt _ (by decide)⟩ : ℝ) : EReal)
  state : ∀ (h : Fin 16) d e, o.2.2.1 (ix3 h d e) = ((I.S h.val (128 * (n + 1)) d e : ℝ) : EReal)
  buf : ∀ (r : Fin 136) (j : Fin 6144), r.val < 8 → o.2.2.2 (ix2 r j) = ((I.xp (128 * (n + 1) + r.val) j.val : ℝ) : EReal)
  last : n = 63 → ∀ (h : Fin 16) d e, o.2.1 (ix3 h d e) = ((I.S h.val (128 * (n + 1)) d e : ℝ) : EReal)

variable {m : (ℓ : Loc nD τ sig) → Buf (Elt Ideal) ℓ} {c : Dev nD} (H : (arrs m c).Finite)

include H

theorem chunkA (t : Fin cfg0.N) (h0 : t.val % 64 = 0) (h1 : ¬t.val % 64 = 63) : After (arrs m c).ins t.val (outsAt0 m c t.val t.isLt) := by
  have hN : t.val < 64 := t.isLt.trans_eq N_0
  have hz : t.val = 0 := by omega
  have B := blks H t
  rw [hz] at B
  rw [outsAt0_A m c t h0 h1]
  refine ⟨fun r j => ?_, fun h d e => ?_, fun r j hr => ?_, fun h => absurd h (by omega)⟩
  · dsimp only
    exact (outA_at c (grid0.coords t) _ _ _ _ _ _ _ _ _ _ _ _ _ _ _ _ _ _ _ _ _ _ _ _ _ _ B r j).trans (by rw [hz])
  · dsimp only
    exact (stateA_at c (grid0.coords t) _ _ _ _ _ _ _ _ _ _ _ _ _ _ _ _ _ _ _ _ _ _ _ _ _ _ B h d e).trans (by rw [hz])
  · dsimp only
    exact (bufA_at c (grid0.coords t) _ _ _ _ _ _ _ _ _ _ _ _ _ _ _ _ _ _ _ _ _ _ _ _ _ _ B r j hr).trans (by rw [hz])

section

variable (t : Fin cfg0.N) (h0 : ¬t.val % 64 = 0) (A : After (arrs m c).ins (t.val - 1) (outsAt0 m c (t.val - 1) (Nat.lt_of_le_of_lt (Nat.sub_le _ _) t.isLt)))

include h0 A

theorem state_before (h : Fin 16) (d e : Fin 128) : (outsAt0 m c (t.val - 1) (Nat.lt_of_le_of_lt (Nat.sub_le _ _) t.isLt)).2.2.1 (ix3 h d e) = (((arrs m c).ins.S h.val (128 * t.val) d e : ℝ) : EReal) := by
  rw [A.state, show t.val - 1 + 1 = t.val by omega]

theorem buf_before (r : Fin 136) (j : Fin 6144) (hr : r.val < 8) : (outsAt0 m c (t.val - 1) (Nat.lt_of_le_of_lt (Nat.sub_le _ _) t.isLt)).2.2.2 (ix2 r j) = (((arrs m c).ins.xp (128 * t.val + r.val) j.val : ℝ) : EReal) := by
  rw [A.buf r j hr, show t.val - 1 + 1 = t.val by omega]

theorem chunkB (h1 : ¬t.val % 64 = 63) : After (arrs m c).ins t.val (outsAt0 m c t.val t.isLt) := by
  have B := blks H t
  have hs := state_before H t h0 A
  have hb := buf_before H t h0 A
  rw [outsAt0_B m c t h0 h1]
  refine ⟨fun r j => ?_, fun h d e => ?_, fun r j hr => ?_, fun h => absurd h (by omega)⟩
  · dsimp only
    exact outB_at c (grid0.coords t) _ _ _ _ _ _ _ _ _ _ _ _ _ _ _ _ _ _ _ _ _ _ _ _ _ B _ _ hs hb _ r j
  · dsimp only
    exact stateB_at c (grid0.coords t) _ _ _ _ _ _ _ _ _ _ _ _ _ _ _ _ _ _ _ _ _ _ _ _ _ B _ _ hs hb _ h d e
  · dsimp only
    exact bufB_at c (grid0.coords t) _ _ _ _ _ _ _ _ _ _ _ _ _ _ _ _ _ _ _ _ _ _ _ _ _ B _ _ hs hb _ r j hr

theorem chunkC (h1 : t.val % 64 = 63) : After (arrs m c).ins t.val (outsAt0 m c t.val t.isLt) := by
  have B := blks H t
  have hs := state_before H t h0 A
  have hb := buf_before H t h0 A
  rw [outsAt0_C m c t h0 h1]
  refine ⟨fun r j => ?_, fun h d e => ?_, fun r j hr => ?_, fun _ h d e => ?_⟩
  · dsimp only
    exact outC_at c (grid0.coords t) _ _ _ _ _ _ _ _ _ _ _ _ _ _ _ _ _ _ _ _ _ _ _ _ _ B _ _ hs hb _ r j
  · dsimp only
    exact stateC_at c (grid0.coords t) _ _ _ _ _ _ _ _ _ _ _ _ _ _ _ _ _ _ _ _ _ _ _ _ _ B _ _ hs hb _ h d e
  · dsimp only
    exact bufC_at c (grid0.coords t) _ _ _ _ _ _ _ _ _ _ _ _ _ _ _ _ _ _ _ _ _ _ _ _ _ B _ _ hs hb _ r j hr
  · dsimp only
    exact lastC_at c (grid0.coords t) _ _ _ _ _ _ _ _ _ _ _ _ _ _ _ _ _ _ _ _ _ _ _ _ _ B _ _ hs hb _ h d e

end

theorem chunk : ∀ (n : ℕ) (hn : n < cfg0.N), After (arrs m c).ins n (outsAt0 m c n hn)
  | 0, hn => chunkA H ⟨0, hn⟩ (Nat.zero_mod _) (by show ¬0 % 64 = 63; decide)
  | n + 1, hn => by
    have A := chunk n (Nat.lt_of_succ_lt hn)
    have hN : n + 1 < 64 := hn.trans_eq N_0
    by_cases h1 : (n + 1) % 64 = 63
    · exact chunkC H ⟨n + 1, hn⟩ (by show ¬(n + 1) % 64 = 0; omega) A h1
    · exact chunkB H ⟨n + 1, hn⟩ (by show ¬(n + 1) % 64 = 0; omega) A h1

/-- All rows' outputs. -/
theorem final8 : (dats m 0 c).arrAt 8 cfg0.N = fun i : S8192x2048.Idx => (((arrs m c).ins.out ((i 1).val / 128) (i 0).val ⟨(i 1).val % 128, Nat.mod_lt _ (by decide)⟩ : ℝ) : EReal) := by
  have k : ∀ a b (ha : a % 128 < 128) (hb : b % 128 < 128) n n', a = b → n = n' → (((arrs m c).ins.out (a / 128) n ⟨a % 128, ha⟩ : ℝ) : EReal) = (((arrs m c).ins.out (b / 128) n' ⟨b % 128, hb⟩ : ℝ) : EReal) := by
    intro a b ha hb n n' h h'
    subst h h'
    rfl
  refine (dats m 0 c).arrAt_eq_of_covers 8 _ (by decide +kernel) fun t hf y => ?_
  have i0 : win0_8.index t 0 = t.val := by rw [idx8 t]; rfl
  have i1 : win0_8.index t 1 = 0 := by rw [idx8 t]; rfl
  blk_simp
  idx_vars y
  rw [after0_8, (chunk H t.val t.isLt).out y0 y1]
  exact k _ _ _ _ _ _ (by rw [i1]; omega) (by rw [i0, Nat.mul_comm])

/-- The last chunk's states. -/
theorem lastState_at (n : ℕ) (hn : n < cfg0.N) (h63 : n = 63) (h : Fin 16) (d e : Fin 128) : (outsAt0 m c n hn).2.1 (ix3 h d e) = (((arrs m c).ins.S h.val 8192 d e : ℝ) : EReal) := by
  rw [(chunk H n hn).last h63 h d e, show 128 * (n + 1) = 8192 by omega]

/-- The heads' states after the last row. -/
theorem final9 : (dats m 0 c).arrAt 9 cfg0.N = fun i : S16x128x128.Idx => (((arrs m c).ins.S (i 0).val 8192 (i 1) (i 2) : ℝ) : EReal) := by
  refine (dats m 0 c).arrAt_eq_of_covers 9 _ (by decide +kernel) fun t hf y => ?_
  have h63 : t.val = 63 := (by decide +kernel : ∀ t : Fin cfg0.N, (cfg0.win 9).flush t = true → t.val = 63) t hf
  have i0 : win0_9.index t 0 = 0 := by rw [idx9 t]; rfl
  have i1 : win0_9.index t 1 = 0 := by rw [idx9 t]; rfl
  have i2 : win0_9.index t 2 = 0 := by rw [idx9 t]; rfl
  have k : ∀ (h h' : ℕ) (d d' e e' : Fin 128), h = h' → d.val = d'.val → e.val = e'.val → (((arrs m c).ins.S h 8192 d e : ℝ) : EReal) = (((arrs m c).ins.S h' 8192 d' e' : ℝ) : EReal) := by
    intro h h' d d' e e' q1 q2 q3
    rw [q1, Fin.ext q2, Fin.ext q3]
  blk_simp
  idx_vars y
  rw [after0_9, lastState_at H t.val t.isLt h63 y0 y1 y2]
  refine k _ _ _ _ _ _ (by rw [i0]; omega) ?_ ?_
  · show y1.val = win0_9.index t 1 * 128 + 1 * y1.val
    rw [i1]
    omega
  · show y2.val = win0_9.index t 2 * 128 + 1 * y2.val
    rw [i2]
    omega

end Cert.Delta

end
-- ==== Proof.Delta.Trip.lean ====
/- One token of the reference's loop, over real numbers. -/
module

public import proofs.«01_k».proof.Proof.Delta.Spec
public import proofs.«01_k».proof.Proof.Gen.Reference2Ideal.Run
public import Idealize.ShloMosaic.Lib.Claim
public import Idealize.ShloMosaic.Lib.StableHlo.RunRead
public import Idealize.ShloMosaic.Lib.Pointwise
public import Idealize.ShloMosaic.Lib.DynamicIndex
public import Mathlib.Tactic.Positivity
public import Mathlib.Tactic.NormNum

@[expose] public section

set_option maxRecDepth 16384

noncomputable section

namespace Cert.Delta

open Idealize.ShloMosaic Idealize.ShloMosaic.TcCoe Cert.Reference2Ideal Cert.Reference2Ideal.Gen Cert.Reference2Ideal.Value
open Idealize.SL.Sem Idealize.ShloMosaic.Pipeline Idealize.ShloMosaic.StableHlo

/-- What the loop's buffers hold before token `T`. -/
structure Carr (I : Ins) (T : ℕ) (V : Valuation τ sig (Elt Ideal)) : Prop where
  q : ∀ (n : Fin 8192) (h : Fin 16) (e : Fin 128), V (Proc.devRef .tc main_v78_0) (ix3 n h e) = ((l2 (fun e => I.cv n.val (128 * h.val + e.val)) e : ℝ) : EReal)
  k : ∀ (n : Fin 8192) (h : Fin 16) (e : Fin 128), V (Proc.devRef .tc main_v78_1) (ix3 n h e) = ((I.k h.val n.val e : ℝ) : EReal)
  v : ∀ (n : Fin 8192) (h : Fin 16) (e : Fin 128), V (Proc.devRef .tc main_v78_2) (ix3 n h e) = ((I.v h.val n.val e : ℝ) : EReal)
  β : ∀ (n : Fin 8192) (h : Fin 16), V (Proc.devRef .tc main_v78_3) (ix2 n h) = ((I.β h.val n.val : ℝ) : EReal)
  g : ∀ (n : Fin 8192) (h : Fin 16), V (Proc.devRef .tc main_v78_4) (ix2 n h) = ((I.g h.val n.val : ℝ) : EReal)
  z : ∀ (n : Fin 8192) (h : Fin 16) (e : Fin 128), V (Proc.devRef .tc main_v78_5) (ix3 n h e) = ((I.z n.val (128 * h.val + e.val) : ℝ) : EReal)
  nw : ∀ e : Fin 128, V (Proc.devRef .tc main_v78_6) (ix1 e) = ((I.nw e : ℝ) : EReal)
  ctr : V (Proc.devRef .tc main_v78_7) = fun _ => BitVec.ofNat 32 T
  S : ∀ (h : Fin 16) (d e : Fin 128), V (Proc.devRef .tc main_v78_8) (ix3 h d e) = ((I.S h.val T d e : ℝ) : EReal)
  out : ∀ (n : Fin 8192) (h : Fin 16) (e : Fin 128), n.val < T → V (Proc.devRef .tc main_v78_9) (ix3 n h e) = ((I.out h.val n.val e : ℝ) : EReal)

variable {I : Ins} {k : ℕ} {V : Valuation τ sig (Elt Ideal)} (H : Carr I k V) (hk : k < 8192)

/-- A slice at row `k`. -/
theorem row3 (x : S8192x16x128.Idx → EReal) (st : Fin 3 → Int) (h0 : st 0 = k) (h1 : st 1 = 0) (h2 : st 2 = 0) (hk : k < 8192) (h : Fin 16) (e : Fin 128) :
    Host.dynamicSlice S1x16x128 x st sliceFits_S8192x16x128_S1x16x128 (ix3 0 h e) = x (ix3 ⟨k, hk⟩ h e) := by
  rw [Host.dynamicSlice_apply]
  have c0 := Host.clampedStart_of_le (s := S8192x16x128) (t := S1x16x128) rfl st (0 : Fin 3) k h0 (by show k + 1 ≤ 8192; omega)
  have c1 := Host.clampedStart_of_le (s := S8192x16x128) (t := S1x16x128) rfl st (1 : Fin 3) 0 h1 (by decide)
  have c2 := Host.clampedStart_of_le (s := S8192x16x128) (t := S1x16x128) rfl st (2 : Fin 3) 0 h2 (by decide)
  refine congrArg x (funext fun a => Fin.ext ?_)
  match a with
  | ⟨0, _⟩ => exact congrArg (· + 0) c0
  | ⟨1, _⟩ => exact (congrArg (· + h.val) c1).trans (Nat.zero_add _)
  | ⟨2, _⟩ => exact (congrArg (· + e.val) c2).trans (Nat.zero_add _)

theorem row2 (x : S8192x16.Idx → EReal) (st : Fin 2 → Int) (h0 : st 0 = k) (h1 : st 1 = 0) (hk : k < 8192) (h : Fin 16) :
    Host.dynamicSlice S1x16 x st sliceFits_S8192x16_S1x16 (ix2 0 h) = x (ix2 ⟨k, hk⟩ h) := by
  rw [Host.dynamicSlice_apply]
  have c0 := Host.clampedStart_of_le (s := S8192x16) (t := S1x16) rfl st (0 : Fin 2) k h0 (by show k + 1 ≤ 8192; omega)
  have c1 := Host.clampedStart_of_le (s := S8192x16) (t := S1x16) rfl st (1 : Fin 2) 0 h1 (by decide)
  refine congrArg x (funext fun a => Fin.ext ?_)
  match a with
  | ⟨0, _⟩ => exact congrArg (· + 0) c0
  | ⟨1, _⟩ => exact (congrArg (· + h.val) c1).trans (Nat.zero_add _)

/-- A loop counter as a start. -/
theorem ctr_toInt {f : S_.Idx → BitVec 32} (hf : f = fun _ => BitVec.ofNat 32 k) (hk : k < 8192) (i : S_.Idx) : (f i).toInt = (k : Int) := by
  subst hf
  exact toInt_ofNat_of_lt (by omega)

/-- A row of three axes as a table. -/
theorem cast3 (x : S1x16x128.Idx → EReal) (h : Fin 16) (e : Fin 128) : shapeCast S16x128 x shapeCasts_S1x16x128_S16x128 (ix2 h e) = x (ix3 0 h e) := by
  pointwise

theorem cast2 (x : S1x16.Idx → EReal) (h : Fin 16) : shapeCast S16 x shapeCasts_S1x16_S16 (ix1 h) = x (ix2 0 h) := by
  pointwise

/-- Writing row `k`. -/
theorem wr3 (x : S8192x16x128.Idx → EReal) (u : S1x16x128.Idx → EReal) (st : Fin 3 → Int) (h0 : st 0 = k) (h1 : st 1 = 0) (h2 : st 2 = 0) (hk : k < 8192) (n : Fin 8192) (h : Fin 16) (e : Fin 128) :
    Host.dynamicUpdateSlice x u st updateFits_S8192x16x128_S1x16x128 (ix3 n h e) = if n.val = k then u (ix3 0 h e) else x (ix3 n h e) := by
  rw [Host.dynamicUpdateSlice_apply]
  have c0 := Host.clampedStart_of_le (s := S8192x16x128) (t := S1x16x128) rfl st (0 : Fin 3) k h0 (by show k + 1 ≤ 8192; omega)
  have c1 := Host.clampedStart_of_le (s := S8192x16x128) (t := S1x16x128) rfl st (1 : Fin 3) 0 h1 (by decide)
  have c2 := Host.clampedStart_of_le (s := S8192x16x128) (t := S1x16x128) rfl st (2 : Fin 3) 0 h2 (by decide)
  by_cases hn : n.val = k
  · rw [if_pos hn, dif_pos]
    · refine congrArg u (funext fun a => Fin.ext ?_)
      match a with
      | ⟨0, _⟩ => exact (congrArg (n.val - ·) c0).trans (by show n.val - k = 0; omega)
      | ⟨1, _⟩ => exact (congrArg (h.val - ·) c1).trans (Nat.sub_zero _)
      | ⟨2, _⟩ => exact (congrArg (e.val - ·) c2).trans (Nat.sub_zero _)
    · intro a
      match a with
      | ⟨0, _⟩ => exact ⟨c0.le.trans hn.ge, by refine lt_of_lt_of_eq ?_ (congrArg (· + 1) c0).symm; show n.val < k + 1; omega⟩
      | ⟨1, _⟩ => exact ⟨c1.le.trans (Nat.zero_le _), by refine lt_of_lt_of_eq ?_ (congrArg (· + 16) c1).symm; show h.val < 0 + 16; omega⟩
      | ⟨2, _⟩ => exact ⟨c2.le.trans (Nat.zero_le _), by refine lt_of_lt_of_eq ?_ (congrArg (· + 128) c2).symm; show e.val < 0 + 128; omega⟩
  · rw [if_neg hn, dif_neg]
    intro hin
    have a0 : k ≤ n.val := le_trans c0.ge (hin (0 : Fin 3)).1
    have b0 : n.val < k + 1 := lt_of_lt_of_eq (hin (0 : Fin 3)).2 (congrArg (· + 1) c0)
    omega

/-- The sigmoid, written as a quotient. -/
theorem sg_div (x : ℝ) : Ideal.div 1 (1 + Ideal.exp (-((x : ℝ) : EReal))) = ((sg x : ℝ) : EReal) := by
  have h : (1 + Real.exp (-x)) ≠ 0 := by positivity
  rw [← EReal.coe_neg, Ideal.exp_coe, ← EReal.coe_one, ← EReal.coe_add, Ideal.div_coe h, ← EReal.coe_mul, one_mul, one_div]
  rfl

/-- What the gated norm takes the root of is positive. -/
theorem norm_pos (f : Fin 128 → ℝ) : 0 < (∑ e, f e * f e) * (1 / 128) + eps :=
  add_pos_of_nonneg_of_pos (mul_nonneg (Finset.sum_nonneg fun e _ => mul_self_nonneg _) (by norm_num)) eps_pos

include H hk

theorem k_at (h : Fin 16) (e : Fin 128) : res_main_while0b_v82 V (ix2 h e) = ((I.k h.val k e : ℝ) : EReal) := by
  unfold res_main_while0b_v82
  exact (cast3 _ h e).trans ((row3 _ _ (ctr_toInt H.ctr hk _) rfl rfl hk h e).trans (H.k ⟨k, hk⟩ h e))

theorem z_at (h : Fin 16) (e : Fin 128) : res_main_while0b_v86 V (ix2 h e) = ((I.z k (128 * h.val + e.val) : ℝ) : EReal) := by
  unfold res_main_while0b_v86
  exact (cast3 _ h e).trans ((row3 _ _ (ctr_toInt H.ctr hk _) rfl rfl hk h e).trans (H.z ⟨k, hk⟩ h e))

theorem decayed_at (h : Fin 16) (d e : Fin 128) : res_main_while0b_v90 V (ix3 h d e) = ((I.S h.val k d e * Real.exp (I.g h.val k) : ℝ) : EReal) := by
  unfold res_main_while0b_v90
  generalize hG : shapeCast S16 _ shapeCasts_S1x16_S16 = G
  have hg : G (ix1 h) = ((I.g h.val k : ℝ) : EReal) := by
    rw [← hG]
    exact (cast2 _ h).trans ((row2 _ _ (ctr_toInt H.ctr hk _) rfl hk h).trans (H.g ⟨k, hk⟩ h))
  rw [EReal.coe_mul, ← H.S, ← Ideal.exp_coe, ← hg]
  pointwise

theorem st_at (h : Fin 16) (d e : Fin 128) : res_main_while0b_v101 V (ix3 h d e) = ((I.S h.val (k + 1) d e : ℝ) : EReal) := by
  unfold res_main_while0b_v101
  generalize hB : shapeCast S16 _ shapeCasts_S1x16_S16 = B
  generalize hW : shapeCast S16x128 _ shapeCasts_S1x16x128_S16x128 = W
  have hb : B (ix1 h) = ((I.β h.val k : ℝ) : EReal) := by
    rw [← hB]
    exact (cast2 _ h).trans ((row2 _ _ (ctr_toInt H.ctr hk _) rfl hk h).trans (H.β ⟨k, hk⟩ h))
  have hv : W (ix2 h e) = ((I.v h.val k e : ℝ) : EReal) := by
    rw [← hW]
    exact (cast3 _ h e).trans ((row3 _ _ (ctr_toInt H.ctr hk _) rfl rfl hk h e).trans (H.v ⟨k, hk⟩ h e))
  have hS : (I.S h.val (k + 1) d e : ℝ) = I.S h.val k d e * Real.exp (I.g h.val k) + I.k h.val k d * (I.β h.val k * (I.v h.val k e - ∑ d, I.k h.val k d * (I.S h.val k d e * Real.exp (I.g h.val k)))) := rfl
  rw [hS]
  simp only [EReal.coe_add, EReal.coe_mul, EReal.coe_sub, coe_sum, ← decayed_at H hk, ← k_at H hk, ← hb, ← hv]
  pointwise

theorem o_at (h : Fin 16) (e : Fin 128) : res_main_while0b_v104 V (ix2 h e) = ((I.o h.val k e : ℝ) : EReal) := by
  unfold res_main_while0b_v104
  generalize hW : shapeCast S16x128 _ shapeCasts_S1x16x128_S16x128 = W
  have hq : ∀ d, W (ix2 h d) = ((l2 (fun e => I.cv k (128 * h.val + e.val)) d : ℝ) : EReal) := fun d => by
    rw [← hW]
    exact (cast3 _ h d).trans ((row3 _ _ (ctr_toInt H.ctr hk _) rfl rfl hk h d).trans (H.q ⟨k, hk⟩ h d))
  have ho : (I.o h.val k e : ℝ) = ∑ d, (l2 (fun e => I.cv k (128 * h.val + e.val)) d * qscale) * I.S h.val (k + 1) d e := rfl
  rw [ho]
  simp only [EReal.coe_mul, coe_sum, ← st_at H hk, ← hq, ← ofBits_qscale]
  pointwise

theorem step_out (n : Fin 8192) (h : Fin 16) (e : Fin 128) (hn : n.val < k + 1) : step_main_v78_9 V (ix3 n h e) = ((I.out h.val n.val e : ℝ) : EReal) := by
  unfold step_main_v78_9
  refine (wr3 _ _ _ (ctr_toInt H.ctr hk _) rfl rfl hk n h e).trans ?_
  split
  · rename_i hnk
    rw [hnk]
    have hO : (I.out h.val k e : ℝ) = I.o h.val k e * (√((∑ e, I.o h.val k e * I.o h.val k e) / 128 + eps))⁻¹ * I.nw e * (I.z k (128 * h.val + e.val) * sg (I.z k (128 * h.val + e.val))) := rfl
    rw [hO]
    pointwise
    simp only [o_at H hk, z_at H hk, H.nw, sg_div, ofBits_eps, ofBits_128, ← EReal.coe_mul, ← coe_sum]
    rw [Ideal.div_coe (by norm_num : (128 : ℝ) ≠ 0), ← EReal.coe_mul, ← EReal.coe_add, rsqrt_pos (norm_pos _), ← EReal.coe_mul, ← EReal.coe_mul, ← EReal.coe_mul, mul_one_div]
  · exact H.out n h e (by omega)

/-- The loop's buffers after token `k`. -/
theorem Carr.step : Carr I (k + 1) (STEP V) where
  q := H.q
  k := H.k
  v := H.v
  β := H.β
  g := H.g
  z := H.z
  nw := H.nw
  ctr := by
    rw [STEP_main_v78_7]
    unfold step_main_v78_7
    have := H.ctr
    funext i
    show BitVec.add _ _ = _
    rw [H.ctr]
    exact (BitVec.ofNat_add k 1).symm
  S := fun h d e => by
    rw [STEP_main_v78_8]
    exact st_at H hk h d e
  out := fun n h e hn => by
    rw [STEP_main_v78_9]
    exact step_out H hk n h e hn

end Cert.Delta

end
-- ==== Proof.Delta.Entry.lean ====
/- What the reference holds when its loop over tokens starts. -/
module

public import proofs.«01_k».proof.Proof.Delta.Trip
public import proofs.«01_k».proof.Proof.Delta.Inputs
public import Mathlib.Tactic.Ring

@[expose] public section

set_option maxRecDepth 16384

noncomputable section

namespace Cert.Delta

open Idealize.ShloMosaic Idealize.ShloMosaic.TcCoe Cert.Reference2Ideal Cert.Reference2Ideal.Gen Cert.Reference2Ideal.Value
open Idealize.SL.Sem Idealize.ShloMosaic.Pipeline Idealize.ShloMosaic.StableHlo

/-! The arrays the reference forms, as functions of its arguments. -/

def zeroR : FVec Ideal S_ .f32 := constant S_ .f32 0x00000000#32
def oneR : FVec Ideal S_ .f32 := constant S_ .f32 0x3F800000#32

/-- Three rows of zeros and the convolution's rows. -/
def rowsR (p : FVec Ideal S8320x20992 .f32) : FVec Ideal S8195x6144 .f32 :=
  concatenate S8195x6144 0 [⟨S3x6144, broadcastInDim S3x6144 ![] bcast_S_S3x6144 zeroR⟩,
    ⟨S8192x6144, extractStridedSlice S8192x6144 ![0, 4608] p slices_S8320x20992_S8192x6144_0_4608⟩] concatenates_S3x6144_S8192x6144_S8195x6144_d0

/-- One tap over all rows. -/
def tapR (x : FVec Ideal S8192x6144 .f32) (w : FVec Ideal S1x6144 .f32) : FVec Ideal S8192x6144 .f32 :=
  mulf x (broadcastInDim S8192x6144 ![0, 1] bcast_S1x6144_S8192x6144_0_1 (broadcastInDim S1x6144 ![1] bcast_S6144_S1x6144_1 (shapeCast S6144 w shapeCasts_S1x6144_S6144)))

def convR (x : FVec Ideal S8195x6144 .f32) (w : FVec Ideal S4x6144 .f32) : FVec Ideal S8192x6144 .f32 :=
  addf (addf (addf
    (tapR (extractStridedSlice S8192x6144 ![0, 0] x slices_S8195x6144_S8192x6144_0_0) (extractStridedSlice S1x6144 ![0, 0] w slices_S4x6144_S1x6144_0_0))
    (tapR (extractStridedSlice S8192x6144 ![1, 0] x slices_S8195x6144_S8192x6144_1_0) (extractStridedSlice S1x6144 ![1, 0] w slices_S4x6144_S1x6144_1_0)))
    (tapR (extractStridedSlice S8192x6144 ![2, 0] x slices_S8195x6144_S8192x6144_2_0) (extractStridedSlice S1x6144 ![2, 0] w slices_S4x6144_S1x6144_2_0)))
    (tapR (extractStridedSlice S8192x6144 ![3, 0] x slices_S8195x6144_S8192x6144_3_0) (extractStridedSlice S1x6144 ![3, 0] w slices_S4x6144_S1x6144_3_0))

def siluR (x : FVec Ideal S8192x6144 .f32) : FVec Ideal S8192x6144 .f32 :=
  mulf x (Host.divf (broadcastInDim S8192x6144 ![] bcast_S_S8192x6144 oneR) (addf (broadcastInDim S8192x6144 ![] bcast_S_S8192x6144 oneR) (Host.exp (Host.negf x))))

/-- The convolution, through its gate. -/
def cvR (p : FVec Ideal S8320x20992 .f32) (w : FVec Ideal S1x4x6144 .f32) : FVec Ideal S8192x6144 .f32 :=
  siluR (convR (rowsR p) (shapeCast S4x6144 w shapeCasts_S1x4x6144_S4x6144))

def headsR (x : FVec Ideal S8192x2048 .f32) : FVec Ideal S8192x16x128 .f32 := shapeCast S8192x16x128 x shapeCasts_S8192x2048_S8192x16x128

/-- Every head's row divided by its length. -/
def l2R (x : FVec Ideal S8192x16x128 .f32) : FVec Ideal S8192x16x128 .f32 :=
  mulf x (broadcastInDim S8192x16x128 ![0, 1, 2] bcast_S8192x16x1_S8192x16x128_0_1_2 (Host.rsqrt (addf
    (broadcastInDim S8192x16x1 ![0, 1] bcast_S8192x16_S8192x16x1_0_1 (Host.reduceAdd (mulf x x) zeroR reducesTo_S8192x16x128_S8192x16_d2 h_S_))
    (broadcastInDim S8192x16x1 ![] bcast_S_S8192x16x1 (constant S_ .f32 0x358637BD#32)))))

def sgR (x : FVec Ideal S8192x16 .f32) : FVec Ideal S8192x16 .f32 :=
  Host.divf (broadcastInDim S8192x16 ![] bcast_S_S8192x16 oneR) (addf (broadcastInDim S8192x16 ![] bcast_S_S8192x16 oneR) (Host.exp (Host.negf x)))

def spR (x : FVec Ideal S8192x16 .f32) : FVec Ideal S8192x16 .f32 :=
  select (cmpf .une (subf x (broadcastInDim S8192x16 ![] bcast_S_S8192x16 zeroR)) (subf x (broadcastInDim S8192x16 ![] bcast_S_S8192x16 zeroR)))
    (addf x (broadcastInDim S8192x16 ![] bcast_S_S8192x16 zeroR))
    (addf (maximumf x (broadcastInDim S8192x16 ![] bcast_S_S8192x16 zeroR)) (Host.log1p (Host.exp (Host.negf (Host.absf (subf x (broadcastInDim S8192x16 ![] bcast_S_S8192x16 zeroR)))))))

def gR (ba : FVec Ideal S8320x128 .f32) (al dt : FVec Ideal S1x16 .f32) : FVec Ideal S8192x16 .f32 :=
  mulf (broadcastInDim S8192x16 ![0, 1] bcast_S1x16_S8192x16_0_1 (broadcastInDim S1x16 ![1] bcast_S16_S1x16_1 (Host.negf (Host.exp (shapeCast S16 al shapeCasts_S1x16_S16)))))
    (spR (addf (extractStridedSlice S8192x16 ![0, 16] ba slices_S8320x128_S8192x16_0_16)
      (broadcastInDim S8192x16 ![0, 1] bcast_S1x16_S8192x16_0_1 (broadcastInDim S1x16 ![1] bcast_S16_S1x16_1 (shapeCast S16 dt shapeCasts_S1x16_S16)))))

section

variable {A : Arrs} (H : A.Finite)

include H

theorem rowsR_at (n : Fin 8195) (c : Fin 6144) : rowsR A.p (ix2 n c) = ((A.ins.xp (n.val + 5) c.val : ℝ) : EReal) := by
  unfold rowsR zeroR
  pointwise
  by_cases hn : n.val < 3
  · rw [dif_pos hn, Ins.xp, if_pos (by omega)]
    rfl
  · rw [dif_neg hn]
    refine (A.x_at H _ _ (n.val - 3) c.val rfl rfl).trans ?_
    have e : A.ins.xp (n.val + 5) c.val = A.ins.x (n.val + 5 - 8) c.val := if_neg (by omega)
    rw [e, show n.val + 5 - 8 = n.val - 3 by omega]

theorem cvR_at (n : Fin 8192) (c : Fin 6144) : cvR A.p A.w (ix2 n c) = ((A.ins.cv n.val c.val : ℝ) : EReal) := by
  unfold cvR siluR convR tapR oneR
  pointwise
  simp only [rowsR_at H, A.w_at H, ← EReal.coe_mul, ← EReal.coe_add, sg_div]
  refine congrArg _ ?_
  unfold Ins.cv silu
  have e : ∀ i j : ℕ, i = j → A.ins.xp i c.val = A.ins.xp j c.val := fun _ _ h => by rw [h]
  have hs : A.ins.xp (n.val + 5) c.val * A.ins.w 0 c.val + A.ins.xp (1 + n.val + 5) c.val * A.ins.w 1 c.val + A.ins.xp (2 + n.val + 5) c.val * A.ins.w 2 c.val + A.ins.xp (3 + n.val + 5) c.val * A.ins.w 3 c.val
      = A.ins.xp (n.val + 8) c.val * A.ins.w 3 c.val + A.ins.xp (n.val + 7) c.val * A.ins.w 2 c.val + A.ins.xp (n.val + 6) c.val * A.ins.w 1 c.val + A.ins.xp (n.val + 5) c.val * A.ins.w 0 c.val := by
    rw [e (1 + n.val + 5) (n.val + 6) (by omega), e (2 + n.val + 5) (n.val + 7) (by omega), e (3 + n.val + 5) (n.val + 8) (by omega)]
    ring
  exact congrArg (fun y => y * sg y) hs

theorem gR_at (n : Fin 8192) (h : Fin 16) : gR A.ba A.al A.dt (ix2 n h) = ((A.ins.g h.val n.val : ℝ) : EReal) := by
  unfold gR spR zeroR
  pointwise
  rw [if_neg (not_not.mpr rfl), A.al_at H, A.b_at H, A.dt_at H, ← EReal.coe_add, ← zero_sub (FloatOps.absf _), softplus_coe, Ideal.exp_coe, ← EReal.coe_neg, ← EReal.coe_mul]
  rfl

theorem sgR_at (n : Fin 8192) (h : Fin 16) : sgR (extractStridedSlice S8192x16 ![0, 0] A.ba slices_S8320x128_S8192x16_0_0) (ix2 n h) = ((A.ins.β h.val n.val : ℝ) : EReal) := by
  unfold sgR oneR
  pointwise
  rw [A.b_at H]
  exact sg_div _

end

theorem l2R_at (x : FVec Ideal S8192x16x128 .f32) (f : ℕ → ℕ → Fin 128 → ℝ) (hf : ∀ n h e, x (ix3 n h e) = ((f n.val h.val e : ℝ) : EReal)) (n : Fin 8192) (h : Fin 16) (e : Fin 128) :
    l2R x (ix3 n h e) = ((l2 (f n.val h.val) e : ℝ) : EReal) := by
  unfold l2R zeroR
  pointwise
  simp only [hf, ofBits_eps, ← EReal.coe_mul, ← coe_sum, ← EReal.coe_add]
  rw [rsqrt_pos (add_pos_of_nonneg_of_pos (Finset.sum_nonneg fun e _ => mul_self_nonneg _) eps_pos), ← EReal.coe_mul]
  rfl

theorem headsR_at (x : FVec Ideal S8192x2048 .f32) (n : Fin 8192) (h : Fin 16) (e : Fin 128) : headsR x (ix3 n h e) = x (ix2 n ⟨128 * h.val + e.val, by omega⟩) := by
  unfold headsR
  pointwise
  exact congrArg (fun j => x (ix2 n j)) (Fin.ext (congrArg (· + e.val) (Nat.mul_comm _ _)))

/-- The loop's buffers at its start. -/
structure AtEntry (m : (ℓ : Loc nD τ sig) → Buf (Elt Ideal) ℓ) (c : Dev nD) : Prop where
  q : entryContents preI m c (Proc.devRef .tc main_v78_0) = l2R (headsR (extractStridedSlice S8192x2048 ![0, 0] (cvR (m ⟨c, Proc.devRef .tc main_arg0⟩) (m ⟨c, Proc.devRef .tc main_arg2⟩)) slices_S8192x6144_S8192x2048_0_0))
  k : entryContents preI m c (Proc.devRef .tc main_v78_1) = l2R (headsR (extractStridedSlice S8192x2048 ![0, 2048] (cvR (m ⟨c, Proc.devRef .tc main_arg0⟩) (m ⟨c, Proc.devRef .tc main_arg2⟩)) slices_S8192x6144_S8192x2048_0_2048))
  v : entryContents preI m c (Proc.devRef .tc main_v78_2) = headsR (extractStridedSlice S8192x2048 ![0, 4096] (cvR (m ⟨c, Proc.devRef .tc main_arg0⟩) (m ⟨c, Proc.devRef .tc main_arg2⟩)) slices_S8192x6144_S8192x2048_0_4096)
  β : entryContents preI m c (Proc.devRef .tc main_v78_3) = sgR (extractStridedSlice S8192x16 ![0, 0] (m ⟨c, Proc.devRef .tc main_arg1⟩) slices_S8320x128_S8192x16_0_0)
  g : entryContents preI m c (Proc.devRef .tc main_v78_4) = gR (m ⟨c, Proc.devRef .tc main_arg1⟩) (m ⟨c, Proc.devRef .tc main_arg3⟩) (m ⟨c, Proc.devRef .tc main_arg4⟩)
  z : entryContents preI m c (Proc.devRef .tc main_v78_5) = headsR (extractStridedSlice S8192x2048 ![0, 10752] (m ⟨c, Proc.devRef .tc main_arg0⟩) slices_S8320x20992_S8192x2048_0_10752)
  nw : entryContents preI m c (Proc.devRef .tc main_v78_6) = shapeCast S128 (m ⟨c, Proc.devRef .tc main_arg5⟩) shapeCasts_S1x128_S128
  S : entryContents preI m c (Proc.devRef .tc main_v78_8) = broadcastInDim S16x128x128 ![] bcast_S_S16x128x128 zeroR

set_option maxRecDepth 65536 in
set_option maxHeartbeats 1400000 in
theorem atEntry (m : (ℓ : Loc nD τ sig) → Buf (Elt Ideal) ℓ) (c : Dev nD) : AtEntry m c := by
  constructor <;> (simp only [entryContents, afterL_cons, afterL_nil]; after_reads_simp) <;> rfl

/-- The reference's arguments. -/
def rarrs (m : (ℓ : Loc nD τ sig) → Buf (Elt Ideal) ℓ) (c : Dev nD) : Arrs where
  p := m ((c.tc : Thread nD τ).loc main_arg0)
  ba := m ((c.tc : Thread nD τ).loc main_arg1)
  w := m ((c.tc : Thread nD τ).loc main_arg2)
  al := m ((c.tc : Thread nD τ).loc main_arg3)
  dt := m ((c.tc : Thread nD τ).loc main_arg4)
  nw := m ((c.tc : Thread nD τ).loc main_arg5)

variable (m : (ℓ : Loc nD τ sig) → Buf (Elt Ideal) ℓ) (c : Dev nD) (H : (rarrs m c).Finite)

/-- A stretch of the convolution's columns, head by head. -/
theorem cvHeads_at {A : Arrs} (H : A.Finite) (x : FVec Ideal S8192x2048 .f32) (o : ℕ) (ho : o + 2048 ≤ 6144)
    (hx : ∀ (n : Fin 8192) (j : Fin 2048), x (ix2 n j) = cvR A.p A.w (ix2 n ⟨o + j.val, by omega⟩)) (n : Fin 8192) (h : Fin 16) (e : Fin 128) :
    headsR x (ix3 n h e) = ((A.ins.cv n.val (o + 128 * h.val + e.val) : ℝ) : EReal) := by
  rw [headsR_at, hx, cvR_at H]
  exact congrArg (fun j => ((A.ins.cv n.val j : ℝ) : EReal)) (Nat.add_assoc _ _ _).symm

include H

theorem carr_zero : Carr (rarrs m c).ins 0 (entryContents preI m c) where
  q n h e := by
    rw [(atEntry m c).q]
    refine l2R_at _ (fun n h e => (rarrs m c).ins.cv n (128 * h + e.val)) (fun n h e => ?_) n h e
    refine (cvHeads_at H _ 0 (by decide) (fun n j => ?_) n h e).trans (by rw [Nat.zero_add])
    pointwise
    rfl
  k n h e := by
    rw [(atEntry m c).k]
    refine l2R_at _ (fun n h e => (rarrs m c).ins.cv n (2048 + 128 * h + e.val)) (fun n h e => ?_) n h e
    refine cvHeads_at H _ 2048 (by decide) (fun n j => ?_) n h e
    pointwise
    rfl
  v n h e := by
    rw [(atEntry m c).v]
    refine cvHeads_at H _ 4096 (by decide) (fun n j => ?_) n h e
    pointwise
    rfl
  β n h := by
    rw [(atEntry m c).β]
    exact sgR_at H n h
  g n h := by
    rw [(atEntry m c).g]
    exact gR_at H n h
  z n h e := by
    rw [(atEntry m c).z, headsR_at]
    pointwise
    exact (rarrs m c).z_at H _ _ _ _ rfl rfl
  nw e := by
    rw [(atEntry m c).nw]
    pointwise
    exact (rarrs m c).nw_at H e
  ctr := ctr_entry m c
  S h d e := by
    rw [(atEntry m c).S]
    unfold zeroR
    pointwise
    rfl
  out n h e hn := absurd hn (Nat.not_lt_zero _)

theorem carr (k : ℕ) (hk : k ≤ 8192) : Carr (rarrs m c).ins k (STEP^[k] (entryContents preI m c)) := by
  induction k with
  | zero => exact carr_zero m c H
  | succ k ih =>
    rw [Function.iterate_succ_apply']
    exact (ih (by omega)).step (by omega)

/-- The reference's output rows. -/
theorem ref_out : out_main_v80 (STEP^[8192] (entryContents preI m c))
    = fun i : S8192x2048.Idx => (((rarrs m c).ins.out ((i 1).val / 128) (i 0).val ⟨(i 1).val % 128, Nat.mod_lt _ (by decide)⟩ : ℝ) : EReal) := by
  have HC := carr m c H 8192 le_rfl
  funext i
  idx_vars i
  unfold out_main_v80
  pointwise
  exact HC.out _ _ _ i0.isLt

/-- The reference's final state. -/
theorem ref_state : (STEP^[8192] (entryContents preI m c)) (Proc.devRef .tc main_v78_8)
    = fun i : S16x128x128.Idx => (((rarrs m c).ins.S (i 0).val 8192 (i 1) (i 2) : ℝ) : EReal) := by
  funext i
  idx_vars i
  exact (carr m c H 8192 le_rfl).S _ _ _

end Cert.Delta

end
-- ==== Proof.Delta.Finite.lean ====
/- The precondition: every entry of the six arguments is a real number. -/
module

public import proofs.«01_k».proof.Defs
public import proofs.«01_k».proof.Proof.Delta.Blocks
public import Idealize.ShloMosaic.Lib.ReduceAll
public import Idealize.ShloMosaic.Lib.Pointwise

@[expose] public section

set_option maxRecDepth 16384

noncomputable section

namespace Cert.Delta

open Idealize.ShloMosaic Idealize.ShloMosaic.TcCoe Cert.Pre_finite

theorem preFacts : Cert.Pre_finite.Facts where
  bcast_S_S8320x20992 := by decide
  reducesTo_S8320x20992_S_d0_1 := by decide
  h_S_ := by decide
  bcast_S_S8320x128 := by decide
  reducesTo_S8320x128_S_d0_1 := by decide
  bcast_S_S1x4x6144 := by decide
  reducesTo_S1x4x6144_S_d0_1_2 := by decide
  bcast_S_S1x16 := by decide
  reducesTo_S1x16_S_d0_1 := by decide
  bcast_S_S1x128 := by decide
  reducesTo_S1x128_S_d0_1 := by decide

theorem ofBits_inf : Ideal.ofBits .f32 0x7F800000#32 = ⊤ := by simp [Ideal.ofBits, Ideal.ieee]

instance : Subsingleton S_.Idx := ⟨fun a b => funext fun i => i.elim0⟩

/-- One array's part of the precondition. -/
theorem real_of_all {s : Shape} {axes : List (Fin s.rank)} (a : FVec Ideal s .f32) (hb : S_.BroadcastsInDim s (![] : Fin 0 → Fin s.rank))
    (hr : s.ReducesTo axes S_) (hu : 0 < S_.numel) (j : S_.Idx)
    (e : Host.reduce IntOp.andi (cmpf .olt (Host.absf a) (broadcastInDim s ![] hb (constant S_ .f32 0x7F800000#32))) (constantI S_ 1 1#1) hr hu j = 1#1) (i : s.Idx) :
    a i = (((a i).toReal : ℝ) : EReal) := by
  have h := Host.reduce_andi_all _ _ _ _ j e i
  have h' : max (a i) (-(a i)) < ⊤ := by
    revert h
    pointwise
    rw [ofBits_inf]
    intro h
    by_contra hc
    rw [decide_eq_false (show ¬ FloatOps.absf (F := Ideal) (φ := .f32) (a i) < ⊤ from hc)] at h
    exact absurd h (by decide)
  have h1 : a i ≠ ⊤ := fun h => by simp [h] at h'
  have h2 : a i ≠ ⊥ := fun h => by simp [h] at h'
  exact (EReal.coe_toReal h1 h2).symm

theorem finite_of_pre (m : (ℓ : Loc Cert.Kernel2Ideal.nD Cert.Kernel2Ideal.τ Cert.Kernel2Ideal.sig) → Buf (Elt Ideal) ℓ)
    (hp : Cert.Pre_Kernel2Ideal_finite (hPre_finite := preFacts) m) (c : Dev Cert.Kernel2Ideal.nD) : (arrs m c).Finite := by
  have h := congrFun (hp c) (fun i => i.elim0)
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨fun i j => real_of_all _ _ _ _ _ h0 _, fun i j => real_of_all _ _ _ _ _ h1 _, fun i j => real_of_all _ _ _ _ _ h2 _,
    fun i j => real_of_all _ _ _ _ _ h3 _, fun i j => real_of_all _ _ _ _ _ h4 _, fun i j => real_of_all _ _ _ _ _ h5 _⟩

end Cert.Delta

end
-- ==== Proof.Delta.Claim.lean ====
/- The recurrence's value claim: the kernel's chunks compute what the reference computes token by token. -/
module

public import proofs.«01_k».proof.Proof.Delta.Chunks
public import proofs.«01_k».proof.Proof.Delta.Entry
public import proofs.«01_k».proof.Proof.Delta.Finite

@[expose] public section

set_option maxRecDepth 16384

noncomputable section

namespace Cert.Delta

open Idealize.ShloMosaic Idealize.ShloMosaic.TcCoe Idealize.SL.Sem Idealize.ShloMosaic.Pipeline

theorem arrs_ext {A B : Arrs} (p : A.p = B.p) (ba : A.ba = B.ba) (w : A.w = B.w) (al : A.al = B.al) (dt : A.dt = B.dt) (nw : A.nw = B.nw) : A = B := by
  cases A
  cases B
  cases p
  cases ba
  cases w
  cases al
  cases dt
  cases nw
  rfl

theorem algebraic :
    Cert.algebraic_Kernel2Ideal_Reference2Ideal_pre_finite (hKernel2Ideal := Cert.Kernel2Ideal.Gen.facts)
      (hReference2Ideal := Cert.Reference2Ideal.Gen.facts) (hPre_finite := preFacts) := by
  intro m ρ m' ρ' hp hagree
  have H : ∀ c, (arrs m c).Finite := finite_of_pre m hp
  have hA : ∀ c, rarrs m' c = arrs m c := fun c => by
    obtain ⟨h0, h1, h2, h3, h4, h5⟩ := hagree c
    exact arrs_ext h0 h1 h2 h3 h4 h5
  have H' : ∀ c, (rarrs m' c).Finite := fun c => by rw [hA c]; exact H c
  refine ⟨fun c => (Cert.Kernel2Ideal.Gen.dats m 0 c).arrAt 8 Cert.Kernel2Ideal.cfg0.N, fun c => (Cert.Kernel2Ideal.Gen.dats m 0 c).arrAt 9 Cert.Kernel2Ideal.cfg0.N,
    Cert.Kernel2Ideal.Value.run_blocks (F := Ideal) m ρ,
    (θ_run Cert.Reference2Ideal.defs _ _).mono (fun r h c => ⟨(h c).1.trans ?_, (h c).2.1.trans ?_, (h c).2.2⟩)
      (Cert.Reference2Ideal.Value.run (F := Ideal) m' ρ')⟩
  · refine (ref_out m' c (H' c)).trans (Eq.trans ?_ (final8 (H c)).symm)
    rw [hA c]
  · refine (ref_state m' c (H' c)).trans (Eq.trans ?_ (final9 (H c)).symm)
    rw [hA c]

end Cert.Delta

end
-- ==== Proof.Ffn.Runs.lean ====
/- The feed-forward half's grid: which points begin a column, which windows a point stores into. -/
module

public import proofs.«01_k».proof.Proof.Gen.Kernel5Ideal.Frame
public import proofs.«01_k».proof.Proof.Gen.Kernel5Ideal.Skeleton
public import proofs.«01_k».proof.Proof.Gen.Kernel5Ideal.Points
public import Idealize.ShloMosaic.Lib.Pipeline.TableIdle

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 5 = 0 :=
  (fun t => by
    have ht : t.val < 215 := Nat.lt_of_lt_of_eq t.isLt N_0
    have e0 : (grid0.coords t 0).val = t.val / 5 % 43 := Pipeline.Grid.coords_val t 0 (by decide) rfl
    have e1 : (grid0.coords t 1).val = t.val / 1 % 5 := Pipeline.Grid.coords_val t 1 (by decide) rfl
    simp only [cond0_0, k0_cond1, e0, e1]
    word_cmp
   : ∀ t : Fin grid0.N, cond0_0 (grid0.coords t) ↔ t.val % 5 = 0)

abbrev cond0_1 (i : grid0.Coords) : Prop := k0_cond2 i = 1#1
theorem hcond0_1 : ∀ t : Fin cfg0.N, cond0_1 (grid0.coords t) ↔ 1 ≤ t.val % 5 :=
  (by decide +kernel : ∀ t : Fin grid0.N, cond0_1 (grid0.coords t) ↔ 1 ≤ t.val % 5)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7_A : ∀ t : Fin cfg0.N, cond0_0 (grid0.coords t) → ¬cond0_1 (grid0.coords t) → cfg0.idle 7 (grid0.coords t) = false := by decide +kernel
theorem liveAt0_7_B : ∀ t : Fin cfg0.N, ¬cond0_0 (grid0.coords t) → cond0_1 (grid0.coords t) → cfg0.idle 7 (grid0.coords t) = false := by decide +kernel
theorem idleAt0_8_A : ∀ t : Fin cfg0.N, cond0_0 (grid0.coords t) → ¬cond0_1 (grid0.coords t) → cfg0.idle 8 (grid0.coords t) = true := by decide +kernel
theorem noFlush0_8_A : ∀ t : Fin cfg0.N, cond0_0 (grid0.coords t) → ¬cond0_1 (grid0.coords t) → (cfg0.win 8).flush t = false := by decide +kernel
theorem liveAt0_8_B : ∀ t : Fin cfg0.N, ¬cond0_0 (grid0.coords t) → cond0_1 (grid0.coords t) → cfg0.idle 8 (grid0.coords t) = false := by decide +kernel
def freshTab0_9 : ℕ → Bool
  | 0 => true
  | n + 1 => (0x421084210842108421084210842108421084210842108421084210 : ℕ).testBit n
theorem freshTab0_9_step : ∀ t : Fin cfg0.N,
    freshTab0_9 (t.val + 1) = ((cfg0.win 9).flush t || (cfg0.idle 9 (cfg0.grid.coords t) && freshTab0_9 t.val)) := by decide +kernel
theorem fresh0_9_eq (t : Fin cfg0.N) : cfg0.fresh 9 t.val = freshTab0_9 t.val :=
  Pipeline.Cfg.fresh_tab cfg0 9 freshTab0_9 rfl freshTab0_9_step t.val (Nat.le_of_lt t.isLt)
theorem liveAt0_9_A : ∀ t : Fin cfg0.N, cond0_0 (grid0.coords t) → ¬cond0_1 (grid0.coords t) → cfg0.idle 9 (grid0.coords t) = false := by decide +kernel
theorem idleAt0_9_B : ∀ t : Fin cfg0.N, ¬cond0_0 (grid0.coords t) → cond0_1 (grid0.coords t) → cfg0.idle 9 (grid0.coords t) = true := by decide +kernel
theorem notFresh0_9_B : ∀ t : Fin cfg0.N, ¬cond0_0 (grid0.coords t) → cond0_1 (grid0.coords t) → cfg0.fresh 9 t.val = false := by
  intro t; rw [fresh0_9_eq t]; revert t; decide +kernel

abbrev VO0_7 : View sig .tc .vmem S2048x256 .bf16 := (Memref.whole cc0_stg7_0 : Memref sig .tc .vmem S2048x256 .bf16).view
abbrev VO0_8 : View sig .tc .vmem S8x256 .f32 := (Memref.whole cc0_stg8_0 : Memref sig .tc .vmem S8x256 .f32).view
abbrev VO0_9 : View sig .tc .vmem S128x256 .f32 := (Memref.whole cc0_stg9_0 : Memref sig .tc .vmem S128x256 .f32).view
abbrev ms0_0 (t : Fin cfg0.N) : Memref sig .tc .vmem S2048x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x256 .f32 := win0_9.stage (cfg0.slots t 9)
abbrev hs0_9 (t : Fin cfg0.N) : (ms0_9 t).IsWhole := hstage0_9 ((cfg0.slots t 9).cast nbuf0_9)
abbrev scM0_0 : Memref sig .tc .vmem S4096x256 .bf16 := Memref.whole cc0_scratch0
abbrev scM0_1 : Memref sig .tc .vmem S4096x256 .bf16 := Memref.whole cc0_scratch1
abbrev scM0_2 : Memref sig .tc .vmem S8x256 .f32 := Memref.whole cc0_scratch2
abbrev VS0_0 : View sig .tc .vmem S4096x256 .bf16 := scM0_0.view
abbrev VS0_1 : View sig .tc .vmem S4096x256 .bf16 := scM0_1.view
abbrev VS0_2 : View sig .tc .vmem S8x256 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Ffn

end
-- ==== Proof.Ffn.RunA.lean ====
/- The feed-forward half's body, run at the first point of a column. -/
module

public import proofs.«01_k».proof.Proof.Ffn.Runs

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A column's first point: the stores found by running the body on any whole buffers. -/
noncomputable def kernelRun0_A (c : Dev nD) (i : grid0.Coords) (arg2 : Memref sig .tc .vmem S2048x4096 .bf16) (harg2 : arg2.IsWhole) (arg3 : Memref sig .tc .vmem S128x4096 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S3x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S2048x256 .bf16) (harg9 : arg9.IsWhole) (arg10 : Memref sig .tc .vmem S8x256 .f32) (harg10 : arg10.IsWhole) (arg11 : Memref sig .tc .vmem S128x256 .f32) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S8x256 .f32) (harg14 : arg14.IsWhole) (hc0 : cond0_0 i) (hc1 : ¬cond0_1 i)
    (x0 : Vec F S2048x4096 .bf16) (x1 : Vec F S128x4096 .bf16) (x2 : Vec F S4096x256 .f32) (x3 : Vec F S4096x256 .f32) (x4 : Vec F S3x256 .f32) (x5 : Vec F S128x256 .f32) (x6 : Vec F S128x256 .f32) :
    Σ' (L7 : List (View.Piece (Elt F) S2048x256 .bf16)), Σ' (L9 : List (View.Piece (Elt F) S128x256 .f32)), Σ' (LS0 : List (View.Piece (Elt F) S4096x256 .bf16)), Σ' (LS1 : List (View.Piece (Elt F) S4096x256 .bf16)), { LS2 : List (View.Piece (Elt F) S8x256 .f32) //
      ∀ (xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xi8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun xi8 E K => ?run⟩
  case run =>
    simp only [cc0_ffn_eq_skeleton]; unfold cc0_ffn_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%d9, %f9, -, H9⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    isplitl [H9]; · iexists _; iexact H9
    isplitl [HS0]; · iexists _; iexact HS0
    isplitl [HS1]; · iexists _; iexact HS1
    iexists _; iexact HS2

end Cert.Ffn

end
-- ==== Proof.Ffn.RunB.lean ====
/- The feed-forward half's body, run at the later points of a column. -/
module

public import proofs.«01_k».proof.Proof.Ffn.RunA

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The later points of a column. -/
noncomputable def kernelRun0_B (c : Dev nD) (i : grid0.Coords) (arg2 : Memref sig .tc .vmem S2048x4096 .bf16) (harg2 : arg2.IsWhole) (arg3 : Memref sig .tc .vmem S128x4096 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S3x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S2048x256 .bf16) (harg9 : arg9.IsWhole) (arg10 : Memref sig .tc .vmem S8x256 .f32) (harg10 : arg10.IsWhole) (arg11 : Memref sig .tc .vmem S128x256 .f32) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S8x256 .f32) (harg14 : arg14.IsWhole) (hc0 : ¬cond0_0 i) (hc1 : cond0_1 i)
    (x0 : Vec F S2048x4096 .bf16) (x1 : Vec F S128x4096 .bf16) (x2 : Vec F S4096x256 .f32) (x3 : Vec F S4096x256 .f32) (x4 : Vec F S3x256 .f32) (x5 : Vec F S128x256 .f32) (x6 : Vec F S128x256 .f32) (xo9 : Vec F S128x256 .f32) (xs0 : Vec F S4096x256 .bf16) (xs1 : Vec F S4096x256 .bf16) (xs2 : Vec F S8x256 .f32) :
    Σ' (L7 : List (View.Piece (Elt F) S2048x256 .bf16)), Σ' (L8 : List (View.Piece (Elt F) S8x256 .f32)), { LS2 : List (View.Piece (Elt F) S8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ owns (c : Thread nD τ) arg11 fullShare xo9 ∗ owns (c : Thread nD τ) arg12 fullShare xs0 ∗ owns (c : Thread nD τ) arg13 fullShare xs1 ∗ owns (c : Thread nD τ) arg14 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ owns (c : Thread nD τ) arg11 fullShare xo9 ∗ owns (c : Thread nD τ) arg12 fullShare xs0 ∗ owns (c : Thread nD τ) arg13 fullShare xs1 ∗ (∃ f, arg14.view.loc (c : Thread nD τ) ↦[arg14.view.set]{fullShare} arg14.view.writes (Elt F) f LS2)) -∗ K ⟨⟩))
          ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K => ?run⟩
  case run =>
    simp only [cc0_ffn_eq_skeleton]; unfold cc0_ffn_skel
    simp only [k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hf9; obtain rfl := harg12.eq_unread hfs0; obtain rfl := harg13.eq_unread hfs1; obtain rfl := harg14.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]
    · iexists _; isplitr; · ipureintro; exact harg11.read_unread _
      iexact H9
    isplitl [HS0]
    · iexists _; isplitr; · ipureintro; exact harg12.read_unread _
      iexact HS0
    isplitl [HS1]
    · iexists _; isplitr; · ipureintro; exact harg13.read_unread _
      iexact HS1
    iexists _; iexact HS2

end Cert.Ffn

end
-- ==== Proof.Ffn.Pieces.lean ====
/- The feed-forward half's stores, spelt out: what each case of the body writes, from what its buffers hold. -/
module

public import proofs.«01_k».proof.Proof.Ffn.RunB
public import Idealize.ShloMosaic.Lib.Pipeline.Value

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by decide

theorem ldz_4096_256 {e : EltTy} (x : Vec F S4096x256 e) (inb) : View.ld x (Rect.unit (s := S4096x256) ![0, 0] ![4096, 256] inb) = x :=
  View.ld_unit_zero (S := S4096x256) hz2 inb x

theorem ldz_128_256 {e : EltTy} (x : Vec F S128x256 e) (inb) : View.ld x (Rect.unit (s := S128x256) ![0, 0] ![128, 256] inb) = x :=
  View.ld_unit_zero (S := S128x256) hz2 inb x

theorem ldz_8_256 {e : EltTy} (x : Vec F S8x256 e) (inb) : View.ld x (Rect.unit (s := S8x256) ![0, 0] ![8, 256] inb) = x :=
  View.ld_unit_zero (S := S8x256) hz2 inb x

theorem ldz_128_4096 {e : EltTy} (x : Vec F S128x4096 e) (inb) : View.ld x (Rect.unit (s := S128x4096) ![0, 0] ![128, 4096] inb) = x :=
  View.ld_unit_zero (S := S128x4096) hz2 inb x

theorem rcz_4096_256 {e : EltTy} (v : View sig .tc .vmem S4096x256 e) (w : Vec F S4096x256 e) (inb inb') :
    v.readCov [(⟨Rect.unit (s := S4096x256) ![0, 0] ![4096, 256] inb, w⟩ : View.Piece (Elt F) S4096x256 e)] (Rect.unit (s := S4096x256) ![0, 0] ![4096, 256] inb').toLoadRect = w :=
  View.readCov_unit_zero (S := S4096x256) v hz2 inb w

theorem rcz_128_256 {e : EltTy} (v : View sig .tc .vmem S128x256 e) (w : Vec F S128x256 e) (inb inb') :
    v.readCov [(⟨Rect.unit (s := S128x256) ![0, 0] ![128, 256] inb, w⟩ : View.Piece (Elt F) S128x256 e)] (Rect.unit (s := S128x256) ![0, 0] ![128, 256] inb').toLoadRect = w :=
  View.readCov_unit_zero (S := S128x256) v hz2 inb w

theorem rcz_8_256 {e : EltTy} (v : View sig .tc .vmem S8x256 e) (w : Vec F S8x256 e) (inb inb') :
    v.readCov [(⟨Rect.unit (s := S8x256) ![0, 0] ![8, 256] inb, w⟩ : View.Piece (Elt F) S8x256 e)] (Rect.unit (s := S8x256) ![0, 0] ![8, 256] inb').toLoadRect = w :=
  View.readCov_unit_zero (S := S8x256) v hz2 inb w

/-! ## What a point computes, from what its buffers hold -/

/-- Row `r` of the kernel's taps. -/
def row0 (cw : Vec F S3x256 .f32) : Vec F S1x256 .f32 := View.ld cw (Rect.unit ![0, 0] S1x256.size inb_S3x256_S1x256_0_0)
def row1 (cw : Vec F S3x256 .f32) : Vec F S1x256 .f32 := View.ld cw (Rect.unit ![1, 0] S1x256.size inb_S3x256_S1x256_1_0)
def row2 (cw : Vec F S3x256 .f32) : Vec F S1x256 .f32 := View.ld cw (Rect.unit ![2, 0] S1x256.size inb_S3x256_S1x256_2_0)
/-- The gate of the sample rows. -/
def gateS (hs : Vec F S128x4096 .bf16) (wg : Vec F S4096x256 .f32) : FVec F S128x256 .f32 := k0_pay8 hs (k0_pay5 wg)
/-- The sample rows' activations. -/
def actS (hs : Vec F S128x4096 .bf16) (wg wu : Vec F S4096x256 .f32) (cw : Vec F S3x256 .f32) (s0 s1 : Vec F S128x256 .f32) : FVec F S128x256 .bf16 :=
  k0_pay1 hs (gateS hs wg) (k0_pay9 s0 (row0 cw)) (k0_pay10 s1) (k0_pay11 (row1 cw)) (row2 cw) (k0_pay6 wu)
/-- A quarter of a prompt block's rows. -/
def hrows0 (h : Vec F S2048x4096 .bf16) : Vec F S512x4096 .bf16 := View.ld h (Rect.unit ![0, 0] S512x4096.size inb_S2048x4096_S512x4096_0_0)
def hrows1 (h : Vec F S2048x4096 .bf16) : Vec F S512x4096 .bf16 := View.ld h (Rect.unit ![512, 0] S512x4096.size inb_S2048x4096_S512x4096_512_0)
def hrows2 (h : Vec F S2048x4096 .bf16) : Vec F S512x4096 .bf16 := View.ld h (Rect.unit ![1024, 0] S512x4096.size inb_S2048x4096_S512x4096_1024_0)
def hrows3 (h : Vec F S2048x4096 .bf16) : Vec F S512x4096 .bf16 := View.ld h (Rect.unit ![1536, 0] S512x4096.size inb_S2048x4096_S512x4096_1536_0)
/-- One quarter's product with a weight block, and its activations after the eight gate rows `p` before it. -/
def gq (h : Vec F S512x4096 .bf16) (w : Vec F S4096x256 .bf16) : FVec F S512x256 .f32 := k0_pay12 h w
def aq (g u : FVec F S512x256 .f32) (p : FVec F S8x256 .f32) (cw : Vec F S3x256 .f32) : FVec F S512x256 .bf16 :=
  k0_pay21 g u p (row2 cw) (row1 cw) (row0 cw)
/-- The stores into the activations at a prompt block, last first. -/
def pcB (h : Vec F S2048x4096 .bf16) (cw : Vec F S3x256 .f32) (wg wu : Vec F S4096x256 .bf16) (p : Vec F S8x256 .f32) :
    List (View.Piece (Elt F) S2048x256 .bf16) :=
  [⟨Rect.unit ![1536, 0] S512x256.size inb_S2048x256_S512x256_1536_0, aq (gq (hrows3 h) wg) (gq (hrows3 h) wu) (k0_pay20 (gq (hrows2 h) wg)) cw⟩,
   ⟨Rect.unit ![1024, 0] S512x256.size inb_S2048x256_S512x256_1024_0, aq (gq (hrows2 h) wg) (gq (hrows2 h) wu) (k0_pay20 (gq (hrows1 h) wg)) cw⟩,
   ⟨Rect.unit ![512, 0] S512x256.size inb_S2048x256_S512x256_512_0, aq (gq (hrows1 h) wg) (gq (hrows1 h) wu) (k0_pay20 (gq (hrows0 h) wg)) cw⟩,
   ⟨Rect.unit ![0, 0] S512x256.size inb_S2048x256_S512x256_0_0, aq (gq (hrows0 h) wg) (gq (hrows0 h) wu) p cw⟩]

section
variable (c : Dev nD) (i : grid0.Coords) (arg2 : Memref sig .tc .vmem S2048x4096 .bf16) (harg2 : arg2.IsWhole) (arg3 : Memref sig .tc .vmem S128x4096 .bf16) (harg3 : arg3.IsWhole) (arg4 : Memref sig .tc .vmem S4096x256 .f32) (harg4 : arg4.IsWhole) (arg5 : Memref sig .tc .vmem S4096x256 .f32) (harg5 : arg5.IsWhole) (arg6 : Memref sig .tc .vmem S3x256 .f32) (harg6 : arg6.IsWhole) (arg7 : Memref sig .tc .vmem S128x256 .f32) (harg7 : arg7.IsWhole) (arg8 : Memref sig .tc .vmem S128x256 .f32) (harg8 : arg8.IsWhole) (arg9 : Memref sig .tc .vmem S2048x256 .bf16) (harg9 : arg9.IsWhole) (arg10 : Memref sig .tc .vmem S8x256 .f32) (harg10 : arg10.IsWhole) (arg11 : Memref sig .tc .vmem S128x256 .f32) (harg11 : arg11.IsWhole) (arg12 : Memref sig .tc .vmem S4096x256 .bf16) (harg12 : arg12.IsWhole) (arg13 : Memref sig .tc .vmem S4096x256 .bf16) (harg13 : arg13.IsWhole) (arg14 : Memref sig .tc .vmem S8x256 .f32) (harg14 : arg14.IsWhole)
section
variable (hc0 : k0_cond1 i = 1#1) (hc1 : ¬k0_cond2 i = 1#1) (x0 : Vec F S2048x4096 .bf16) (x1 : Vec F S128x4096 .bf16) (x2 : Vec F S4096x256 .f32) (x3 : Vec F S4096x256 .f32) (x4 : Vec F S3x256 .f32) (x5 : Vec F S128x256 .f32) (x6 : Vec F S128x256 .f32)

theorem runA_act : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 =
    [⟨Rect.unit ![0, 0] S128x256.size inb_S2048x256_S128x256_0_0, actS x1 x2 x3 x4 x5 x6⟩] := by
  unfold kernelRun0_A
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

theorem runA_gs : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 =
    [⟨Rect.unit ![0, 0] S128x256.size inb_S128x256_S128x256_0_0, gateS x1 x2⟩] := by
  unfold kernelRun0_A
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

theorem runA_wg : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 =
    [⟨Rect.unit ![0, 0] S4096x256.size inb_S4096x256_S4096x256_0_0, k0_pay5 x2⟩] := by
  unfold kernelRun0_A
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

theorem runA_wu : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 =
    [⟨Rect.unit ![0, 0] S4096x256.size inb_S4096x256_S4096x256_0_0, k0_pay6 x3⟩] := by
  unfold kernelRun0_A
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

theorem runA_buf : (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 =
    [⟨Rect.unit ![0, 0] S8x256.size inb_S8x256_S8x256_0_0, k0_pay7⟩] := by
  unfold kernelRun0_A
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

end
section
variable (hc0 : ¬k0_cond1 i = 1#1) (hc1 : k0_cond2 i = 1#1) (x0 : Vec F S2048x4096 .bf16) (x1 : Vec F S128x4096 .bf16) (x2 : Vec F S4096x256 .f32) (x3 : Vec F S4096x256 .f32) (x4 : Vec F S3x256 .f32) (x5 : Vec F S128x256 .f32) (x6 : Vec F S128x256 .f32) (xo9 : Vec F S128x256 .f32) (xs0 : Vec F S4096x256 .bf16) (xs1 : Vec F S4096x256 .bf16) (xs2 : Vec F S8x256 .f32)

theorem runB_act : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xs0 xs1 xs2).1 =
    pcB x0 x4 xs0 xs1 xs2 := by
  unfold kernelRun0_B
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

theorem runB_tail : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xs0 xs1 xs2).2.1 =
    [⟨Rect.unit ![0, 0] S8x256.size inb_S8x256_S8x256_0_0, k0_pay20 (gq (hrows3 x0) xs0)⟩] := by
  unfold kernelRun0_B
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

theorem runB_buf : (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo9 xs0 xs1 xs2).2.2.1 =
    [⟨Rect.unit ![0, 0] S8x256.size inb_S8x256_S8x256_0_0, k0_pay4 (gq (hrows3 x0) xs0)⟩] := by
  unfold kernelRun0_B
  dsimp only
  try sl_unfold_run_names
  try simp only [View.readAt_eq_ld, harg2.read_unread, harg3.read_unread, harg4.read_unread, harg5.read_unread, harg6.read_unread, harg7.read_unread, harg8.read_unread, harg12.read_unread, harg13.read_unread, harg14.read_unread, ldz_4096_256, ldz_128_256, ldz_8_256, ldz_128_4096, rcz_4096_256, rcz_128_256, rcz_8_256]
  try rfl

end
end

end Cert.Ffn

end
-- ==== Proof.Ffn.Frame.lean ====
/- The feed-forward half's run: what every point leaves in its buffers, and that it ends with its arguments unchanged. -/
module

public import proofs.«01_k».proof.Proof.Ffn.Pieces
public import Idealize.ShloMosaic.Lib.WritesUnit
public import Idealize.ShloMosaic.Lib.VecWindow
public import Idealize.ShloMosaic.Lib.Claim

@[expose] public section

set_option maxRecDepth 16384

noncomputable section

namespace Cert.Ffn

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem rwz_4096_256 {e : EltTy} (v : View sig .tc .vmem S4096x256 e) (f) (w : Vec F S4096x256 e) (inb) :
    v.read (Elt F) (v.writes (Elt F) f [(⟨Rect.unit (s := S4096x256) ![0, 0] ![4096, 256] inb, w⟩ : View.Piece (Elt F) S4096x256 e)]) = w :=
  View.read_writes_full (s := S4096x256) v f inb w []

theorem rwz_128_256 {e : EltTy} (v : View sig .tc .vmem S128x256 e) (f) (w : Vec F S128x256 e) (inb) :
    v.read (Elt F) (v.writes (Elt F) f [(⟨Rect.unit (s := S128x256) ![0, 0] ![128, 256] inb, w⟩ : View.Piece (Elt F) S128x256 e)]) = w :=
  View.read_writes_full (s := S128x256) v f inb w []

theorem rwz_8_256 {e : EltTy} (v : View sig .tc .vmem S8x256 e) (f) (w : Vec F S8x256 e) (inb) :
    v.read (Elt F) (v.writes (Elt F) f [(⟨Rect.unit (s := S8x256) ![0, 0] ![8, 256] inb, w⟩ : View.Piece (Elt F) S8x256 e)]) = w :=
  View.read_writes_full (s := S8x256) v f inb w []

/-! ## What each point leaves -/

/-- The point that begins `t`'s column. -/
def colPt (t : Fin cfg0.N) : Fin cfg0.N := ⟨5 * (t.val / 5), by have := t.isLt; omega⟩
theorem colPt_zero (t : Fin cfg0.N) (h : t.val % 5 = 0) : colPt t = t := Fin.ext (by show 5 * (t.val / 5) = t.val; omega)
def prevPt (t : Fin cfg0.N) : Fin cfg0.N := ⟨t.val - 1, Nat.lt_of_le_of_lt (Nat.sub_le _ _) t.isLt⟩
theorem colPt_prev (t : Fin cfg0.N) (h : ¬t.val % 5 = 0) : colPt (prevPt t) = colPt t :=
  Fin.ext (by show 5 * ((t.val - 1) / 5) = 5 * (t.val / 5); omega)

/-- The column's weights, rounded once. -/
def WG (c : Dev nD) (t : Fin cfg0.N) : Vec F S4096x256 .bf16 := k0_pay5 (iblk m c 2 (colPt t))
def WU (c : Dev nD) (t : Fin cfg0.N) : Vec F S4096x256 .bf16 := k0_pay6 (iblk m c 3 (colPt t))
/-- The gate's last eight rows of a prompt block. -/
def TAIL (c : Dev nD) (t : Fin cfg0.N) : Vec F S8x256 .f32 := k0_pay20 (gq (hrows3 (X0_0 m c t)) (WG m c t))
/-- What the halo buffer holds after a point. -/
def BUF (c : Dev nD) (t : Fin cfg0.N) : Vec F S8x256 .f32 :=
  if t.val % 5 = 0 then k0_pay7 else k0_pay4 (gq (hrows3 (X0_0 m c t)) (WG m c t))
/-- The sample rows' gate of the column. -/
def GS (c : Dev nD) (t : Fin cfg0.N) : Vec F S128x256 .f32 := gateS (iblk m c 1 (colPt t)) (iblk m c 2 (colPt t))
/-- The activations' block: at a column's first point only its first 128 rows are stored. -/
def pcA (c : Dev nD) (t : Fin cfg0.N) : List (View.Piece (Elt F) S2048x256 .bf16) :=
  [⟨Rect.unit ![0, 0] S128x256.size inb_S2048x256_S128x256_0_0, actS (iblk m c 1 t) (iblk m c 2 t) (iblk m c 3 t) (iblk m c 4 t) (iblk m c 5 t) (iblk m c 6 t)⟩]
def ACT (c : Dev nD) (t : Fin cfg0.N) : Vec F S2048x256 .bf16 :=
  if t.val % 5 = 0 then View.canon (pcA m c t)
  else View.canon (pcB (X0_0 m c t) (iblk m c 4 t) (WG m c t) (WU m c t) (BUF m c (prevPt t)))

theorem pcB_cover (h : Vec F S2048x4096 .bf16) (cw : Vec F S3x256 .f32) (wg wu : Vec F S4096x256 .bf16) (p : Vec F S8x256 .f32) (y : S2048x256.Idx) :
    ∃ q ∈ pcB h cw wg wu p, y ∈ q.1.set :=
  View.cover_of_tiledL (pcB h cw wg wu p) ![512, 256] (by sl_kernel_rfl) y

theorem xrows_A : ∀ t : Fin cfg0.N, t.val % 5 = 0 → (cfg0.win 7).xsize (grid0.coords t) 0 = 128 := by decide +kernel

/-- Between points: the weights and the halo, at what the last point left. -/
def PhiS (c : Dev nD) : (n : ℕ) → n ≤ cfg0.N → sProp 𝕄
  | 0, _ => Pipeline.ΦA spec0 c
  | n + 1, hn => iprop(iprop(owns (c : Thread nD τ) scM0_0 fullShare (WG m c ⟨n, hn⟩) ∗ owns (c : Thread nD τ) scM0_1 fullShare (WU m c ⟨n, hn⟩) ∗ owns (c : Thread nD τ) scM0_2 fullShare (BUF m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (WG m c ⟨n, hn⟩) ∗ owns (c : Thread nD τ) scM0_1 fullShare (WU m c ⟨n, hn⟩) ∗ owns (c : Thread nD τ) scM0_2 fullShare (BUF m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (WG m c ⟨n - 1, by omega⟩) ∗ owns (c : Thread nD τ) scM0_1 fullShare (WU m c ⟨n - 1, by omega⟩) ∗ owns (c : Thread nD τ) scM0_2 fullShare (BUF m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => ACT m c t
    | ⟨8, _⟩ => TAIL m c t
    | ⟨9, _⟩ => GS m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = ACT m c t := by dsimp only [dats]
theorem after0_8 (c : Dev nD) (t : Fin cfg0.N) : (dats m 0 c).after 8 t = TAIL m c t := by dsimp only [dats]
theorem after0_9 (c : Dev nD) (t : Fin cfg0.N) : (dats m 0 c).after 9 t = GS m c t := by dsimp only [dats]

theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem hcarry0_9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after0_9, after0_9]
  by_cases h0 : t.val % 5 = 0
  · have h1 : ¬1 ≤ t.val % 5 := by omega
    rw [liveAt0_9_A t ((hcond0_0 t).mpr h0) (fun h => h1 ((hcond0_1 t).mp h))] at hi
    exact absurd hi Bool.false_ne_true
  · show GS m c t = GS m c (prevPt t)
    unfold GS; rw [colPt_prev t h0]
theorem before0_9_B (c : Dev nD) (t : Fin cfg0.N) (h0 : ¬t.val % 5 = 0) (h1 : 1 ≤ t.val % 5) (d) :
    (dats m 0 c).before 9 t d = GS m c t := by
  rw [Dat.before_out_traj _ 9 rfl (fun _ _ => rfl) (hcarry0_9 m c) t.val t rfl d,
    if_neg (by rw [notFresh0_9_B t (fun h => h0 ((hcond0_0 t).mp h)) ((hcond0_1 t).mpr h1)]; exact Bool.false_ne_true)]
  show GS m c (prevPt t) = GS m c t
  unfold GS; rw [colPt_prev t h0]

theorem fillA (c : Dev nD) (t : Fin cfg0.N) (h0 : t.val % 5 = 0) (v : View sig .tc .vmem S2048x256 .bf16) (f) {L : List (View.Piece (Elt F) S2048x256 .bf16)} (hL : L = pcA m c t) :
    (cfg0.win 7).fill (grid0.coords t) (v.read (Elt F) (v.writes (Elt F) f L)) ((cfg0.win 7).cut (grid0.coords t) (View.canon (pcA m c t))) = v.read (Elt F) (v.writes (Elt F) f L) := by
  subst hL
  refine Pipeline.Window.fill_congr_cut _ _ (funext fun j => ?_)
  refine View.read_writes_apply_eq_canon v f _ _ ⟨_, List.mem_singleton_self _, ?_⟩
  rw [Rect.mem_set_unit]
  intro a
  refine ⟨?_, ?_⟩
  · fin_cases a <;> exact Nat.zero_le _
  · fin_cases a
    · have h : (j 0).val < (cfg0.win 7).xsize (grid0.coords t) 0 := (j 0).isLt
      rw [xrows_A t h0] at h
      exact h
    · exact ((cfg0.win 7).xinj (grid0.coords t) j 1).isLt

theorem leaves9 (c : Dev nD) (t : Fin cfg0.N) (h0 : ¬t.val % 5 = 0) (h1 : 1 ≤ t.val % 5) :
    owns (c : Thread nD τ) (ms0_9 t) fullShare (GS m c t) ⊢ (dats m 0 c).leavesExact 9 t := by
  have hi := idleAt0_9_B t (fun h => h0 ((hcond0_0 t).mp h)) ((hcond0_1 t).mpr h1)
  by_cases hf : (cfg0.win 9).flush t = true
  · rw [show (dats m 0 c).leavesExact 9 t = owns (c : Thread nD τ) (ms0_9 t) fullShare ((dats m 0 c).after 9 t) from by
      unfold Dat.leavesExact; rw [hi, hf], after0_9]
  · rw [Dat.leavesExact_idle (dats m 0 c) 9 t hi (Bool.eq_false_iff.mpr hf)]
    simp only [before0_9_B m c t h0 h1]
    iintro H; iexists (fun _ => Classical.choice inferInstance); iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leaves 7 t
    ∗ (dats m 0 c).leavesExact 8 t
    ∗ (dats m 0 c).leavesExact 9 t)

def bodyPostL (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t
    ∗ (dats m 0 c).leaves 4 t
    ∗ (dats m 0 c).leaves 5 t
    ∗ (dats m 0 c).leaves 6 t
    ∗ (dats m 0 c).leaves 7 t
    ∗ (dats m 0 c).leaves 8 t
    ∗ (dats m 0 c).leaves 9 t)

theorem post_loose (c : Dev nD) (t : Fin cfg0.N) : bodyPost m c t ⊢ bodyPostL m c t := by
  unfold bodyPost bodyPostL
  iintro ⟨HΦ, Ho, H0, H1, H2, H3, H4, H5, H6, H7, H8, H9⟩
  isplitl [HΦ]; · iexact HΦ
  isplitl [Ho]; · iexact Ho
  isplitl [H0]; · iapply (Dat.leaves_intro (dats m 0 c) 0 t); iexact H0
  isplitl [H1]; · iapply (Dat.leaves_intro (dats m 0 c) 1 t); iexact H1
  isplitl [H2]; · iapply (Dat.leaves_intro (dats m 0 c) 2 t); iexact H2
  isplitl [H3]; · iapply (Dat.leaves_intro (dats m 0 c) 3 t); iexact H3
  isplitl [H4]; · iapply (Dat.leaves_intro (dats m 0 c) 4 t); iexact H4
  isplitl [H5]; · iapply (Dat.leaves_intro (dats m 0 c) 5 t); iexact H5
  isplitl [H6]; · iapply (Dat.leaves_intro (dats m 0 c) 6 t); iexact H6
  isplitl [H7]; · iexact H7
  isplitl [H8]; · iapply (Dat.leaves_intro (dats m 0 c) 8 t); iexact H8
  iapply (Dat.leaves_intro (dats m 0 c) 9 t); iexact H9

set_option maxHeartbeats 9600000 in
/-- The body at a column's first point. -/
theorem sound_A (c : Dev nD) (t : Fin cfg0.N) (h0 : t.val % 5 = 0) :
    bodyPre m c t ⊢ wp frame (wpE (defs₀ (F := F)) Variants.none c none) Set.univ (bodyAt0 t) (fun _ => bodyPost m c t) := by
  have h1 : ¬1 ≤ t.val % 5 := by omega
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leaves 7 t = iprop(∃ d, owns (c : Thread nD τ) (ms0_7 t) fullShare ((cfg0.win 7).fill (grid0.coords t) d ((cfg0.win 7).cut (grid0.coords t) ((dats m 0 c).after 7 t)))) from by
    unfold Dat.leaves; rw [liveAt0_7_A t ((hcond0_0 t).mpr h0) (fun h => h1 ((hcond0_1 t).mp h))]; rfl, after0_7]
  rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
  rw [show (dats m 0 c).leavesExact 9 t = owns (c : Thread nD τ) (ms0_9 t) fullShare ((dats m 0 c).after 9 t) from by
    unfold Dat.leavesExact; rw [liveAt0_9_A t ((hcond0_0 t).mpr h0) (fun h => h1 ((hcond0_1 t).mp h))], after0_9]
  have eWG : WG m c ⟨t.val, t.isLt⟩ = k0_pay5 (iblk m c 2 t) := by show WG m c t = _; unfold WG; rw [colPt_zero t h0]
  have eWU : WU m c ⟨t.val, t.isLt⟩ = k0_pay6 (iblk m c 3 t) := by show WU m c t = _; unfold WU; rw [colPt_zero t h0]
  have eBUF : BUF m c ⟨t.val, t.isLt⟩ = k0_pay7 := if_pos h0
  have eGS : GS m c t = gateS (iblk m c 1 t) (iblk m c 2 t) := by unfold GS; rw [colPt_zero t h0]
  have eACT : ACT m c t = View.canon (pcA m c t) := if_pos h0
  rw [eWG, eWU, eBUF, eGS, eACT]
  by_cases hz : t.val = 0
  · rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (fun h => h1 ((hcond0_1 t).mp h)) (X0_0 m c t) (iblk m c 1 t) (iblk m c 2 t) (iblk m c 3 t) (iblk m c 4 t) (iblk m c 5 t) (iblk m c 6 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, ⟨%e7, H7⟩, H8, ⟨%e9, H9⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; rw [runA_wg]; exact rwz_4096_256 _ _ _ _
        isplitl [HS1]
        · unfold owns; iexists _; isplitr
          swap; · iexact HS1
          ipureintro; rw [runA_wu]; exact rwz_4096_256 _ _ _ _
        unfold owns; iexists _; isplitr
        swap; · iexact HS2
        ipureintro; rw [runA_buf]; exact rwz_8_256 _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; unfold owns; iexists _; isplitr
      swap; · iexact H7
      ipureintro; exact (fillA m c t h0 _ e7 (runA_act c _ _ _ _ _ _ _ _ _ _ _ _ _ _ _ _ _ _ _ _ _ _ _ _ _ _ _ ((hcond0_0 t).mpr h0) (fun h => h1 ((hcond0_1 t).mp h)) (X0_0 m c t) (iblk m c 1 t) (iblk m c 2 t) (iblk m c 3 t) (iblk m c 4 t) (iblk m c 5 t) (iblk m c 6 t))).symm
    isplitl [H8]; · iexists _; iexact H8
    unfold owns; iexists _; isplitr
    swap; · iexact H9
    ipureintro; rw [runA_gs]; exact rwz_128_256 _ _ _ _
  · rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ _ _ ((hcond0_0 t).mpr h0) (fun h => h1 ((hcond0_1 t).mp h)) (X0_0 m c t) (iblk m c 1 t) (iblk m c 2 t) (iblk m c 3 t) (iblk m c 4 t) (iblk m c 5 t) (iblk m c 6 t)).2.2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [HS0]; · iexists _; iexact HS0
    isplitl [HS1]; · iexists _; iexact HS1
    isplitl [HS2]; · iexists _; iexact HS2
    iintro ⟨H0, H1, H2, H3, H4, H5, H6, ⟨%e7, H7⟩, H8, ⟨%e9, H9⟩, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; rw [runA_wg]; exact rwz_4096_256 _ _ _ _
        isplitl [HS1]
        · unfold owns; iexists _; isplitr
          swap; · iexact HS1
          ipureintro; rw [runA_wu]; exact rwz_4096_256 _ _ _ _
        unfold owns; iexists _; isplitr
        swap; · iexact HS2
        ipureintro; rw [runA_buf]; exact rwz_8_256 _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists _; unfold owns; iexists _; isplitr
      swap; · iexact H7
      ipureintro; exact (fillA m c t h0 _ e7 (runA_act c _ _ _ _ _ _ _ _ _ _ _ _ _ _ _ _ _ _ _ _ _ _ _ _ _ _ _ ((hcond0_0 t).mpr h0) (fun h => h1 ((hcond0_1 t).mp h)) (X0_0 m c t) (iblk m c 1 t) (iblk m c 2 t) (iblk m c 3 t) (iblk m c 4 t) (iblk m c 5 t) (iblk m c 6 t))).symm
    isplitl [H8]; · iexists _; iexact H8
    unfold owns; iexists _; isplitr
    swap; · iexact H9
    ipureintro; rw [runA_gs]; exact rwz_128_256 _ _ _ _

set_option maxHeartbeats 9600000 in
/-- The body at a column's later points. -/
theorem sound_B (c : Dev nD) (t : Fin cfg0.N) (h0 : ¬t.val % 5 = 0) :
    bodyPre m c t ⊢ wp frame (wpE (defs₀ (F := F)) Variants.none c none) Set.univ (bodyAt0 t) (fun _ => bodyPost m c t) := by
  have h1 : 1 ≤ t.val % 5 := by omega
  have hz : t.val ≠ 0 := fun h => h0 (by rw [h])
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leaves 7 t = iprop(∃ d, owns (c : Thread nD τ) (ms0_7 t) fullShare ((cfg0.win 7).fill (grid0.coords t) d ((cfg0.win 7).cut (grid0.coords t) ((dats m 0 c).after 7 t)))) from by
    unfold Dat.leaves; rw [liveAt0_7_B t (fun h => h0 ((hcond0_0 t).mp h)) ((hcond0_1 t).mpr h1)]; rfl, after0_7]
  rw [show (dats m 0 c).leavesExact 8 t = owns (c : Thread nD τ) (ms0_8 t) fullShare ((dats m 0 c).after 8 t) from by
    unfold Dat.leavesExact; rw [liveAt0_8_B t (fun h => h0 ((hcond0_0 t).mp h)) ((hcond0_1 t).mpr h1)], after0_8]
  have h9 : owns (c : Thread nD τ) (ms0_9 t) fullShare (GS m c t) ⊢ (dats m 0 c).leavesExact 9 t := leaves9 m c t h0 h1
  have eWG : WG m c (prevPt t) = WG m c ⟨t.val, t.isLt⟩ := by show _ = WG m c t; unfold WG; rw [colPt_prev t h0]
  have eWU : WU m c (prevPt t) = WU m c ⟨t.val, t.isLt⟩ := by show _ = WU m c t; unfold WU; rw [colPt_prev t h0]
  have eBUF : BUF m c ⟨t.val, t.isLt⟩ = k0_pay4 (gq (hrows3 (X0_0 m c t)) (WG m c t)) := if_neg h0
  have eACT : ACT m c t = View.canon (pcB (X0_0 m c t) (iblk m c 4 t) (WG m c t) (WU m c t) (BUF m c (prevPt t))) := if_neg h0
  rw [PhiS_castSucc m c t, PhiS_pos m c _ _ hz]
  rw [show WG m c ⟨t.val - 1, _⟩ = _ from eWG, show WU m c ⟨t.val - 1, _⟩ = _ from eWU, eBUF, eACT]
  simp only [before0_9_B m c t h0 h1]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_B c (grid0.coords t) _ _ _ _ _ _ _ _ _ _ _ _ _ _ _ _ _ _ _ _ _ _ _ _ _ _ (fun h => h0 ((hcond0_0 t).mp h)) ((hcond0_1 t).mpr h1) (X0_0 m c t) (iblk m c 1 t) (iblk m c 2 t) (iblk m c 3 t) (iblk m c 4 t) (iblk m c 5 t) (iblk m c 6 t) (GS m c t) (WG m c t) (WU m c t) (BUF m c (prevPt t))).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [HS0]; · iexact HS0
  isplitl [HS1]; · iexact HS1
  isplitl [HS2]; · iexact HS2
  iintro ⟨H0, H1, H2, H3, H4, H5, H6, ⟨%e7, H7⟩, ⟨%e8, H8⟩, H9, HS0, HS1, ⟨%es2, HS2⟩⟩
  isplitl [HS0 HS1 HS2 Hg]
  · isplitl [HS0 HS1 HS2]
    · isplitl [HS0]
      · iexact HS0
      isplitl [HS1]
      · iexact HS1
      unfold owns; iexists _; isplitr
      swap; · iexact HS2
      ipureintro; rw [runB_buf]; exact rwz_8_256 _ _ _ _
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists _; unfold owns; iexists _; isplitr
    swap; · iexact H7
    ipureintro; rw [runB_act]
    exact ((congrArg (fun X => (cfg0.win 7).fill (grid0.coords t) _ ((cfg0.win 7).cut (grid0.coords t) X))
      (View.read_writes_eq_canon _ e7 _ (pcB_cover _ _ _ _ _)).symm).trans (Pipeline.Window.fill_cut _ _ _)).symm
  isplitl [H8]
  · unfold owns; iexists _; isplitr
    swap; · iexact H8
    ipureintro; rw [runB_tail]; exact rwz_8_256 _ _ _ _
  iapply h9; iexact H9

theorem sound_body (c : Dev nD) (t : Fin cfg0.N) :
    bodyPre m c t ⊢ wp frame (wpE (defs₀ (F := F)) Variants.none c none) Set.univ (bodyAt0 t) (fun _ => bodyPost m c t) := by
  by_cases h0 : t.val % 5 = 0
  · exact sound_A m c t h0
  · exact sound_B m c t h0

theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : Pipeline.BodyObligationLoose (dats (F := F) m 0 c) (defs₀ (F := F)) Variants.none () Set.univ := fun t => by
  rw [bigSep_W0, bigSep_W0, defs₀_row]
  exact triple_restated (sound_body m c t) rfl .rfl fun _ => post_loose m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 215 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => body_obligation m c) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Ffn

end
-- ==== Proof.Ffn.Entry.lean ====
/- The feed-forward half's blocks, entry by entry: products as sums, the three-tap convolution over rows, the gated activations. -/
module

public import proofs.«01_k».proof.Proof.Ffn.Frame
public import Idealize.ShloMosaic.Lib.Pipeline.ValueKit.Point
public import Idealize.ShloMosaic.Lib.Pointwise

@[expose] public section

set_option maxRecDepth 16384

noncomputable section

namespace Cert.Ffn

open Idealize.ShloMosaic Idealize.ShloMosaic.TcCoe Cert.Kernel5Ideal Cert.Kernel5Ideal.Gen
open Idealize.SL.Sem Idealize.ShloMosaic.Pipeline Idealize.ShloMosaic.StableHlo

/-! ## What the layer computes, entry by entry -/

/-- Entry `(r, j)` of the product of the rows and a weight. -/
def GG (h : S8320x4096.Idx → EReal) (w : S1x4096x11008.Idx → EReal) (r j : ℕ) : EReal :=
  ∑ k : Fin 4096, h (ix2 ⟨r % 8320, Nat.mod_lt _ (by decide)⟩ k) * w (ix3 0 k ⟨j % 11008, Nat.mod_lt _ (by decide)⟩)

/-- A product's entry `d` rows earlier, zero before the first row. -/
def GP (h : S8320x4096.Idx → EReal) (w : S1x4096x11008.Idx → EReal) (d r j : ℕ) : EReal := if d ≤ r then GG h w (r - d) j else 0

/-- Tap `s` of the convolution. -/
def TW (cw : S1x3x11008.Idx → EReal) (s : Fin 3) (j : ℕ) : EReal := cw (ix3 0 s ⟨j % 11008, Nat.mod_lt _ (by decide)⟩)

/-- The sample rows' earlier gates. -/
def ST (st : S1x128x2x11008.Idx → EReal) (r : ℕ) (s : Fin 2) (j : ℕ) : EReal :=
  st (ix4 0 ⟨r % 128, Nat.mod_lt _ (by decide)⟩ s ⟨j % 11008, Nat.mod_lt _ (by decide)⟩)

/-- The convolved gate: down the rows of the prompt, over the kept gates at the samples. -/
def CV (h : S8320x4096.Idx → EReal) (w : S1x4096x11008.Idx → EReal) (cw : S1x3x11008.Idx → EReal) (st : S1x128x2x11008.Idx → EReal) (r j : ℕ) : EReal :=
  if r < 8192 then (GP h w 2 r j * TW cw 0 j + GP h w 1 r j * TW cw 1 j) + GG h w r j * TW cw 2 j
  else (ST st (r - 8192) 0 j * TW cw 0 j + ST st (r - 8192) 1 j * TW cw 1 j) + GG h w r j * TW cw 2 j

/-- An entry times its logistic function. -/
def SI (x : EReal) : EReal := x * Ideal.logistic x

/-- The activations. -/
def AV (h : S8320x4096.Idx → EReal) (w : S1x4096x11008.Idx → EReal) (cw : S1x3x11008.Idx → EReal) (wu : S1x4096x11008.Idx → EReal) (st : S1x128x2x11008.Idx → EReal) (r j : ℕ) : EReal :=
  SI (CV h w cw st r j) * GG h wu r j

/-! ## What a block holds -/

/-- A column `s` rows earlier, the eight rows `p` coming before the first. -/
def SH (s : ℕ) (g : Vec Ideal S512x256 .f32) (p : Vec Ideal S8x256 .f32) (r : Fin 512) (n : Fin 256) : EReal :=
  if s ≤ r.val then g (ix2 ⟨r.val - s, by omega⟩ n) else p (ix2 ⟨(8 - s + r.val) % 8, Nat.mod_lt _ (by decide)⟩ n)

theorem sel1 (a b : EReal) : Scalar.select 1#1 a b = a := rfl
theorem sel0 (a b : EReal) : Scalar.select 0#1 a b = b := rfl

theorem slt1 : ∀ j : Fin 512, IntOp.cmpi CmpIPredicate.slt (BitVec.ofNat 32 j.val) 1#32 = if 1 ≤ j.val then 0#1 else 1#1 := by
  decide +kernel
theorem slt2 : ∀ j : Fin 512, IntOp.cmpi CmpIPredicate.slt (BitVec.ofNat 32 j.val) 2#32 = if 2 ≤ j.val then 0#1 else 1#1 := by
  decide +kernel

set_option maxRecDepth 262144 in
theorem gq_at (h : Vec Ideal S512x4096 .bf16) (w : Vec Ideal S4096x256 .bf16) (r : Fin 512) (n : Fin 256) :
    gq (F := Ideal) h w (ix2 r n) = ∑ k : Fin 4096, h (ix2 r k) * w (ix2 k n) := by
  unfold gq
  unfold_payloads
  pointwise

set_option maxRecDepth 262144 in
theorem gateS_at (h : Vec Ideal S128x4096 .bf16) (w : Vec Ideal S4096x256 .f32) (r : Fin 128) (n : Fin 256) :
    gateS (F := Ideal) h w (ix2 r n) = ∑ k : Fin 4096, h (ix2 r k) * w (ix2 k n) := by
  unfold gateS
  unfold_payloads
  pointwise

set_option maxRecDepth 262144 in
theorem actS_at (h : Vec Ideal S128x4096 .bf16) (wg wu : Vec Ideal S4096x256 .f32) (cw : Vec Ideal S3x256 .f32) (s0 s1 : Vec Ideal S128x256 .f32) (r : Fin 128) (n : Fin 256) :
    actS (F := Ideal) h wg wu cw s0 s1 (ix2 r n) =
      SI ((s0 (ix2 r n) * cw (ix2 0 n) + s1 (ix2 r n) * cw (ix2 1 n)) + (∑ k : Fin 4096, h (ix2 r k) * wg (ix2 k n)) * cw (ix2 2 n))
        * ∑ k : Fin 4096, h (ix2 r k) * wu (ix2 k n) := by
  rw [← gateS_at]
  unfold actS row0 row1 row2
  unfold_payloads
  pointwise [SI]

theorem sh1_eq (g : Vec Ideal S512x256 .f32) (p : Vec Ideal S8x256 .f32) (r : Fin 512) (n : Fin 256) (a : r.val < 8 → Fin 8) (b : r.val < 8 → Fin 512) (d : ¬r.val < 8 → Fin 512)
    (ha : ∀ h, (a h).val = (r.val + 8 - 1) % 8) (hb : ∀ h, (b h).val = (r.val + 512 - 1) % 512) (hd : ∀ h, (d h).val = (8 + (r.val - 8) + 512 - 1) % 512) :
    (if h : r.val < 8 then Scalar.select (IntOp.cmpi CmpIPredicate.slt (BitVec.ofNat 32 r.val) 1#32) (p (ix2 (a h) n)) (g (ix2 (b h) n))
      else g (ix2 (d h) n)) = SH 1 g p r n := by
  have hr := r.isLt
  unfold SH
  rw [slt1 r]
  by_cases h : r.val < 8
  · have ha := ha h
    have hb := hb h
    rw [dif_pos h]
    by_cases h1 : 1 ≤ r.val
    · rw [if_pos h1, if_pos h1, sel0]
      exact congrArg (fun i => g (ix2 i n)) (Fin.ext (by dsimp only; omega))
    · rw [if_neg h1, if_neg h1, sel1]
      exact congrArg (fun i => p (ix2 i n)) (Fin.ext (by dsimp only; omega))
  · have hd := hd h
    rw [dif_neg h, if_pos (by omega)]
    exact congrArg (fun i => g (ix2 i n)) (Fin.ext (by dsimp only; omega))

theorem sh2_eq (g : Vec Ideal S512x256 .f32) (p : Vec Ideal S8x256 .f32) (r : Fin 512) (n : Fin 256) (a : r.val < 8 → Fin 8) (b : r.val < 8 → Fin 512) (d : ¬r.val < 8 → Fin 512)
    (ha : ∀ h, (a h).val = (r.val + 8 - 2) % 8) (hb : ∀ h, (b h).val = (r.val + 512 - 2) % 512) (hd : ∀ h, (d h).val = (8 + (r.val - 8) + 512 - 2) % 512) :
    (if h : r.val < 8 then Scalar.select (IntOp.cmpi CmpIPredicate.slt (BitVec.ofNat 32 r.val) 2#32) (p (ix2 (a h) n)) (g (ix2 (b h) n))
      else g (ix2 (d h) n)) = SH 2 g p r n := by
  have hr := r.isLt
  unfold SH
  rw [slt2 r]
  by_cases h : r.val < 8
  · have ha := ha h
    have hb := hb h
    rw [dif_pos h]
    by_cases h1 : 2 ≤ r.val
    · rw [if_pos h1, if_pos h1, sel0]
      exact congrArg (fun i => g (ix2 i n)) (Fin.ext (by dsimp only; omega))
    · rw [if_neg h1, if_neg h1, sel1]
      exact congrArg (fun i => p (ix2 i n)) (Fin.ext (by dsimp only; omega))
  · have hd := hd h
    rw [dif_neg h, if_pos (by omega)]
    exact congrArg (fun i => g (ix2 i n)) (Fin.ext (by dsimp only; omega))

set_option maxRecDepth 262144 in
set_option maxHeartbeats 4000000 in
theorem aq_at (g u : Vec Ideal S512x256 .f32) (p : Vec Ideal S8x256 .f32) (cw : Vec Ideal S3x256 .f32) (r : Fin 512) (n : Fin 256) :
    aq (F := Ideal) g u p cw (ix2 r n) =
      SI ((g (ix2 r n) * cw (ix2 2 n) + SH 1 g p r n * cw (ix2 1 n)) + SH 2 g p r n * cw (ix2 0 n)) * u (ix2 r n) := by
  unfold aq row0 row1 row2
  unfold_payloads
  pointwise [SI]
  rw [sh1_eq g p r n _ _ _ (fun _ => rfl) (fun _ => rfl) (fun _ => rfl), sh2_eq g p r n _ _ _ (fun _ => rfl) (fun _ => rfl) (fun _ => rfl)]

/-- A quarter's activations, its rows starting at `R0`, its columns at `J`. -/
theorem aq_val (h : S8320x4096.Idx → EReal) (w : S1x4096x11008.Idx → EReal) (cw : S1x3x11008.Idx → EReal) (wu : S1x4096x11008.Idx → EReal) (st : S1x128x2x11008.Idx → EReal)
    (g u : Vec Ideal S512x256 .f32) (p : Vec Ideal S8x256 .f32) (cb : Vec Ideal S3x256 .f32) (R0 J : ℕ) (hR : R0 + 512 ≤ 8192)
    (hg : ∀ (r : Fin 512) (n : Fin 256), g (ix2 r n) = GG h w (R0 + r.val) (J + n.val))
    (hu : ∀ (r : Fin 512) (n : Fin 256), u (ix2 r n) = GG h wu (R0 + r.val) (J + n.val))
    (hp : ∀ (r : Fin 8) (n : Fin 256), p (ix2 r n) = if 8 ≤ R0 + r.val then GG h w (R0 + r.val - 8) (J + n.val) else 0)
    (hc : ∀ (s : Fin 3) (n : Fin 256), cb (ix2 s n) = TW cw s (J + n.val)) (r : Fin 512) (n : Fin 256) :
    aq (F := Ideal) g u p cb (ix2 r n) = AV h w cw wu st (R0 + r.val) (J + n.val) := by
  have hr := r.isLt
  have hs : ∀ s : ℕ, 1 ≤ s → s ≤ 2 → SH s g p r n = GP h w s (R0 + r.val) (J + n.val) := by
    intro s hs1 hs2
    unfold SH GP
    by_cases h1 : s ≤ r.val
    · rw [if_pos h1, if_pos (by omega), hg]
      exact congrArg (fun x => GG h w x (J + n.val)) (by dsimp only; omega)
    · rw [if_neg h1, hp]
      have e : (8 - s + r.val) % 8 = 8 - s + r.val := Nat.mod_eq_of_lt (by omega)
      by_cases h2 : s ≤ R0 + r.val
      · rw [if_pos h2, if_pos (by dsimp only; omega)]
        exact congrArg (fun x => GG h w x (J + n.val)) (by dsimp only; omega)
      · rw [if_neg h2, if_neg (by dsimp only; omega)]
  rw [aq_at, hs 1 (by omega) (by omega), hs 2 (by omega) (by omega), hg, hu, hc, hc, hc]
  unfold AV CV
  rw [if_pos (by omega)]
  refine congrArg (fun x => SI x * GG h wu (R0 + r.val) (J + n.val)) ?_
  rw [add_assoc, add_comm, add_comm (GP h w 1 _ _ * _)]

end Cert.Ffn

end
-- ==== Proof.Ffn.Value.lean ====
/- The arrays the feed-forward half leaves, entry by entry. -/
module

public import proofs.«01_k».proof.Proof.Ffn.Entry
public import Idealize.ShloMosaic.Lib.Claim
public import Idealize.ShloMosaic.Lib.StableHlo.RunRead

@[expose] public section

set_option maxRecDepth 16384

noncomputable section

namespace Cert.Ffn

open Idealize.ShloMosaic Idealize.ShloMosaic.TcCoe Cert.Kernel5Ideal Cert.Kernel5Ideal.Gen
open Idealize.SL.Sem Idealize.ShloMosaic.Pipeline Idealize.ShloMosaic.StableHlo

variable (m : (ℓ : Loc nD τ sig) → Buf (Elt Ideal) ℓ) (c : Dev nD)

/-- The rows, the gate's weights, the taps, the other weights and the kept gates, as launched. -/
abbrev aH : S8320x4096.Idx → EReal := m ((c : Thread nD τ).loc main_arg0)
abbrev aW : S1x4096x11008.Idx → EReal := m ((c : Thread nD τ).loc main_arg1)
abbrev aC : S1x3x11008.Idx → EReal := m ((c : Thread nD τ).loc main_arg2)
abbrev aU : S1x4096x11008.Idx → EReal := m ((c : Thread nD τ).loc main_arg3)
abbrev aS : S1x128x2x11008.Idx → EReal := m ((c : Thread nD τ).loc main_arg4)

theorem idx0 : ∀ t : Fin cfg0.N, win0_0.index t = ![t.val % 5 - 1, 0] := (by decide +kernel : ∀ t : Fin grid0.N, _)
theorem idx1 : ∀ t : Fin cfg0.N, win0_1.index t = ![64, 0] := (by decide +kernel : ∀ t : Fin grid0.N, _)
theorem idx2 : ∀ t : Fin cfg0.N, win0_2.index (colPt t) = ![0, t.val / 5] := by decide +kernel
theorem idx3 : ∀ t : Fin cfg0.N, win0_3.index (colPt t) = ![0, t.val / 5] := by decide +kernel
theorem idx4 : ∀ t : Fin cfg0.N, win0_4.index t = ![0, t.val / 5] := (by decide +kernel : ∀ t : Fin grid0.N, _)
theorem idx5 : ∀ t : Fin cfg0.N, win0_5.index t = ![0, t.val / 5] := (by decide +kernel : ∀ t : Fin grid0.N, _)
theorem idx6 : ∀ t : Fin cfg0.N, win0_6.index t = ![0, t.val / 5] := (by decide +kernel : ∀ t : Fin grid0.N, _)
theorem idx7 : ∀ t : Fin cfg0.N, win0_7.index t = ![if t.val % 5 = 0 then 4 else t.val % 5 - 1, t.val / 5] := (by decide +kernel : ∀ t : Fin grid0.N, _)
theorem idx8 : ∀ t : Fin cfg0.N, win0_8.index t = ![0, t.val / 5] := (by decide +kernel : ∀ t : Fin grid0.N, _)
theorem idx9 : ∀ t : Fin cfg0.N, win0_9.index t = ![0, t.val / 5] := (by decide +kernel : ∀ t : Fin grid0.N, _)

theorem t_lt (t : Fin cfg0.N) : t.val < 215 := lt_of_lt_of_eq t.isLt N_0

theorem V0_at (k : Fin 4096) (n : Fin 11008) : V m c main_v0 (ix2 k n) = aW m c (ix3 0 k n) := by
  entry_read
  pointwise
theorem V1_at (k : Fin 4096) (n : Fin 11008) : V m c main_v1 (ix2 k n) = aU m c (ix3 0 k n) := by
  entry_read
  pointwise
theorem V2_at (s : Fin 3) (n : Fin 11008) : V m c main_v2 (ix2 s n) = aC m c (ix3 0 s n) := by
  entry_read
  pointwise
theorem V5_at (r : Fin 128) (n : Fin 11008) : V m c main_v5 (ix2 r n) = aS m c (ix4 0 r 0 n) := by
  entry_read
  pointwise
theorem V7_at (r : Fin 128) (n : Fin 11008) : V m c main_v7 (ix2 r n) = aS m c (ix4 0 r 1 n) := by
  entry_read
  pointwise

theorem blk0_at (t : Fin cfg0.N) (r : Fin 2048) (k : Fin 4096) :
    X0_0 m c t (ix2 r k) = aH m c (ix2 ⟨(2048 * (t.val % 5 - 1) + r.val) % 8320, Nat.mod_lt _ (by decide)⟩ k) := by
  have hr := r.isLt
  rw [show aH m c = V m c main_arg0 from (V_main_arg0 m c).symm]
  unfold X0_0 Window.fill
  rw [dif_pos (moved0_0 t (ix2 r k))]
  blk_ext [iblk, idx0 t]

theorem blk1_at (t : Fin cfg0.N) (r : Fin 128) (k : Fin 4096) :
    iblk m c 1 t (ix2 r k) = aH m c (ix2 ⟨(8192 + r.val) % 8320, Nat.mod_lt _ (by decide)⟩ k) := by
  have hr := r.isLt
  rw [show aH m c = V m c main_arg0 from (V_main_arg0 m c).symm]
  blk_ext [iblk, idx1 t]

theorem blk2_at (t : Fin cfg0.N) (k : Fin 4096) (n : Fin 256) :
    iblk m c 2 (colPt t) (ix2 k n) = aW m c (ix3 0 k ⟨(256 * (t.val / 5) + n.val) % 11008, Nat.mod_lt _ (by decide)⟩) := by
  have hn := n.isLt
  have ht := t_lt t
  rw [← V0_at m c]
  blk_ext [iblk, idx2 t]

theorem blk3_at (t : Fin cfg0.N) (k : Fin 4096) (n : Fin 256) :
    iblk m c 3 (colPt t) (ix2 k n) = aU m c (ix3 0 k ⟨(256 * (t.val / 5) + n.val) % 11008, Nat.mod_lt _ (by decide)⟩) := by
  have hn := n.isLt
  have ht := t_lt t
  rw [← V1_at m c]
  blk_ext [iblk, idx3 t]

theorem blk4_at (t : Fin cfg0.N) (s : Fin 3) (n : Fin 256) :
    iblk m c 4 t (ix2 s n) = TW (aC m c) s (256 * (t.val / 5) + n.val) := by
  have hn := n.isLt
  have ht := t_lt t
  unfold TW
  rw [← V2_at m c]
  blk_ext [iblk, idx4 t]

theorem blk5_at (t : Fin cfg0.N) (r : Fin 128) (n : Fin 256) :
    iblk m c 5 t (ix2 r n) = ST (aS m c) r.val 0 (256 * (t.val / 5) + n.val) := by
  have hn := n.isLt
  have hr := r.isLt
  have ht := t_lt t
  unfold ST
  rw [← V5_at m c]
  blk_ext [iblk, idx5 t]

theorem blk6_at (t : Fin cfg0.N) (r : Fin 128) (n : Fin 256) :
    iblk m c 6 t (ix2 r n) = ST (aS m c) r.val 1 (256 * (t.val / 5) + n.val) := by
  have hn := n.isLt
  have hr := r.isLt
  have ht := t_lt t
  unfold ST
  rw [← V7_at m c]
  blk_ext [iblk, idx6 t]

theorem WG_at (t : Fin cfg0.N) (k : Fin 4096) (n : Fin 256) :
    WG m c t (ix2 k n) = aW m c (ix3 0 k ⟨(256 * (t.val / 5) + n.val) % 11008, Nat.mod_lt _ (by decide)⟩) := by
  rw [← blk2_at]
  unfold WG
  unfold_payloads
  pointwise
theorem WU_at (t : Fin cfg0.N) (k : Fin 4096) (n : Fin 256) :
    WU m c t (ix2 k n) = aU m c (ix3 0 k ⟨(256 * (t.val / 5) + n.val) % 11008, Nat.mod_lt _ (by decide)⟩) := by
  rw [← blk3_at]
  unfold WU
  unfold_payloads
  pointwise

theorem hrows0_at (h : Vec Ideal S2048x4096 .bf16) (r : Fin 512) (k : Fin 4096) : hrows0 h (ix2 r k) = h (ix2 ⟨0 + r.val, by omega⟩ k) := by
  unfold hrows0
  pointwise
theorem hrows1_at (h : Vec Ideal S2048x4096 .bf16) (r : Fin 512) (k : Fin 4096) : hrows1 h (ix2 r k) = h (ix2 ⟨512 + r.val, by omega⟩ k) := by
  unfold hrows1
  pointwise
theorem hrows2_at (h : Vec Ideal S2048x4096 .bf16) (r : Fin 512) (k : Fin 4096) : hrows2 h (ix2 r k) = h (ix2 ⟨1024 + r.val, by omega⟩ k) := by
  unfold hrows2
  pointwise
theorem hrows3_at (h : Vec Ideal S2048x4096 .bf16) (r : Fin 512) (k : Fin 4096) : hrows3 h (ix2 r k) = h (ix2 ⟨1536 + r.val, by omega⟩ k) := by
  unfold hrows3
  pointwise

/-- The product of a quarter's rows with a weight's columns. -/
theorem gq_val (t : Fin cfg0.N) (w : Vec Ideal S4096x256 .bf16) (W : S1x4096x11008.Idx → EReal)
    (hw : ∀ (k : Fin 4096) (n : Fin 256), w (ix2 k n) = W (ix3 0 k ⟨(256 * (t.val / 5) + n.val) % 11008, Nat.mod_lt _ (by decide)⟩))
    (q : ℕ) (x : Vec Ideal S512x4096 .bf16) (hq : q + 512 ≤ 2048) (hx : ∀ (r : Fin 512) (k : Fin 4096), x (ix2 r k) = X0_0 m c t (ix2 ⟨q + r.val, by omega⟩ k))
    (r : Fin 512) (n : Fin 256) :
    gq (F := Ideal) x w (ix2 r n) = GG (aH m c) W (2048 * (t.val % 5 - 1) + q + r.val) (256 * (t.val / 5) + n.val) := by
  rw [gq_at]
  unfold GG
  refine Finset.sum_congr rfl fun k _ => ?_
  rw [hx, blk0_at, hw]
  refine congrArg (fun i => aH m c (ix2 i k) * W _) (Fin.ext ?_)
  dsimp only
  rw [Nat.add_assoc]

theorem g0_at (t : Fin cfg0.N) (r : Fin 512) (n : Fin 256) : gq (F := Ideal) (hrows0 (X0_0 m c t)) (WG m c t) (ix2 r n) = GG (aH m c) (aW m c) (2048 * (t.val % 5 - 1) + 0 + r.val) (256 * (t.val / 5) + n.val) :=
  gq_val m c t _ _ (WG_at m c t) 0 _ (by decide) (hrows0_at _) r n
theorem g1_at (t : Fin cfg0.N) (r : Fin 512) (n : Fin 256) : gq (F := Ideal) (hrows1 (X0_0 m c t)) (WG m c t) (ix2 r n) = GG (aH m c) (aW m c) (2048 * (t.val % 5 - 1) + 512 + r.val) (256 * (t.val / 5) + n.val) :=
  gq_val m c t _ _ (WG_at m c t) 512 _ (by decide) (hrows1_at _) r n
theorem g2_at (t : Fin cfg0.N) (r : Fin 512) (n : Fin 256) : gq (F := Ideal) (hrows2 (X0_0 m c t)) (WG m c t) (ix2 r n) = GG (aH m c) (aW m c) (2048 * (t.val % 5 - 1) + 1024 + r.val) (256 * (t.val / 5) + n.val) :=
  gq_val m c t _ _ (WG_at m c t) 1024 _ (by decide) (hrows2_at _) r n
theorem g3_at (t : Fin cfg0.N) (r : Fin 512) (n : Fin 256) : gq (F := Ideal) (hrows3 (X0_0 m c t)) (WG m c t) (ix2 r n) = GG (aH m c) (aW m c) (2048 * (t.val % 5 - 1) + 1536 + r.val) (256 * (t.val / 5) + n.val) :=
  gq_val m c t _ _ (WG_at m c t) 1536 _ (by decide) (hrows3_at _) r n

theorem last8 (g : Vec Ideal S512x256 .f32) (r : Fin 8) (n : Fin 256) : k0_pay20 (F := Ideal) g (ix2 r n) = g (ix2 ⟨504 + r.val, by omega⟩ n) := by
  unfold_payloads
  pointwise
theorem last8' (g : Vec Ideal S512x256 .f32) (r : Fin 8) (n : Fin 256) : k0_pay4 (F := Ideal) g (ix2 r n) = g (ix2 ⟨504 + r.val, by omega⟩ n) := by
  unfold_payloads
  pointwise
theorem zero8 (r : Fin 8) (n : Fin 256) : k0_pay7 (F := Ideal) (ix2 r n) = 0 := by
  unfold_payloads
  pointwise

theorem TAIL_at (t : Fin cfg0.N) (r : Fin 8) (n : Fin 256) :
    TAIL m c t (ix2 r n) = GG (aH m c) (aW m c) (2048 * (t.val % 5 - 1) + 2040 + r.val) (256 * (t.val / 5) + n.val) := by
  unfold TAIL
  rw [last8, g3_at]
  exact congrArg (fun x => GG (aH m c) (aW m c) x _) (by dsimp only; omega)

/-- The halo before a prompt block. -/
theorem halo_at (t : Fin cfg0.N) (h0 : ¬t.val % 5 = 0) (r : Fin 8) (n : Fin 256) :
    BUF m c (prevPt t) (ix2 r n) = if 8 ≤ 2048 * (t.val % 5 - 1) + 0 + r.val then GG (aH m c) (aW m c) (2048 * (t.val % 5 - 1) + 0 + r.val - 8) (256 * (t.val / 5) + n.val) else 0 := by
  have hr := r.isLt
  have hv : (prevPt t).val = t.val - 1 := rfl
  unfold BUF
  by_cases h1 : t.val % 5 = 1
  · rw [if_pos (by rw [hv]; omega), zero8, if_neg (by omega)]
  · rw [if_neg (by rw [hv]; omega), last8', g3_at, if_pos (by omega), hv, show (t.val - 1) / 5 = t.val / 5 by omega]
    exact congrArg (fun x => GG (aH m c) (aW m c) x _) (by dsimp only; omega)

/-- A prompt block's activations. -/
theorem actB_at (t : Fin cfg0.N) (h0 : ¬t.val % 5 = 0) (r : Fin 2048) (n : Fin 256) :
    ACT m c t (ix2 r n) = AV (aH m c) (aW m c) (aC m c) (aU m c) (aS m c) (2048 * (t.val % 5 - 1) + r.val) (256 * (t.val / 5) + n.val) := by
  unfold ACT
  rw [if_neg h0]
  refine (View.canon_apply_of_pieces (Val := Elt Ideal) (e := .bf16) (fun y : S2048x256.Idx => (AV (aH m c) (aW m c) (aC m c) (aU m c) (aS m c) (2048 * (t.val % 5 - 1) + (y 0).val) (256 * (t.val / 5) + (y 1).val) : EReal)) _ ?_ _ (pcB_cover _ _ _ _ _ _))
  intro p hp x
  unfold pcB at hp
  simp only [List.mem_cons, List.mem_nil_iff, or_false] at hp
  have key : ∀ (q : ℕ) (g u : Vec Ideal S512x256 .f32) (p : Vec Ideal S8x256 .f32) (x0 : Fin 512) (x1 : Fin 256) (R N : ℕ) (hq : q + 512 ≤ 2048)
      (hR : R = q + 1 * x0.val) (hN : N = 0 + 1 * x1.val)
      (hg : ∀ (r : Fin 512) (n : Fin 256), g (ix2 r n) = GG (aH m c) (aW m c) (2048 * (t.val % 5 - 1) + q + r.val) (256 * (t.val / 5) + n.val))
      (hu : ∀ (r : Fin 512) (n : Fin 256), u (ix2 r n) = GG (aH m c) (aU m c) (2048 * (t.val % 5 - 1) + q + r.val) (256 * (t.val / 5) + n.val))
      (hp : ∀ (r : Fin 8) (n : Fin 256), p (ix2 r n) = if 8 ≤ 2048 * (t.val % 5 - 1) + q + r.val then GG (aH m c) (aW m c) (2048 * (t.val % 5 - 1) + q + r.val - 8) (256 * (t.val / 5) + n.val) else 0),
      aq (F := Ideal) g u p (iblk m c 4 t) (ix2 x0 x1) = AV (aH m c) (aW m c) (aC m c) (aU m c) (aS m c) (2048 * (t.val % 5 - 1) + R) (256 * (t.val / 5) + N) := by
    intro q g u p x0 x1 R N hq hR hN hg hu hp
    rw [aq_val (aH m c) (aW m c) (aC m c) (aU m c) (aS m c) g u p (iblk m c 4 t) _ _ (by omega) hg hu hp (blk4_at m c t) x0 x1, hR, hN]
    congr 1 <;> omega
  have hl : ∀ (q : ℕ) (g : Vec Ideal S512x256 .f32)
      (hg : ∀ (r : Fin 512) (n : Fin 256), g (ix2 r n) = GG (aH m c) (aW m c) (2048 * (t.val % 5 - 1) + q + r.val) (256 * (t.val / 5) + n.val)) (r : Fin 8) (n : Fin 256),
      k0_pay20 (F := Ideal) g (ix2 r n) = if 8 ≤ 2048 * (t.val % 5 - 1) + (q + 512) + r.val then GG (aH m c) (aW m c) (2048 * (t.val % 5 - 1) + (q + 512) + r.val - 8) (256 * (t.val / 5) + n.val) else 0 := by
    intro q g hg r n
    rw [last8, hg, if_pos (by omega)]
    exact congrArg (fun x => GG (aH m c) (aW m c) x _) (by dsimp only; omega)
  rcases hp with rfl | rfl | rfl | rfl
  · idx_vars x
    exact key 1536 _ _ _ x0 x1 _ _ (by decide) rfl rfl (g3_at m c t) (gq_val m c t _ _ (WU_at m c t) 1536 _ (by decide) (hrows3_at _)) (hl 1024 _ (g2_at m c t))
  · idx_vars x
    exact key 1024 _ _ _ x0 x1 _ _ (by decide) rfl rfl (g2_at m c t) (gq_val m c t _ _ (WU_at m c t) 1024 _ (by decide) (hrows2_at _)) (hl 512 _ (g1_at m c t))
  · idx_vars x
    exact key 512 _ _ _ x0 x1 _ _ (by decide) rfl rfl (g1_at m c t) (gq_val m c t _ _ (WU_at m c t) 512 _ (by decide) (hrows1_at _)) (hl 0 _ (g0_at m c t))
  · idx_vars x
    exact key 0 _ _ _ x0 x1 _ _ (by decide) rfl rfl (g0_at m c t) (gq_val m c t _ _ (WU_at m c t) 0 _ (by decide) (hrows0_at _)) (halo_at m c t h0)

/-- The samples' gates. -/
theorem GS_at (t : Fin cfg0.N) (r : Fin 128) (n : Fin 256) :
    GS m c t (ix2 r n) = GG (aH m c) (aW m c) (8192 + r.val) (256 * (t.val / 5) + n.val) := by
  unfold GS
  rw [gateS_at]
  unfold GG
  exact Finset.sum_congr rfl fun k _ => Ideal.mul_congr (blk1_at m c _ r k) (blk2_at m c t k n)

theorem actS_val (h : S8320x4096.Idx → EReal) (w : S1x4096x11008.Idx → EReal) (cw : S1x3x11008.Idx → EReal) (wu : S1x4096x11008.Idx → EReal) (st : S1x128x2x11008.Idx → EReal)
    (hs : Vec Ideal S128x4096 .bf16) (x2 x3 : Vec Ideal S4096x256 .f32) (cb : Vec Ideal S3x256 .f32) (s0 s1 : Vec Ideal S128x256 .f32) (J : ℕ)
    (h1 : ∀ (r : Fin 128) (k : Fin 4096), hs (ix2 r k) = h (ix2 ⟨(8192 + r.val) % 8320, Nat.mod_lt _ (by decide)⟩ k))
    (h2 : ∀ (k : Fin 4096) (n : Fin 256), x2 (ix2 k n) = w (ix3 0 k ⟨(J + n.val) % 11008, Nat.mod_lt _ (by decide)⟩))
    (h3 : ∀ (k : Fin 4096) (n : Fin 256), x3 (ix2 k n) = wu (ix3 0 k ⟨(J + n.val) % 11008, Nat.mod_lt _ (by decide)⟩))
    (h4 : ∀ (s : Fin 3) (n : Fin 256), cb (ix2 s n) = TW cw s (J + n.val))
    (h5 : ∀ (r : Fin 128) (n : Fin 256), s0 (ix2 r n) = ST st r.val 0 (J + n.val))
    (h6 : ∀ (r : Fin 128) (n : Fin 256), s1 (ix2 r n) = ST st r.val 1 (J + n.val)) (r : Fin 128) (n : Fin 256) :
    actS (F := Ideal) hs x2 x3 cb s0 s1 (ix2 r n) = AV h w cw wu st (8192 + r.val) (J + n.val) := by
  rw [actS_at]
  unfold AV CV GG
  rw [if_neg (by omega), show 8192 + r.val - 8192 = r.val by omega]
  simp only [h1, h2, h3, h4, h5, h6]

/-- The samples' activations. -/
theorem actA_at (t : Fin cfg0.N) (h0 : t.val % 5 = 0) (R : Fin 2048) (r : Fin 128) (hR : R.val = r.val) (n : Fin 256) :
    ACT m c t (ix2 R n) = AV (aH m c) (aW m c) (aC m c) (aU m c) (aS m c) (8192 + r.val) (256 * (t.val / 5) + n.val) := by
  unfold ACT pcA
  rw [if_pos h0]
  have e : (ix2 R n : S2048x256.Idx) = (Rect.unit (s := S2048x256) ![0, 0] S128x256.size inb_S2048x256_S128x256_0_0).emb (ix2 r n) := by
    funext k
    match k with
    | ⟨0, _⟩ => exact Fin.ext (by simp [ix2, hR])
    | ⟨1, _⟩ => exact Fin.ext (by simp [ix2])
  rw [e, View.canon_cons_emb]
  exact actS_val (aH m c) (aW m c) (aC m c) (aU m c) (aS m c) _ _ _ _ _ _ _ (blk1_at m c t)
    (fun k n => (congrArg (fun t => iblk m c 2 t (ix2 k n)) (colPt_zero t h0)).symm.trans (blk2_at m c t k n))
    (fun k n => (congrArg (fun t => iblk m c 3 t (ix2 k n)) (colPt_zero t h0)).symm.trans (blk3_at m c t k n))
    (blk4_at m c t) (blk5_at m c t) (blk6_at m c t) r n

theorem final7 : (dats m 0 c).arrAt 7 cfg0.N = fun i : S8320x11008.Idx => AV (aH m c) (aW m c) (aC m c) (aU m c) (aS m c) (i 0).val (i 1).val := by
  refine (dats m 0 c).arrAt_eq_of_covers 7 _ (by decide +kernel) fun t hf y => ?_
  have i0 : win0_7.index t 0 = if t.val % 5 = 0 then 4 else t.val % 5 - 1 := by rw [idx7 t]; rfl
  have i1 : win0_7.index t 1 = t.val / 5 := by rw [idx7 t]; rfl
  blk_simp
  rw [after0_7]
  have hy0 : (y 0).val < (cfg0.win 7).xsize (grid0.coords t) 0 := (y 0).isLt
  have hY : ∀ Y : S2048x256.Idx, (Y 0).val = (y 0).val → (Y 1).val = (y 1).val → ACT m c t Y =
      AV (aH m c) (aW m c) (aC m c) (aU m c) (aS m c) (win0_7.index t 0 * 2048 + (y 0).val) (win0_7.index t 1 * 256 + (y 1).val) := by
    intro Y e0 e1
    rw [i0, i1, ← e0, ← e1]
    rw [← e0] at hy0
    idx_vars Y
    by_cases h0 : t.val % 5 = 0
    · rw [xrows_A t h0] at hy0
      rw [if_pos h0, actA_at m c t h0 _ ⟨Y0.val, hy0⟩ rfl]
      congr 1; omega
    · rw [if_neg h0, actB_at m c t h0]
      congr 1 <;> (try dsimp only) <;> omega
  exact hY _ rfl rfl

theorem final8 : (dats m 0 c).arrAt 8 cfg0.N = fun i : S8x11008.Idx => GG (aH m c) (aW m c) (8184 + (i 0).val) (i 1).val := by
  refine (dats m 0 c).arrAt_eq_of_covers 8 _ (by decide +kernel) fun t hf y => ?_
  have h4 : t.val % 5 = 4 := (by decide +kernel : ∀ t : Fin cfg0.N, (cfg0.win 8).flush t = true → t.val % 5 = 4) t hf
  have i0 : win0_8.index t 0 = 0 := by rw [idx8 t]; rfl
  have i1 : win0_8.index t 1 = t.val / 5 := by rw [idx8 t]; rfl
  blk_simp
  idx_vars y
  rw [after0_8, TAIL_at]
  rw [i0, i1, h4]
  congr 1 <;> omega

theorem final9 : (dats m 0 c).arrAt 9 cfg0.N = fun i : S128x11008.Idx => GG (aH m c) (aW m c) (8192 + (i 0).val) (i 1).val := by
  refine (dats m 0 c).arrAt_eq_of_covers 9 _ (by decide +kernel) fun t hf y => ?_
  have i0 : win0_9.index t 0 = 0 := by rw [idx9 t]; rfl
  have i1 : win0_9.index t 1 = t.val / 5 := by rw [idx9 t]; rfl
  blk_simp
  idx_vars y
  rw [after0_9, GS_at]
  rw [i0, i1]
  congr 1 <;> omega

end Cert.Ffn

end
-- ==== Proof.Ffn.Ref.lean ====
/- What the feed-forward half's reference writes, entry by entry. -/
module

public import proofs.«01_k».proof.Proof.Ffn.Entry
public import proofs.«01_k».proof.Proof.Gen.Reference5Ideal.Run

@[expose] public section

set_option maxRecDepth 16384

noncomputable section

namespace Cert.Ffn.Ref

open Idealize.ShloMosaic Idealize.ShloMosaic.TcCoe Cert.Reference5Ideal Cert.Reference5Ideal.Gen
open Idealize.SL.Sem

variable (h : Vec Ideal S8320x4096 .bf16) (w wu : Vec Ideal S1x4096x11008 .f32) (cw : Vec Ideal S1x3x11008 .f32) (st : Vec Ideal S1x128x2x11008 .f32)

/-- The rows times a weight. -/
def prod : FVec Ideal S8320x11008 .f32 :=
  Host.dotGeneral (F := Ideal) (φ₁ := .f32) (φ₂ := .f32) dot_S8320x4096_S4096x11008_S8320x11008_1_0_0_1_n_n none (extf (φ := .bf16) .f32 h bitsLt_bf16_f32) (shapeCast (α := Ideal .f32) S4096x11008 w shapeCasts_S1x4096x11008_S4096x11008)

/-- A tap, as a row. -/
def taps : Vec Ideal S3x11008 .f32 := shapeCast (α := Ideal .f32) S3x11008 cw shapeCasts_S1x3x11008_S3x11008
def tap0 : Vec Ideal S1x11008 .f32 := broadcastInDim S1x11008 ![1] bcast_S11008_S1x11008_1 (shapeCast (α := Ideal .f32) S11008 (extractStridedSlice S1x11008 ![0, 0] (taps cw) slices_S3x11008_S1x11008_0_0) shapeCasts_S1x11008_S11008)
def tap1 : Vec Ideal S1x11008 .f32 := broadcastInDim S1x11008 ![1] bcast_S11008_S1x11008_1 (shapeCast (α := Ideal .f32) S11008 (extractStridedSlice S1x11008 ![1, 0] (taps cw) slices_S3x11008_S1x11008_1_0) shapeCasts_S1x11008_S11008)
def tap2 : Vec Ideal S1x11008 .f32 := broadcastInDim S1x11008 ![1] bcast_S11008_S1x11008_1 (shapeCast (α := Ideal .f32) S11008 (extractStridedSlice S1x11008 ![2, 0] (taps cw) slices_S3x11008_S1x11008_2_0) shapeCasts_S1x11008_S11008)

/-- The prompt's gates after two rows of zeros. -/
def padded (g : FVec Ideal S8320x11008 .f32) : Vec Ideal S8194x11008 .f32 :=
  concatenate S8194x11008 0 [⟨S2x11008, (broadcastInDim S2x11008 ![] bcast_S_S2x11008 (constant (F := Ideal) S_ .f32 0x00000000#32 : Vec Ideal S_ .f32) : Vec Ideal S2x11008 .f32)⟩, ⟨S8192x11008, (extractStridedSlice S8192x11008 ![0, 0] g slices_S8320x11008_S8192x11008_0_0 : Vec Ideal S8192x11008 .f32)⟩] concatenates_S2x11008_S8192x11008_S8194x11008_d0

/-- The prompt's convolution. -/
def convP (g : FVec Ideal S8320x11008 .f32) : FVec Ideal S8192x11008 .f32 :=
  addf (addf (mulf (extractStridedSlice S8192x11008 ![0, 0] (padded g) slices_S8194x11008_S8192x11008_0_0) (broadcastInDim S8192x11008 ![0, 1] bcast_S1x11008_S8192x11008_0_1 (tap0 cw)))
      (mulf (extractStridedSlice S8192x11008 ![1, 0] (padded g) slices_S8194x11008_S8192x11008_1_0) (broadcastInDim S8192x11008 ![0, 1] bcast_S1x11008_S8192x11008_0_1 (tap1 cw))))
    (mulf (extractStridedSlice S8192x11008 ![2, 0] (padded g) slices_S8194x11008_S8192x11008_2_0) (broadcastInDim S8192x11008 ![0, 1] bcast_S1x11008_S8192x11008_0_1 (tap2 cw)))

/-- The samples' convolution. -/
def convS (g : FVec Ideal S8320x11008 .f32) : FVec Ideal S128x11008 .f32 :=
  addf (addf (mulf (shapeCast (α := Ideal .f32) S128x11008 (extractStridedSlice S128x1x11008 ![0, 0, 0] (shapeCast (α := Ideal .f32) S128x2x11008 st shapeCasts_S1x128x2x11008_S128x2x11008) slices_S128x2x11008_S128x1x11008_0_0_0) shapeCasts_S128x1x11008_S128x11008) (broadcastInDim S128x11008 ![0, 1] bcast_S1x11008_S128x11008_0_1 (tap0 cw)))
      (mulf (shapeCast (α := Ideal .f32) S128x11008 (extractStridedSlice S128x1x11008 ![0, 1, 0] (shapeCast (α := Ideal .f32) S128x2x11008 st shapeCasts_S1x128x2x11008_S128x2x11008) slices_S128x2x11008_S128x1x11008_0_1_0) shapeCasts_S128x1x11008_S128x11008) (broadcastInDim S128x11008 ![0, 1] bcast_S1x11008_S128x11008_0_1 (tap1 cw))))
    (mulf (extractStridedSlice S128x11008 ![8192, 0] g slices_S8320x11008_S128x11008_8192_0) (broadcastInDim S128x11008 ![0, 1] bcast_S1x11008_S128x11008_0_1 (tap2 cw)))

/-- The convolved gates of all rows. -/
def conv (g : FVec Ideal S8320x11008 .f32) : FVec Ideal S8320x11008 .f32 :=
  concatenate S8320x11008 0 [⟨S8192x11008, (convP cw g : Vec Ideal S8192x11008 .f32)⟩, ⟨S128x11008, (convS cw st g : Vec Ideal S128x11008 .f32)⟩] concatenates_S8192x11008_S128x11008_S8320x11008_d0

/-- The activations from the convolved gates. -/
def acts (x u : FVec Ideal S8320x11008 .f32) : FVec Ideal S8320x11008 .bf16 :=
  truncf .bf16 (mulf (mulf x (Host.divf (broadcastInDim S8320x11008 ![] bcast_S_S8320x11008 (constant (F := Ideal) S_ .f32 0x3F800000#32 : Vec Ideal S_ .f32)) (addf (broadcastInDim S8320x11008 ![] bcast_S_S8320x11008 (constant (F := Ideal) S_ .f32 0x3F800000#32 : Vec Ideal S_ .f32)) (Host.exp (Host.negf x))))) u) bitsLt_bf16_f32

set_option maxRecDepth 65536 in
theorem res_eq (m : (ℓ : Loc nD τ sig) → Buf (Elt Ideal) ℓ) (c : Dev nD) :
    Cert.Reference5Ideal.Value.res_main_v58 (F := Ideal) m c =
      acts (conv (m ((c.tc : Thread nD τ).loc main_arg2)) (m ((c.tc : Thread nD τ).loc main_arg4)) (prod (m ((c.tc : Thread nD τ).loc main_arg0)) (m ((c.tc : Thread nD τ).loc main_arg1))))
        (prod (m ((c.tc : Thread nD τ).loc main_arg0)) (m ((c.tc : Thread nD τ).loc main_arg3))) := by
  unfold Cert.Reference5Ideal.Value.res_main_v58
  rfl

theorem GG_fin (r : Fin 8320) (j : Fin 11008) : ∑ k : Fin 4096, h (ix2 r k) * w (ix3 0 k j) = GG h w r.val j.val := by
  unfold GG
  refine Finset.sum_congr rfl fun k _ => ?_
  rw [show (⟨r.val % 8320, Nat.mod_lt _ (by decide)⟩ : Fin 8320) = r from Fin.ext (Nat.mod_eq_of_lt r.isLt),
    show (⟨j.val % 11008, Nat.mod_lt _ (by decide)⟩ : Fin 11008) = j from Fin.ext (Nat.mod_eq_of_lt j.isLt)]

theorem TW_fin (s : Fin 3) (j : Fin 11008) : cw (ix3 0 s j) = TW cw s j.val := by
  unfold TW
  rw [show (⟨j.val % 11008, Nat.mod_lt _ (by decide)⟩ : Fin 11008) = j from Fin.ext (Nat.mod_eq_of_lt j.isLt)]

theorem ST_fin (r : Fin 128) (s : Fin 2) (j : Fin 11008) : st (ix4 0 r s j) = ST st r.val s j.val := by
  unfold ST
  rw [show (⟨r.val % 128, Nat.mod_lt _ (by decide)⟩ : Fin 128) = r from Fin.ext (Nat.mod_eq_of_lt r.isLt),
    show (⟨j.val % 11008, Nat.mod_lt _ (by decide)⟩ : Fin 11008) = j from Fin.ext (Nat.mod_eq_of_lt j.isLt)]

set_option maxRecDepth 262144 in
theorem prod_at (r : Fin 8320) (j : Fin 11008) : prod h w (ix2 r j) = GG h w r.val j.val := by
  rw [← GG_fin]
  unfold prod
  pointwise

theorem tap0_at (z : Fin 1) (j : Fin 11008) : tap0 cw (ix2 z j) = TW cw 0 j.val := by
  rw [← TW_fin]
  unfold tap0 taps
  pointwise
theorem tap1_at (z : Fin 1) (j : Fin 11008) : tap1 cw (ix2 z j) = TW cw 1 j.val := by
  rw [← TW_fin]
  unfold tap1 taps
  pointwise
theorem tap2_at (z : Fin 1) (j : Fin 11008) : tap2 cw (ix2 z j) = TW cw 2 j.val := by
  rw [← TW_fin]
  unfold tap2 taps
  pointwise

theorem padded_at (g : FVec Ideal S8320x11008 .f32) (hg : ∀ (r : Fin 8320) (j : Fin 11008), g (ix2 r j) = GG h w r.val j.val) (r : Fin 8194) (j : Fin 11008) :
    padded g (ix2 r j) = if 2 ≤ r.val then GG h w (r.val - 2) j.val else 0 := by
  unfold padded
  pointwise [hg]
  by_cases h2 : r.val < 2
  · rw [dif_pos h2, if_neg (by omega)]
  · rw [dif_neg h2, if_pos (by omega)]

theorem convP_at (g : FVec Ideal S8320x11008 .f32) (hg : ∀ (r : Fin 8320) (j : Fin 11008), g (ix2 r j) = GG h w r.val j.val) (r : Fin 8192) (j : Fin 11008) :
    convP cw g (ix2 r j) = CV h w cw st r.val j.val := by
  unfold convP
  pointwise [padded_at h w g hg, tap0_at, tap1_at, tap2_at]
  unfold CV GP
  rw [if_pos r.isLt, Nat.add_comm 1 r.val, show r.val + 1 - 2 = r.val - 1 by omega]
  by_cases h1 : 1 ≤ r.val
  · rw [if_pos (show 2 ≤ r.val + 1 by omega), if_pos h1]
  · rw [if_neg (show ¬2 ≤ r.val + 1 by omega), if_neg h1]

theorem convS_at (g : FVec Ideal S8320x11008 .f32) (hg : ∀ (r : Fin 8320) (j : Fin 11008), g (ix2 r j) = GG h w r.val j.val) (r : Fin 128) (j : Fin 11008) :
    convS cw st g (ix2 r j) = CV h w cw st (8192 + r.val) j.val := by
  unfold convS
  pointwise [hg, tap0_at, tap1_at, tap2_at]
  unfold CV
  rw [if_neg (by omega), ST_fin st, ST_fin st, show 8192 + r.val - 8192 = r.val by omega]

theorem conv_at (g : FVec Ideal S8320x11008 .f32) (hg : ∀ (r : Fin 8320) (j : Fin 11008), g (ix2 r j) = GG h w r.val j.val) (r : Fin 8320) (j : Fin 11008) :
    conv cw st g (ix2 r j) = CV h w cw st r.val j.val := by
  unfold conv
  pointwise [convP_at h w cw st g hg, convS_at h w cw st g hg]
  by_cases h1 : r.val < 8192
  · rw [dif_pos h1]
  · rw [dif_neg h1]
    exact congrArg (fun x => CV h w cw st x j.val) (by omega)

theorem acts_at (x u : FVec Ideal S8320x11008 .f32) (r : Fin 8320) (j : Fin 11008) :
    acts x u (ix2 r j) = SI (x (ix2 r j)) * u (ix2 r j) := by
  unfold acts
  pointwise [SI]
  rfl

/-- The reference's activations. -/
theorem out_at (r : Fin 8320) (j : Fin 11008) :
    acts (conv cw st (prod h w)) (prod h wu) (ix2 r j) = AV h w cw wu st r.val j.val := by
  rw [acts_at, conv_at h w cw st _ (prod_at h w), prod_at]
  rfl

/-- The prompt's last eight gates, and the samples'. -/
theorem tail_at (g : FVec Ideal S8320x11008 .f32) (r : Fin 8) (j : Fin 11008) :
    extractStridedSlice S8x11008 ![8184, 0] (extractStridedSlice S8192x11008 ![0, 0] g slices_S8320x11008_S8192x11008_0_0) slices_S8192x11008_S8x11008_8184_0 (ix2 r j)
      = g (ix2 ⟨8184 + r.val, by omega⟩ j) := by
  pointwise
theorem samples_at (g : FVec Ideal S8320x11008 .f32) (r : Fin 128) (j : Fin 11008) :
    extractStridedSlice S128x11008 ![8192, 0] g slices_S8320x11008_S128x11008_8192_0 (ix2 r j) = g (ix2 ⟨8192 + r.val, by omega⟩ j) := by
  pointwise

end Cert.Ffn.Ref

end
-- ==== Proof.Ffn.Claim.lean ====
/- The feed-forward half's value claim: its activations and both kept stretches of gates are the reference's. -/
module

public import proofs.«01_k».proof.Defs
public import proofs.«01_k».proof.Proof.Ffn.Value
public import proofs.«01_k».proof.Proof.Ffn.Ref
public import proofs.«01_k».proof.Proof.Gen.Kernel5Ideal
public import proofs.«01_k».proof.Proof.Gen.Reference5Ideal

@[expose] public section

set_option maxRecDepth 16384

noncomputable section

namespace Cert.Ffn

open Idealize.ShloMosaic Idealize.ShloMosaic.TcCoe Idealize.SL.Sem Idealize.ShloMosaic.Pipeline

section
open Cert.Kernel5Ideal Cert.Kernel5Ideal.Gen

variable {F : FTy → Type} [FloatOps F]

/-- The run, its arrays named. -/
theorem run_blocks (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v8_0) = (dats m 0 c).arrAt 7 cfg0.N
      ∧ r.2.mem ((c : Thread nD τ).loc main_v8_1) = (dats m 0 c).arrAt 8 cfg0.N
      ∧ r.2.mem ((c : Thread nD τ).loc main_v8_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 7, (h c).1 8, (h c).1 9,
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩)
    (run_main m ρ)

end

theorem algebraic :
    Cert.algebraic_Kernel5Ideal_Reference5Ideal (hKernel5Ideal := Cert.Kernel5Ideal.Gen.facts) (hReference5Ideal := Cert.Reference5Ideal.Gen.facts) := by
  intro m ρ m' ρ' _ hagree
  refine ⟨fun c => fun i => AV (aH m c) (aW m c) (aC m c) (aU m c) (aS m c) (i 0).val (i 1).val,
    fun c => fun i => GG (aH m c) (aW m c) (8184 + (i 0).val) (i 1).val,
    fun c => fun i => GG (aH m c) (aW m c) (8192 + (i 0).val) (i 1).val,
    (θ_run Cert.Kernel5Ideal.defs _ _).mono (fun r h c => ⟨(h c).1.trans (final7 m c), (h c).2.1.trans (final8 m c), (h c).2.2.1.trans (final9 m c), (h c).2.2.2⟩)
      (run_blocks (F := Ideal) m ρ),
    (θ_run Cert.Reference5Ideal.defs _ _).mono (fun r h c => ⟨(h c).1.trans ?_, (h c).2.1.trans ?_, (h c).2.2.1.trans ?_, (h c).2.2.2⟩)
      (Cert.Reference5Ideal.Value.run (F := Ideal) m' ρ')⟩
  · obtain ⟨h0, h1, h2, h3, h4⟩ := hagree c
    rw [Ref.res_eq, h0, h1, h2, h3, h4]
    funext i
    idx_vars i
    exact Ref.out_at _ _ _ _ _ _ _
  · obtain ⟨h0, h1, h2, h3, h4⟩ := hagree c
    rw [h0, h1]
    funext i
    idx_vars i
    exact (Ref.tail_at (Ref.prod (aH m c) (aW m c)) i0 i1).trans (Ref.prod_at (aH m c) (aW m c) _ i1)
  · obtain ⟨h0, h1, h2, h3, h4⟩ := hagree c
    rw [h0, h1]
    funext i
    idx_vars i
    exact (Ref.samples_at (Ref.prod (aH m c) (aW m c)) i0 i1).trans (Ref.prod_at (aH m c) (aW m c) _ i1)

end Cert.Ffn

end
-- ==== Proof.lean ====
module

public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Defs
public import proofs.«01_k».proof.Proof.Gen.Kernel5Ideal.Frame
public import proofs.«01_k».proof.Proof.Gen.Kernel5.Frame
public import proofs.«01_k».proof.Proof.Gen.Reference5Ideal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Proj.Claim
public import proofs.«01_k».proof.Proof.Down.Claim
public import proofs.«01_k».proof.Proof.Delta.Claim
public import proofs.«01_k».proof.Proof.Ffn.Claim
public import Idealize.ShloMosaic.Adequacy
public import Idealize.ShloMosaic.Init

@[expose] public section

set_option maxRecDepth 16384

noncomputable section

namespace Cert.Proof

open Idealize.ShloMosaic Idealize.SL.Sem

theorem frame_reference :
    Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

theorem frame_reference2 :
    Cert.quiescent_Reference2Ideal (hReference2Ideal := Cert.Reference2Ideal.Gen.facts) := fun m ρ _ =>
  (θ_run (Cert.Reference2Ideal.defs (F := Ideal)) _ _).mono
    (fun r h => ⟨fun c => (h c).2.2, sem_eq_zero_of_no_sems (by decide) r.2⟩)
    (Cert.Reference2Ideal.Value.run (F := Ideal) m ρ)

theorem frame_reference3 :
    Cert.quiescent_Reference3Ideal (hReference3Ideal := Cert.Reference3Ideal.Gen.facts) := fun m ρ _ =>
  (θ_run (Cert.Reference3Ideal.defs (F := Ideal)) _ _).mono
    (fun r h => ⟨fun c => (h c).2, sem_eq_zero_of_no_sems (by decide) r.2⟩)
    (Cert.Reference3Ideal.Value.run (F := Ideal) m ρ)

theorem frame_reference5 :
    Cert.quiescent_Reference5Ideal (hReference5Ideal := Cert.Reference5Ideal.Gen.facts) := fun m ρ _ =>
  (θ_run (Cert.Reference5Ideal.defs (F := Ideal)) _ _).mono
    (fun r h => ⟨fun c => (h c).2.2.2, sem_eq_zero_of_no_sems (by decide) r.2⟩)
    (Cert.Reference5Ideal.Value.run (F := Ideal) m ρ)

/-- The feed-forward call as printed has the idealized one's bodies, so its run is the same. -/
theorem bodies5 : (Cert.Kernel5.defs₀ (F := Bits)) = (Cert.Kernel5Ideal.defs₀ (F := Bits)) := by
  unfold Cert.Kernel5.defs₀ Cert.Kernel5Ideal.defs₀
  refine congrArg (Defs.onTc (nD := 1) (τ := Topo.v7x) (sig := Cert.Kernel5Ideal.sig) (Val := Elt Bits) (Λ := Cert.Kernel5Ideal.Λ₀)) ?_
  funext l x
  match l, x with
  | ⟨0, _⟩, (t, s) => rfl
  | ⟨_ + 1, h⟩, _ => exact absurd h (Nat.not_lt.2 (Nat.le_add_left _ _))

theorem defs5 : (Cert.Kernel5.defs (F := Bits)) = (Cert.Kernel5Ideal.defs (F := Bits)) :=
  congrArg (Pipeline.defs (Cert.Kernel5Ideal.pcfgs (F := Bits))) bodies5

theorem frame_kernel5 : Cert.quiescent_Kernel5 (hKernel5 := Cert.Kernel5.Gen.facts) := fun m ρ _ => by
  rw [defs5]
  exact Cert.Ffn.frame (F := Bits) m ρ

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel5.Gen.facts, Cert.Kernel5Ideal.Gen.facts, Cert.Reference5Ideal.Gen.facts, Cert.Delta.preFacts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ,
    fun m ρ _ => Cert.Kernel2Ideal.Gen.frame m ρ, frame_reference2, fun m ρ _ => frame_reference2 m ρ trivial,
    fun m ρ _ => Cert.Kernel3.Gen.frame m ρ, fun m ρ _ => Cert.Kernel3Ideal.Gen.frame m ρ, frame_reference3,
    frame_kernel5, fun m ρ _ => Cert.Ffn.frame (F := Ideal) m ρ, frame_reference5,
    trivial, Cert.Proj.algebraic, trivial, Cert.Delta.algebraic, trivial, Cert.Down.algebraic,
    trivial, Cert.Ffn.algebraic⟩

end Cert.Proof

end
